-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S128x1x4096 : Shape := ⟨3, ![128, 1, 4096]⟩
abbrev S512x14336 : Shape := ⟨2, ![512, 14336]⟩
abbrev S32x14336 : Shape := ⟨2, ![32, 14336]⟩
abbrev S32x1792 : Shape := ⟨2, ![32, 1792]⟩
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S128x1x4096 .bf16) (main_arg1 : IVec S512x14336 32) (main_arg2 : FVec F S32x14336 .bf16) (main_arg3 : IVec S32x1792 32) (main_arg4 : IVec S4096 32) : IVec S4096 1 :=
  let main_c : IVec S_ 32 := constantI S_ 32 0#32
  let main_v0 : IVec S4096 32 := broadcastInDim S4096 ![] bcast_S_S4096 main_c
  let main_v1 : IVec S4096 1 := cmpi .sge main_arg4 main_v0
  let main_c_0 : IVec S_ 32 := constantI S_ 32 32#32
  let main_v2 : IVec S4096 32 := broadcastInDim S4096 ![] bcast_S_S4096 main_c_0
  let main_v3 : IVec S4096 1 := cmpi .slt main_arg4 main_v2
  let main_v4 : IVec S4096 1 := andi main_v1 main_v3
  main_v4
-- ==== Kernel.lean ====
abbrev S128x1x4096 : Shape := ⟨3, ![128, 1, 4096]⟩
abbrev S512x14336 : Shape := ⟨2, ![512, 14336]⟩
abbrev S32x14336 : Shape := ⟨2, ![32, 14336]⟩
abbrev S32x1792 : Shape := ⟨2, ![32, 1792]⟩
abbrev S4096 : Shape := ⟨1, ![4096]⟩
abbrev S128x4096 : Shape := ⟨2, ![128, 4096]⟩
abbrev S32x128 : Shape := ⟨2, ![32, 128]⟩
abbrev S128x14336 : Shape := ⟨2, ![128, 14336]⟩
abbrev S512x2048 : Shape := ⟨2, ![512, 2048]⟩
abbrev S32x2048 : Shape := ⟨2, ![32, 2048]⟩
abbrev S32x256 : Shape := ⟨2, ![32, 256]⟩
abbrev S128x2048 : Shape := ⟨2, ![128, 2048]⟩
abbrev S4096x128 : Shape := ⟨2, ![4096, 128]⟩
abbrev S1024x128 : Shape := ⟨2, ![1024, 128]⟩
abbrev S128x128 : Shape := ⟨2, ![128, 128]⟩
abbrev S128x128x1 : Shape := ⟨3, ![128, 128, 1]⟩
abbrev S8x128 : Shape := ⟨2, ![8, 128]⟩
abbrev S1x128 : Shape := ⟨2, ![1, 128]⟩
abbrev S8x128x1 : Shape := ⟨3, ![8, 128, 1]⟩
abbrev S128x256 : Shape := ⟨2, ![128, 256]⟩
abbrev S16x128 : Shape := ⟨2, ![16, 128]⟩
abbrev S32x128x1 : Shape := ⟨3, ![32, 128, 1]⟩
abbrev S16x128x1 : Shape := ⟨3, ![16, 128, 1]⟩
abbrev S256x128 : Shape := ⟨2, ![256, 128]⟩
abbrev S256x256 : Shape := ⟨2, ![256, 256]⟩

abbrev nBuf : Space → Nat
  | .hbm => 8
  | .vmem => 13
  | .smem => 0
  | _ => 0

abbrev bufTy : (tb : Table) → Fin (tcTables nBuf tb) → BufTy
  | .hbm, ⟨0, _⟩ => ⟨S128x1x4096, .bf16⟩
  | .hbm, ⟨1, _⟩ => ⟨S512x14336, .i32⟩
  | .hbm, ⟨2, _⟩ => ⟨S32x14336, .bf16⟩
  | .hbm, ⟨3, _⟩ => ⟨S32x1792, .i32⟩
  | .hbm, ⟨4, _⟩ => ⟨S4096, .i32⟩
  | .hbm, ⟨5, _⟩ => ⟨S128x4096, .bf16⟩
  | .hbm, ⟨6, _⟩ => ⟨S32x128, .i32⟩
  | .hbm, ⟨7, _⟩ => ⟨S128x14336, .bf16⟩
  | .local _ .vmem, ⟨0, _⟩ => ⟨S128x4096, .bf16⟩
  | .local _ .vmem, ⟨1, _⟩ => ⟨S32x128, .i32⟩
  | .local _ .vmem, ⟨2, _⟩ => ⟨S512x2048, .i32⟩
  | .local _ .vmem, ⟨3, _⟩ => ⟨S512x2048, .i32⟩
  | .local _ .vmem, ⟨4, _⟩ => ⟨S32x2048, .bf16⟩
  | .local _ .vmem, ⟨5, _⟩ => ⟨S32x2048, .bf16⟩
  | .local _ .vmem, ⟨6, _⟩ => ⟨S32x256, .i32⟩
  | .local _ .vmem, ⟨7, _⟩ => ⟨S32x256, .i32⟩
  | .local _ .vmem, ⟨8, _⟩ => ⟨S128x2048, .bf16⟩
  | .local _ .vmem, ⟨9, _⟩ => ⟨S128x2048, .bf16⟩
  | .local _ .vmem, ⟨10, _⟩ => ⟨S4096x128, .bf16⟩
  | .local _ .vmem, ⟨11, _⟩ => ⟨S1024x128, .i32⟩
  | .local _ .vmem, ⟨12, _⟩ => ⟨S128x128, .i32⟩
  | _, _ => ⟨S128x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_4 : BitVec 32 := 0#32
  let c32_i32 : BitVec 32 := 32#32
  let v28 : BitVec 32 := Scalar.addi c0_i32_4 c32_i32
  let c1_i32_5 : BitVec 32 := 1#32
  ⟨c0_i32_4, v28, c1_i32_5⟩
def k0_mult1 (k0_t1 : Fin k0_t1_loop.trips) : BitVec 32 :=
  let c0_i32_12 : BitVec 32 := 0#32
  let c0_i32_4 : BitVec 32 := 0#32
  let c1_i32_5 : BitVec 32 := 1#32
  let arg10 : BitVec 32 := Scf.iv c0_i32_4 c1_i32_5 k0_t1
  let c1_i32_11 : BitVec 32 := 1#32
  let v31 : BitVec 32 := Scalar.muli arg10 c1_i32_11
  let v32 : BitVec 32 := Scalar.addi c0_i32_12 v31
  let c128_i32 : BitVec 32 := 128#32
  let v33 : BitVec 32 := Scalar.muli v32 c128_i32
  v33
def k0_off1 (k0_t1 : Fin k0_t1_loop.trips) : Fin 2 → Nat :=
  let c0 : Index := 0#32
  let c0_i32_12 : BitVec 32 := 0#32
  let c0_i32_4 : BitVec 32 := 0#32
  let c1_i32_5 : BitVec 32 := 1#32
  let arg10 : BitVec 32 := Scf.iv c0_i32_4 c1_i32_5 k0_t1
  let c1_i32_11 : BitVec 32 := 1#32
  let v31 : BitVec 32 := Scalar.muli arg10 c1_i32_11
  let v32 : BitVec 32 := Scalar.addi c0_i32_12 v31
  let c128_i32 : BitVec 32 := 128#32
  let v33 : BitVec 32 := Scalar.muli v32 c128_i32
  let v34 : BitVec 32 := v33
  let v35 : Index := Scalar.indexCast v34
  ![0, v35.toNat]
def k0_mult2 (k0_t1 : Fin k0_t1_loop.trips) : BitVec 32 :=
  let c0_i32_12 : BitVec 32 := 0#32
  let c0_i32_4 : BitVec 32 := 0#32
  let c1_i32_5 : BitVec 32 := 1#32
  let arg10 : BitVec 32 := Scf.iv c0_i32_4 c1_i32_5 k0_t1
  let c1_i32_11 : BitVec 32 := 1#32
  let v31 : BitVec 32 := Scalar.muli arg10 c1_i32_11
  let v32 : BitVec 32 := Scalar.addi c0_i32_12 v31
  let c128_i32_13 : BitVec 32 := 128#32
  let v43 : BitVec 32 := Scalar.muli v32 c128_i32_13
  v43
def k0_off2 (k0_t1 : Fin k0_t1_loop.trips) : Fin 2 → Nat :=
  let c0_i32_12 : BitVec 32 := 0#32
  let c0_i32_4 : BitVec 32 := 0#32
  let c1_i32_5 : BitVec 32 := 1#32
  let arg10 : BitVec 32 := Scf.iv c0_i32_4 c1_i32_5 k0_t1
  let c1_i32_11 : BitVec 32 := 1#32
  let v31 : BitVec 32 := Scalar.muli arg10 c1_i32_11
  let v32 : BitVec 32 := Scalar.addi c0_i32_12 v31
  let c128_i32_13 : BitVec 32 := 128#32
  let v43 : BitVec 32 := Scalar.muli v32 c128_i32_13
  let v44 : BitVec 32 := v43
  let v45 : Index := Scalar.indexCast v44
  let c0_14 : Index := 0#32
  ![v45.toNat, 0]
@[reducible] def k0_t2_loop : Scf.Loop 32 :=
  let c0_i32_7 : BitVec 32 := 0#32
  let c32_i32_8 : BitVec 32 := 32#32
  let v30 : BitVec 32 := Scalar.addi c0_i32_7 c32_i32_8
  let c1_i32_9 : BitVec 32 := 1#32
  ⟨c0_i32_7, v30, c1_i32_9⟩
def k0_off3 (k0_t2 : Fin k0_t2_loop.trips) : Fin 2 → Nat :=
  let c0_i32_12 : BitVec 32 := 0#32
  let c0_i32_7 : BitVec 32 := 0#32
  let c1_i32_9 : BitVec 32 := 1#32
  let arg10 : BitVec 32 := Scf.iv c0_i32_7 c1_i32_9 k0_t2
  let c1_i32_11 : BitVec 32 := 1#32
  let v31 : BitVec 32 := Scalar.muli arg10 c1_i32_11
  let v32 : BitVec 32 := Scalar.addi c0_i32_12 v31
  let v33 : Index := Scalar.indexCast v32
  let c0 : Index := 0#32
  ![v33.toNat, 0]
def k0_mult3 (k0_t2 : Fin k0_t2_loop.trips) : BitVec 32 :=
  let c0_i32_12 : BitVec 32 := 0#32
  let c0_i32_7 : BitVec 32 := 0#32
  let c1_i32_9 : BitVec 32 := 1#32
  let arg10 : BitVec 32 := Scf.iv c0_i32_7 c1_i32_9 k0_t2
  let c1_i32_11 : BitVec 32 := 1#32
  let v31 : BitVec 32 := Scalar.muli arg10 c1_i32_11
  let v32 : BitVec 32 := Scalar.addi c0_i32_12 v31
  let c32_i32_34 : BitVec 32 := 32#32
  let v97 : BitVec 32 := Scalar.muli v32 c32_i32_34
  v97
def k0_off4 (k0_t2 : Fin k0_t2_loop.trips) (c0_i32_35 : BitVec 32) : Fin 2 → Nat :=
  let c0_i32_12 : BitVec 32 := 0#32
  let c0_i32_7 : BitVec 32 := 0#32
  let c1_i32_9 : BitVec 32 := 1#32
  let arg10 : BitVec 32 := Scf.iv c0_i32_7 c1_i32_9 k0_t2
  let c1_i32_11 : BitVec 32 := 1#32
  let v31 : BitVec 32 := Scalar.muli arg10 c1_i32_11
  let v32 : BitVec 32 := Scalar.addi c0_i32_12 v31
  let c32_i32_34 : BitVec 32 := 32#32
  let v97 : BitVec 32 := Scalar.muli v32 c32_i32_34
  let v98 : BitVec 32 := v97
  let v99 : BitVec 32 := Scalar.addi v98 c0_i32_35
  let v103 : Index := Scalar.indexCast v99
  let c0_36 : Index := 0#32
  ![v103.toNat, 0]
def k0_mult4 (k0_t2 : Fin k0_t2_loop.trips) : BitVec 32 :=
  let c0_i32_12 : BitVec 32 := 0#32
  let c0_i32_7 : BitVec 32 := 0#32
  let c1_i32_9 : BitVec 32 := 1#32
  let arg10 : BitVec 32 := Scf.iv c0_i32_7 c1_i32_9 k0_t2
  let c1_i32_11 : BitVec 32 := 1#32
  let v31 : BitVec 32 := Scalar.muli arg10 c1_i32_11
  let v32 : BitVec 32 := Scalar.addi c0_i32_12 v31
  let c32_i32_57 : BitVec 32 := 32#32
  let v159 : BitVec 32 := Scalar.muli v32 c32_i32_57
  v159
def k0_mult5 (k0_t2 : Fin k0_t2_loop.trips) : BitVec 32 :=
  let c0_i32_12 : BitVec 32 := 0#32
  let c0_i32_7 : BitVec 32 := 0#32
  let c1_i32_9 : BitVec 32 := 1#32
  let arg10 : BitVec 32 := Scf.iv c0_i32_7 c1_i32_9 k0_t2
  let c1_i32_11 : BitVec 32 := 1#32
  let v31 : BitVec 32 := Scalar.muli arg10 c1_i32_11
  let v32 : BitVec 32 := Scalar.addi c0_i32_12 v31
  let c32_i32_79 : BitVec 32 := 32#32
  let v221 : BitVec 32 := Scalar.muli v32 c32_i32_79
  v221
def k0_mult6 (k0_t2 : Fin k0_t2_loop.trips) : BitVec 32 :=
  let c0_i32_12 : BitVec 32 := 0#32
  let c0_i32_7 : BitVec 32 := 0#32
  let c1_i32_9 : BitVec 32 := 1#32
  let arg10 : BitVec 32 := Scf.iv c0_i32_7 c1_i32_9 k0_t2
  let c1_i32_11 : BitVec 32 := 1#32
  let v31 : BitVec 32 := Scalar.muli arg10 c1_i32_11
  let v32 : BitVec 32 := Scalar.addi c0_i32_12 v31
  let c32_i32_102 : BitVec 32 := 32#32
  let v283 : BitVec 32 := Scalar.muli v32 c32_i32_102
  v283
@[reducible] def k0_t3_loop : Scf.Loop 32 :=
  let c0_i32_1 : BitVec 32 := 0#32
  let c16_i32 : BitVec 32 := 16#32
  let v8 : BitVec 32 := Scalar.addi c0_i32_1 c16_i32
  let c1_i32 : BitVec 32 := 1#32
  ⟨c0_i32_1, v8, c1_i32⟩
def k0_mult7 (k0_t3 : Fin k0_t3_loop.trips) : BitVec 32 :=
  let c0_i32_4 : BitVec 32 := 0#32
  let c0_i32_1 : BitVec 32 := 0#32
  let c1_i32 : BitVec 32 := 1#32
  let arg10 : BitVec 32 := Scf.iv c0_i32_1 c1_i32 k0_t3
  let c1_i32_3 : BitVec 32 := 1#32
  let v9 : BitVec 32 := Scalar.muli arg10 c1_i32_3
  let v10 : BitVec 32 := Scalar.addi c0_i32_4 v9
  let c3_i32 : BitVec 32 := 3#32
  let v11 : BitVec 32 := Scalar.shrsi v10 c3_i32
  let c128_i32 : BitVec 32 := 128#32
  let v18 : BitVec 32 := Scalar.muli v11 c128_i32
  v18
def k0_off5 (k0_t3 : Fin k0_t3_loop.trips) : Fin 2 → Nat :=
  let c0 : Index := 0#32
  let c0_i32_4 : BitVec 32 := 0#32
  let c0_i32_1 : BitVec 32 := 0#32
  let c1_i32 : BitVec 32 := 1#32
  let arg10 : BitVec 32 := Scf.iv c0_i32_1 c1_i32 k0_t3
  let c1_i32_3 : BitVec 32 := 1#32
  let v9 : BitVec 32 := Scalar.muli arg10 c1_i32_3
  let v10 : BitVec 32 := Scalar.addi c0_i32_4 v9
  let c3_i32 : BitVec 32 := 3#32
  let v11 : BitVec 32 := Scalar.shrsi v10 c3_i32
  let c128_i32 : BitVec 32 := 128#32
  let v18 : BitVec 32 := Scalar.muli v11 c128_i32
  let v19 : BitVec 32 := v18
  let v20 : Index := Scalar.indexCast v19
  ![0, v20.toNat]
def k0_mult8 (k0_t3 : Fin k0_t3_loop.trips) : BitVec 32 :=
  let c0_i32_4 : BitVec 32 := 0#32
  let c0_i32_1 : BitVec 32 := 0#32
  let c1_i32 : BitVec 32 := 1#32
  let arg10 : BitVec 32 := Scf.iv c0_i32_1 c1_i32 k0_t3
  let c1_i32_3 : BitVec 32 := 1#32
  let v9 : BitVec 32 := Scalar.muli arg10 c1_i32_3
  let v10 : BitVec 32 := Scalar.addi c0_i32_4 v9
  let c3_i32 : BitVec 32 := 3#32
  let v11 : BitVec 32 := Scalar.shrsi v10 c3_i32
  let c128_i32_10 : BitVec 32 := 128#32
  let v32 : BitVec 32 := Scalar.muli v11 c128_i32_10
  v32
def k0_off6 (k0_t3 : Fin k0_t3_loop.trips) : Fin 2 → Nat :=
  let c8 : Index := 8#32
  let c0_i32_4 : BitVec 32 := 0#32
  let c0_i32_1 : BitVec 32 := 0#32
  let c1_i32 : BitVec 32 := 1#32
  let arg10 : BitVec 32 := Scf.iv c0_i32_1 c1_i32 k0_t3
  let c1_i32_3 : BitVec 32 := 1#32
  let v9 : BitVec 32 := Scalar.muli arg10 c1_i32_3
  let v10 : BitVec 32 := Scalar.addi c0_i32_4 v9
  let c3_i32 : BitVec 32 := 3#32
  let v11 : BitVec 32 := Scalar.shrsi v10 c3_i32
  let c128_i32_10 : BitVec 32 := 128#32
  let v32 : BitVec 32 := Scalar.muli v11 c128_i32_10
  let v33 : BitVec 32 := v32
  let v34 : Index := Scalar.indexCast v33
  ![8, v34.toNat]
def k0_mult9 (k0_t3 : Fin k0_t3_loop.trips) : BitVec 32 :=
  let c0_i32_4 : BitVec 32 := 0#32
  let c0_i32_1 : BitVec 32 := 0#32
  let c1_i32 : BitVec 32 := 1#32
  let arg10 : BitVec 32 := Scf.iv c0_i32_1 c1_i32 k0_t3
  let c1_i32_3 : BitVec 32 := 1#32
  let v9 : BitVec 32 := Scalar.muli arg10 c1_i32_3
  let v10 : BitVec 32 := Scalar.addi c0_i32_4 v9
  let c3_i32 : BitVec 32 := 3#32
  let v11 : BitVec 32 := Scalar.shrsi v10 c3_i32
  let c128_i32_12 : BitVec 32 := 128#32
  let v45 : BitVec 32 := Scalar.muli v11 c128_i32_12
  v45
def k0_off7 (k0_t3 : Fin k0_t3_loop.trips) : Fin 2 → Nat :=
  let c16 : Index := 16#32
  let c0_i32_4 : BitVec 32 := 0#32
  let c0_i32_1 : BitVec 32 := 0#32
  let c1_i32 : BitVec 32 := 1#32
  let arg10 : BitVec 32 := Scf.iv c0_i32_1 c1_i32 k0_t3
  let c1_i32_3 : BitVec 32 := 1#32
  let v9 : BitVec 32 := Scalar.muli arg10 c1_i32_3
  let v10 : BitVec 32 := Scalar.addi c0_i32_4 v9
  let c3_i32 : BitVec 32 := 3#32
  let v11 : BitVec 32 := Scalar.shrsi v10 c3_i32
  let c128_i32_12 : BitVec 32 := 128#32
  let v45 : BitVec 32 := Scalar.muli v11 c128_i32_12
  let v46 : BitVec 32 := v45
  let v47 : Index := Scalar.indexCast v46
  ![16, v47.toNat]
def k0_mult10 (k0_t3 : Fin k0_t3_loop.trips) : BitVec 32 :=
  let c0_i32_4 : BitVec 32 := 0#32
  let c0_i32_1 : BitVec 32 := 0#32
  let c1_i32 : BitVec 32 := 1#32
  let arg10 : BitVec 32 := Scf.iv c0_i32_1 c1_i32 k0_t3
  let c1_i32_3 : BitVec 32 := 1#32
  let v9 : BitVec 32 := Scalar.muli arg10 c1_i32_3
  let v10 : BitVec 32 := Scalar.addi c0_i32_4 v9
  let c3_i32 : BitVec 32 := 3#32
  let v11 : BitVec 32 := Scalar.shrsi v10 c3_i32
  let c128_i32_15 : BitVec 32 := 128#32
  let v58 : BitVec 32 := Scalar.muli v11 c128_i32_15
  v58
def k0_off8 (k0_t3 : Fin k0_t3_loop.trips) : Fin 2 → Nat :=
  let c24 : Index := 24#32
  let c0_i32_4 : BitVec 32 := 0#32
  let c0_i32_1 : BitVec 32 := 0#32
  let c1_i32 : BitVec 32 := 1#32
  let arg10 : BitVec 32 := Scf.iv c0_i32_1 c1_i32 k0_t3
  let c1_i32_3 : BitVec 32 := 1#32
  let v9 : BitVec 32 := Scalar.muli arg10 c1_i32_3
  let v10 : BitVec 32 := Scalar.addi c0_i32_4 v9
  let c3_i32 : BitVec 32 := 3#32
  let v11 : BitVec 32 := Scalar.shrsi v10 c3_i32
  let c128_i32_15 : BitVec 32 := 128#32
  let v58 : BitVec 32 := Scalar.muli v11 c128_i32_15
  let v59 : BitVec 32 := v58
  let v60 : Index := Scalar.indexCast v59
  ![24, v60.toNat]
def k0_mult11 (k0_t3 : Fin k0_t3_loop.trips) : BitVec 32 :=
  let c0_i32_4 : BitVec 32 := 0#32
  let c0_i32_1 : BitVec 32 := 0#32
  let c1_i32 : BitVec 32 := 1#32
  let arg10 : BitVec 32 := Scf.iv c0_i32_1 c1_i32 k0_t3
  let c1_i32_3 : BitVec 32 := 1#32
  let v9 : BitVec 32 := Scalar.muli arg10 c1_i32_3
  let v10 : BitVec 32 := Scalar.addi c0_i32_4 v9
  let c8_i32_17 : BitVec 32 := 8#32
  let v73 : BitVec 32 := Scalar.muli v10 c8_i32_17
  v73
def k0_off9 (k0_t3 : Fin k0_t3_loop.trips) : Fin 2 → Nat :=
  let c0_i32_4 : BitVec 32 := 0#32
  let c0_i32_1 : BitVec 32 := 0#32
  let c1_i32 : BitVec 32 := 1#32
  let arg10 : BitVec 32 := Scf.iv c0_i32_1 c1_i32 k0_t3
  let c1_i32_3 : BitVec 32 := 1#32
  let v9 : BitVec 32 := Scalar.muli arg10 c1_i32_3
  let v10 : BitVec 32 := Scalar.addi c0_i32_4 v9
  let c8_i32_17 : BitVec 32 := 8#32
  let v73 : BitVec 32 := Scalar.muli v10 c8_i32_17
  let v74 : BitVec 32 := v73
  let v75 : Index := Scalar.indexCast v74
  let c0_18 : Index := 0#32
  ![v75.toNat, 0]
@[reducible] def k0_t4_loop : Scf.Loop 32 :=
  let c0_i32_3_r0 : BitVec 32 := 0#32
  let c16_i32_4_r0 : BitVec 32 := 16#32
  let v9_r0 : BitVec 32 := Scalar.addi c0_i32_3_r0 c16_i32_4_r0
  let c1_i32_5_r0 : BitVec 32 := 1#32
  ⟨c0_i32_3_r0, v9_r0, c1_i32_5_r0⟩
def k0_mult12 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c256_i32_r0 : BitVec 32 := 256#32
  let v36_r0 : BitVec 32 := Scalar.muli v35_r0 c256_i32_r0
  v36_r0
def k0_off10 (k0_t4 : Fin k0_t4_loop.trips) (c0_i32_17_r0 : BitVec 32) : Fin 2 → Nat :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c256_i32_r0 : BitVec 32 := 256#32
  let v36_r0 : BitVec 32 := Scalar.muli v35_r0 c256_i32_r0
  let v37_r0 : BitVec 32 := v36_r0
  let v38_r0 : BitVec 32 := Scalar.addi v37_r0 c0_i32_17_r0
  let v39_r0 : Index := Scalar.indexCast v38_r0
  let c0_18_r0 : Index := 0#32
  ![v39_r0.toNat, 0]
def k0_mult13 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c64_i32_r0 : BitVec 32 := 64#32
  let v45_r0 : BitVec 32 := Scalar.muli v35_r0 c64_i32_r0
  v45_r0
def k0_off11 (k0_t4 : Fin k0_t4_loop.trips) (c0_i32_20_r0 : BitVec 32) : Fin 2 → Nat :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c64_i32_r0 : BitVec 32 := 64#32
  let v45_r0 : BitVec 32 := Scalar.muli v35_r0 c64_i32_r0
  let v46_r0 : BitVec 32 := v45_r0
  let v47_r0 : BitVec 32 := Scalar.addi v46_r0 c0_i32_20_r0
  let v48_r0 : Index := Scalar.indexCast v47_r0
  let c0_21_r0 : Index := 0#32
  ![v48_r0.toNat, 0]
def k0_mult14 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c64_i32_25_r0 : BitVec 32 := 64#32
  let v69_r0 : BitVec 32 := Scalar.muli v35_r0 c64_i32_25_r0
  v69_r0
def k0_mult15 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c64_i32_35_r0 : BitVec 32 := 64#32
  let v93_r0 : BitVec 32 := Scalar.muli v35_r0 c64_i32_35_r0
  v93_r0
def k0_mult16 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c64_i32_45_r0 : BitVec 32 := 64#32
  let v117_r0 : BitVec 32 := Scalar.muli v35_r0 c64_i32_45_r0
  v117_r0
def k0_mult17 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c64_i32_54_r0 : BitVec 32 := 64#32
  let v141_r0 : BitVec 32 := Scalar.muli v35_r0 c64_i32_54_r0
  v141_r0
def k0_mult18 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c64_i32_63_r0 : BitVec 32 := 64#32
  let v165_r0 : BitVec 32 := Scalar.muli v35_r0 c64_i32_63_r0
  v165_r0
def k0_mult19 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c64_i32_72_r0 : BitVec 32 := 64#32
  let v189_r0 : BitVec 32 := Scalar.muli v35_r0 c64_i32_72_r0
  v189_r0
def k0_mult20 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c64_i32_81_r0 : BitVec 32 := 64#32
  let v213_r0 : BitVec 32 := Scalar.muli v35_r0 c64_i32_81_r0
  v213_r0
def k0_mult21 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_95_r0 : BitVec 32 := 32#32
  let v240_r0 : BitVec 32 := Scalar.muli v35_r0 c32_i32_95_r0
  let c0_i32_96_r0 : BitVec 32 := 0#32
  let v241_r0 : BitVec 32 := Scalar.addi v240_r0 c0_i32_96_r0
  v241_r0
def k0_off12 (k0_t4 : Fin k0_t4_loop.trips) (c0_i32_96_r0 : BitVec 32) : Fin 2 → Nat :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_95_r0 : BitVec 32 := 32#32
  let v240_r0 : BitVec 32 := Scalar.muli v35_r0 c32_i32_95_r0
  let v241_r0 : BitVec 32 := Scalar.addi v240_r0 c0_i32_96_r0
  let v242_r0 : BitVec 32 := v241_r0
  let v243_r0 : Index := Scalar.indexCast v242_r0
  let c0_97_r0 : Index := 0#32
  ![v243_r0.toNat, 0]
def k0_mult22 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_101_r0 : BitVec 32 := 32#32
  let v307_r0 : BitVec 32 := Scalar.muli v35_r0 c32_i32_101_r0
  let c8_i32_102_r0 : BitVec 32 := 8#32
  let v308_r0 : BitVec 32 := Scalar.addi v307_r0 c8_i32_102_r0
  v308_r0
def k0_mult23 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_109_r0 : BitVec 32 := 32#32
  let v374_r0 : BitVec 32 := Scalar.muli v35_r0 c32_i32_109_r0
  let c16_i32_110_r0 : BitVec 32 := 16#32
  let v375_r0 : BitVec 32 := Scalar.addi v374_r0 c16_i32_110_r0
  v375_r0
def k0_mult24 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_117_r0 : BitVec 32 := 32#32
  let v441_r0 : BitVec 32 := Scalar.muli v35_r0 c32_i32_117_r0
  let c24_i32_118_r0 : BitVec 32 := 24#32
  let v442_r0 : BitVec 32 := Scalar.addi v441_r0 c24_i32_118_r0
  v442_r0
def k0_mult25 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_129_r0 : BitVec 32 := 32#32
  let v512_r0 : BitVec 32 := Scalar.muli v35_r0 c32_i32_129_r0
  let c0_i32_130_r0 : BitVec 32 := 0#32
  let v513_r0 : BitVec 32 := Scalar.addi v512_r0 c0_i32_130_r0
  v513_r0
def k0_off13 (k0_t4 : Fin k0_t4_loop.trips) (c0_i32_130_r0 : BitVec 32) : Fin 2 → Nat :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_129_r0 : BitVec 32 := 32#32
  let v512_r0 : BitVec 32 := Scalar.muli v35_r0 c32_i32_129_r0
  let v513_r0 : BitVec 32 := Scalar.addi v512_r0 c0_i32_130_r0
  let v514_r0 : BitVec 32 := v513_r0
  let v515_r0 : Index := Scalar.indexCast v514_r0
  let c128_131_r0 : Index := 128#32
  ![v515_r0.toNat, 128]
def k0_mult26 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_137_r0 : BitVec 32 := 32#32
  let v579_r0 : BitVec 32 := Scalar.muli v35_r0 c32_i32_137_r0
  let c8_i32_138_r0 : BitVec 32 := 8#32
  let v580_r0 : BitVec 32 := Scalar.addi v579_r0 c8_i32_138_r0
  v580_r0
def k0_mult27 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_145_r0 : BitVec 32 := 32#32
  let v646_r0 : BitVec 32 := Scalar.muli v35_r0 c32_i32_145_r0
  let c16_i32_146_r0 : BitVec 32 := 16#32
  let v647_r0 : BitVec 32 := Scalar.addi v646_r0 c16_i32_146_r0
  v647_r0
def k0_mult28 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_153_r0 : BitVec 32 := 32#32
  let v713_r0 : BitVec 32 := Scalar.muli v35_r0 c32_i32_153_r0
  let c24_i32_154_r0 : BitVec 32 := 24#32
  let v714_r0 : BitVec 32 := Scalar.addi v713_r0 c24_i32_154_r0
  v714_r0
def k0_mult29 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_167_r0 : BitVec 32 := 32#32
  let v785_r0 : BitVec 32 := Scalar.muli v35_r0 c32_i32_167_r0
  let c0_i32_168_r0 : BitVec 32 := 0#32
  let v786_r0 : BitVec 32 := Scalar.addi v785_r0 c0_i32_168_r0
  v786_r0
def k0_off14 (k0_t4 : Fin k0_t4_loop.trips) (c0_i32_168_r0 : BitVec 32) : Fin 2 → Nat :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_167_r0 : BitVec 32 := 32#32
  let v785_r0 : BitVec 32 := Scalar.muli v35_r0 c32_i32_167_r0
  let v786_r0 : BitVec 32 := Scalar.addi v785_r0 c0_i32_168_r0
  let v787_r0 : BitVec 32 := v786_r0
  let v788_r0 : Index := Scalar.indexCast v787_r0
  let c256_169_r0 : Index := 256#32
  ![v788_r0.toNat, 256]
def k0_mult30 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_175_r0 : BitVec 32 := 32#32
  let v852_r0 : BitVec 32 := Scalar.muli v35_r0 c32_i32_175_r0
  let c8_i32_176_r0 : BitVec 32 := 8#32
  let v853_r0 : BitVec 32 := Scalar.addi v852_r0 c8_i32_176_r0
  v853_r0
def k0_mult31 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_183_r0 : BitVec 32 := 32#32
  let v919_r0 : BitVec 32 := Scalar.muli v35_r0 c32_i32_183_r0
  let c16_i32_184_r0 : BitVec 32 := 16#32
  let v920_r0 : BitVec 32 := Scalar.addi v919_r0 c16_i32_184_r0
  v920_r0
def k0_mult32 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_191_r0 : BitVec 32 := 32#32
  let v986_r0 : BitVec 32 := Scalar.muli v35_r0 c32_i32_191_r0
  let c24_i32_192_r0 : BitVec 32 := 24#32
  let v987_r0 : BitVec 32 := Scalar.addi v986_r0 c24_i32_192_r0
  v987_r0
def k0_mult33 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_203_r0 : BitVec 32 := 32#32
  let v1057_r0 : BitVec 32 := Scalar.muli v35_r0 c32_i32_203_r0
  let c0_i32_204_r0 : BitVec 32 := 0#32
  let v1058_r0 : BitVec 32 := Scalar.addi v1057_r0 c0_i32_204_r0
  v1058_r0
def k0_off15 (k0_t4 : Fin k0_t4_loop.trips) (c0_i32_204_r0 : BitVec 32) : Fin 2 → Nat :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_203_r0 : BitVec 32 := 32#32
  let v1057_r0 : BitVec 32 := Scalar.muli v35_r0 c32_i32_203_r0
  let v1058_r0 : BitVec 32 := Scalar.addi v1057_r0 c0_i32_204_r0
  let v1059_r0 : BitVec 32 := v1058_r0
  let v1060_r0 : Index := Scalar.indexCast v1059_r0
  let c384_205_r0 : Index := 384#32
  ![v1060_r0.toNat, 384]
def k0_mult34 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_211_r0 : BitVec 32 := 32#32
  let v1124_r0 : BitVec 32 := Scalar.muli v35_r0 c32_i32_211_r0
  let c8_i32_212_r0 : BitVec 32 := 8#32
  let v1125_r0 : BitVec 32 := Scalar.addi v1124_r0 c8_i32_212_r0
  v1125_r0
def k0_mult35 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_219_r0 : BitVec 32 := 32#32
  let v1191_r0 : BitVec 32 := Scalar.muli v35_r0 c32_i32_219_r0
  let c16_i32_220_r0 : BitVec 32 := 16#32
  let v1192_r0 : BitVec 32 := Scalar.addi v1191_r0 c16_i32_220_r0
  v1192_r0
def k0_mult36 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_227_r0 : BitVec 32 := 32#32
  let v1258_r0 : BitVec 32 := Scalar.muli v35_r0 c32_i32_227_r0
  let c24_i32_228_r0 : BitVec 32 := 24#32
  let v1259_r0 : BitVec 32 := Scalar.addi v1258_r0 c24_i32_228_r0
  v1259_r0
def k0_mult37 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_240_r0 : BitVec 32 := 32#32
  let v1330_r0 : BitVec 32 := Scalar.muli v35_r0 c32_i32_240_r0
  let c0_i32_241_r0 : BitVec 32 := 0#32
  let v1331_r0 : BitVec 32 := Scalar.addi v1330_r0 c0_i32_241_r0
  v1331_r0
def k0_off16 (k0_t4 : Fin k0_t4_loop.trips) (c0_i32_241_r0 : BitVec 32) : Fin 2 → Nat :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_240_r0 : BitVec 32 := 32#32
  let v1330_r0 : BitVec 32 := Scalar.muli v35_r0 c32_i32_240_r0
  let v1331_r0 : BitVec 32 := Scalar.addi v1330_r0 c0_i32_241_r0
  let v1332_r0 : BitVec 32 := v1331_r0
  let v1333_r0 : Index := Scalar.indexCast v1332_r0
  let c512_242_r0 : Index := 512#32
  ![v1333_r0.toNat, 512]
def k0_mult38 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_248_r0 : BitVec 32 := 32#32
  let v1397_r0 : BitVec 32 := Scalar.muli v35_r0 c32_i32_248_r0
  let c8_i32_249_r0 : BitVec 32 := 8#32
  let v1398_r0 : BitVec 32 := Scalar.addi v1397_r0 c8_i32_249_r0
  v1398_r0
def k0_mult39 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_256_r0 : BitVec 32 := 32#32
  let v1464_r0 : BitVec 32 := Scalar.muli v35_r0 c32_i32_256_r0
  let c16_i32_257_r0 : BitVec 32 := 16#32
  let v1465_r0 : BitVec 32 := Scalar.addi v1464_r0 c16_i32_257_r0
  v1465_r0
def k0_mult40 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_264_r0 : BitVec 32 := 32#32
  let v1531_r0 : BitVec 32 := Scalar.muli v35_r0 c32_i32_264_r0
  let c24_i32_265_r0 : BitVec 32 := 24#32
  let v1532_r0 : BitVec 32 := Scalar.addi v1531_r0 c24_i32_265_r0
  v1532_r0
def k0_mult41 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_276_r0 : BitVec 32 := 32#32
  let v1602_r0 : BitVec 32 := Scalar.muli v35_r0 c32_i32_276_r0
  let c0_i32_277_r0 : BitVec 32 := 0#32
  let v1603_r0 : BitVec 32 := Scalar.addi v1602_r0 c0_i32_277_r0
  v1603_r0
def k0_off17 (k0_t4 : Fin k0_t4_loop.trips) (c0_i32_277_r0 : BitVec 32) : Fin 2 → Nat :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_276_r0 : BitVec 32 := 32#32
  let v1602_r0 : BitVec 32 := Scalar.muli v35_r0 c32_i32_276_r0
  let v1603_r0 : BitVec 32 := Scalar.addi v1602_r0 c0_i32_277_r0
  let v1604_r0 : BitVec 32 := v1603_r0
  let v1605_r0 : Index := Scalar.indexCast v1604_r0
  let c640_278_r0 : Index := 640#32
  ![v1605_r0.toNat, 640]
def k0_mult42 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_284_r0 : BitVec 32 := 32#32
  let v1669_r0 : BitVec 32 := Scalar.muli v35_r0 c32_i32_284_r0
  let c8_i32_285_r0 : BitVec 32 := 8#32
  let v1670_r0 : BitVec 32 := Scalar.addi v1669_r0 c8_i32_285_r0
  v1670_r0
def k0_mult43 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_292_r0 : BitVec 32 := 32#32
  let v1736_r0 : BitVec 32 := Scalar.muli v35_r0 c32_i32_292_r0
  let c16_i32_293_r0 : BitVec 32 := 16#32
  let v1737_r0 : BitVec 32 := Scalar.addi v1736_r0 c16_i32_293_r0
  v1737_r0
def k0_mult44 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_300_r0 : BitVec 32 := 32#32
  let v1803_r0 : BitVec 32 := Scalar.muli v35_r0 c32_i32_300_r0
  let c24_i32_301_r0 : BitVec 32 := 24#32
  let v1804_r0 : BitVec 32 := Scalar.addi v1803_r0 c24_i32_301_r0
  v1804_r0
def k0_mult45 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_313_r0 : BitVec 32 := 32#32
  let v1875_r0 : BitVec 32 := Scalar.muli v35_r0 c32_i32_313_r0
  let c0_i32_314_r0 : BitVec 32 := 0#32
  let v1876_r0 : BitVec 32 := Scalar.addi v1875_r0 c0_i32_314_r0
  v1876_r0
def k0_off18 (k0_t4 : Fin k0_t4_loop.trips) (c0_i32_314_r0 : BitVec 32) : Fin 2 → Nat :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_313_r0 : BitVec 32 := 32#32
  let v1875_r0 : BitVec 32 := Scalar.muli v35_r0 c32_i32_313_r0
  let v1876_r0 : BitVec 32 := Scalar.addi v1875_r0 c0_i32_314_r0
  let v1877_r0 : BitVec 32 := v1876_r0
  let v1878_r0 : Index := Scalar.indexCast v1877_r0
  let c768_315_r0 : Index := 768#32
  ![v1878_r0.toNat, 768]
def k0_mult46 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_321_r0 : BitVec 32 := 32#32
  let v1942_r0 : BitVec 32 := Scalar.muli v35_r0 c32_i32_321_r0
  let c8_i32_322_r0 : BitVec 32 := 8#32
  let v1943_r0 : BitVec 32 := Scalar.addi v1942_r0 c8_i32_322_r0
  v1943_r0
def k0_mult47 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_329_r0 : BitVec 32 := 32#32
  let v2009_r0 : BitVec 32 := Scalar.muli v35_r0 c32_i32_329_r0
  let c16_i32_330_r0 : BitVec 32 := 16#32
  let v2010_r0 : BitVec 32 := Scalar.addi v2009_r0 c16_i32_330_r0
  v2010_r0
def k0_mult48 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_337_r0 : BitVec 32 := 32#32
  let v2076_r0 : BitVec 32 := Scalar.muli v35_r0 c32_i32_337_r0
  let c24_i32_338_r0 : BitVec 32 := 24#32
  let v2077_r0 : BitVec 32 := Scalar.addi v2076_r0 c24_i32_338_r0
  v2077_r0
def k0_mult49 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_349_r0 : BitVec 32 := 32#32
  let v2147_r0 : BitVec 32 := Scalar.muli v35_r0 c32_i32_349_r0
  let c0_i32_350_r0 : BitVec 32 := 0#32
  let v2148_r0 : BitVec 32 := Scalar.addi v2147_r0 c0_i32_350_r0
  v2148_r0
def k0_off19 (k0_t4 : Fin k0_t4_loop.trips) (c0_i32_350_r0 : BitVec 32) : Fin 2 → Nat :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_349_r0 : BitVec 32 := 32#32
  let v2147_r0 : BitVec 32 := Scalar.muli v35_r0 c32_i32_349_r0
  let v2148_r0 : BitVec 32 := Scalar.addi v2147_r0 c0_i32_350_r0
  let v2149_r0 : BitVec 32 := v2148_r0
  let v2150_r0 : Index := Scalar.indexCast v2149_r0
  let c896_351_r0 : Index := 896#32
  ![v2150_r0.toNat, 896]
def k0_mult50 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_357_r0 : BitVec 32 := 32#32
  let v2214_r0 : BitVec 32 := Scalar.muli v35_r0 c32_i32_357_r0
  let c8_i32_358_r0 : BitVec 32 := 8#32
  let v2215_r0 : BitVec 32 := Scalar.addi v2214_r0 c8_i32_358_r0
  v2215_r0
def k0_mult51 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_365_r0 : BitVec 32 := 32#32
  let v2281_r0 : BitVec 32 := Scalar.muli v35_r0 c32_i32_365_r0
  let c16_i32_366_r0 : BitVec 32 := 16#32
  let v2282_r0 : BitVec 32 := Scalar.addi v2281_r0 c16_i32_366_r0
  v2282_r0
def k0_mult52 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_373_r0 : BitVec 32 := 32#32
  let v2348_r0 : BitVec 32 := Scalar.muli v35_r0 c32_i32_373_r0
  let c24_i32_374_r0 : BitVec 32 := 24#32
  let v2349_r0 : BitVec 32 := Scalar.addi v2348_r0 c24_i32_374_r0
  v2349_r0
def k0_mult53 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_386_r0 : BitVec 32 := 32#32
  let v2420_r0 : BitVec 32 := Scalar.muli v35_r0 c32_i32_386_r0
  let c0_i32_387_r0 : BitVec 32 := 0#32
  let v2421_r0 : BitVec 32 := Scalar.addi v2420_r0 c0_i32_387_r0
  v2421_r0
def k0_off20 (k0_t4 : Fin k0_t4_loop.trips) (c0_i32_387_r0 : BitVec 32) : Fin 2 → Nat :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_386_r0 : BitVec 32 := 32#32
  let v2420_r0 : BitVec 32 := Scalar.muli v35_r0 c32_i32_386_r0
  let v2421_r0 : BitVec 32 := Scalar.addi v2420_r0 c0_i32_387_r0
  let v2422_r0 : BitVec 32 := v2421_r0
  let v2423_r0 : Index := Scalar.indexCast v2422_r0
  let c1024_388_r0 : Index := 1024#32
  ![v2423_r0.toNat, 1024]
def k0_mult54 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_394_r0 : BitVec 32 := 32#32
  let v2487_r0 : BitVec 32 := Scalar.muli v35_r0 c32_i32_394_r0
  let c8_i32_395_r0 : BitVec 32 := 8#32
  let v2488_r0 : BitVec 32 := Scalar.addi v2487_r0 c8_i32_395_r0
  v2488_r0
def k0_mult55 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_402_r0 : BitVec 32 := 32#32
  let v2554_r0 : BitVec 32 := Scalar.muli v35_r0 c32_i32_402_r0
  let c16_i32_403_r0 : BitVec 32 := 16#32
  let v2555_r0 : BitVec 32 := Scalar.addi v2554_r0 c16_i32_403_r0
  v2555_r0
def k0_mult56 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_410_r0 : BitVec 32 := 32#32
  let v2621_r0 : BitVec 32 := Scalar.muli v35_r0 c32_i32_410_r0
  let c24_i32_411_r0 : BitVec 32 := 24#32
  let v2622_r0 : BitVec 32 := Scalar.addi v2621_r0 c24_i32_411_r0
  v2622_r0
def k0_mult57 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_422_r0 : BitVec 32 := 32#32
  let v2692_r0 : BitVec 32 := Scalar.muli v35_r0 c32_i32_422_r0
  let c0_i32_423_r0 : BitVec 32 := 0#32
  let v2693_r0 : BitVec 32 := Scalar.addi v2692_r0 c0_i32_423_r0
  v2693_r0
def k0_off21 (k0_t4 : Fin k0_t4_loop.trips) (c0_i32_423_r0 : BitVec 32) : Fin 2 → Nat :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_422_r0 : BitVec 32 := 32#32
  let v2692_r0 : BitVec 32 := Scalar.muli v35_r0 c32_i32_422_r0
  let v2693_r0 : BitVec 32 := Scalar.addi v2692_r0 c0_i32_423_r0
  let v2694_r0 : BitVec 32 := v2693_r0
  let v2695_r0 : Index := Scalar.indexCast v2694_r0
  let c1152_424_r0 : Index := 1152#32
  ![v2695_r0.toNat, 1152]
def k0_mult58 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_430_r0 : BitVec 32 := 32#32
  let v2759_r0 : BitVec 32 := Scalar.muli v35_r0 c32_i32_430_r0
  let c8_i32_431_r0 : BitVec 32 := 8#32
  let v2760_r0 : BitVec 32 := Scalar.addi v2759_r0 c8_i32_431_r0
  v2760_r0
def k0_mult59 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_438_r0 : BitVec 32 := 32#32
  let v2826_r0 : BitVec 32 := Scalar.muli v35_r0 c32_i32_438_r0
  let c16_i32_439_r0 : BitVec 32 := 16#32
  let v2827_r0 : BitVec 32 := Scalar.addi v2826_r0 c16_i32_439_r0
  v2827_r0
def k0_mult60 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_446_r0 : BitVec 32 := 32#32
  let v2893_r0 : BitVec 32 := Scalar.muli v35_r0 c32_i32_446_r0
  let c24_i32_447_r0 : BitVec 32 := 24#32
  let v2894_r0 : BitVec 32 := Scalar.addi v2893_r0 c24_i32_447_r0
  v2894_r0
def k0_mult61 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_459_r0 : BitVec 32 := 32#32
  let v2965_r0 : BitVec 32 := Scalar.muli v35_r0 c32_i32_459_r0
  let c0_i32_460_r0 : BitVec 32 := 0#32
  let v2966_r0 : BitVec 32 := Scalar.addi v2965_r0 c0_i32_460_r0
  v2966_r0
def k0_off22 (k0_t4 : Fin k0_t4_loop.trips) (c0_i32_460_r0 : BitVec 32) : Fin 2 → Nat :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_459_r0 : BitVec 32 := 32#32
  let v2965_r0 : BitVec 32 := Scalar.muli v35_r0 c32_i32_459_r0
  let v2966_r0 : BitVec 32 := Scalar.addi v2965_r0 c0_i32_460_r0
  let v2967_r0 : BitVec 32 := v2966_r0
  let v2968_r0 : Index := Scalar.indexCast v2967_r0
  let c1280_461_r0 : Index := 1280#32
  ![v2968_r0.toNat, 1280]
def k0_mult62 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_467_r0 : BitVec 32 := 32#32
  let v3032_r0 : BitVec 32 := Scalar.muli v35_r0 c32_i32_467_r0
  let c8_i32_468_r0 : BitVec 32 := 8#32
  let v3033_r0 : BitVec 32 := Scalar.addi v3032_r0 c8_i32_468_r0
  v3033_r0
def k0_mult63 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_475_r0 : BitVec 32 := 32#32
  let v3099_r0 : BitVec 32 := Scalar.muli v35_r0 c32_i32_475_r0
  let c16_i32_476_r0 : BitVec 32 := 16#32
  let v3100_r0 : BitVec 32 := Scalar.addi v3099_r0 c16_i32_476_r0
  v3100_r0
def k0_mult64 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_483_r0 : BitVec 32 := 32#32
  let v3166_r0 : BitVec 32 := Scalar.muli v35_r0 c32_i32_483_r0
  let c24_i32_484_r0 : BitVec 32 := 24#32
  let v3167_r0 : BitVec 32 := Scalar.addi v3166_r0 c24_i32_484_r0
  v3167_r0
def k0_mult65 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_495_r0 : BitVec 32 := 32#32
  let v3237_r0 : BitVec 32 := Scalar.muli v35_r0 c32_i32_495_r0
  let c0_i32_496_r0 : BitVec 32 := 0#32
  let v3238_r0 : BitVec 32 := Scalar.addi v3237_r0 c0_i32_496_r0
  v3238_r0
def k0_off23 (k0_t4 : Fin k0_t4_loop.trips) (c0_i32_496_r0 : BitVec 32) : Fin 2 → Nat :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_495_r0 : BitVec 32 := 32#32
  let v3237_r0 : BitVec 32 := Scalar.muli v35_r0 c32_i32_495_r0
  let v3238_r0 : BitVec 32 := Scalar.addi v3237_r0 c0_i32_496_r0
  let v3239_r0 : BitVec 32 := v3238_r0
  let v3240_r0 : Index := Scalar.indexCast v3239_r0
  let c1408_497_r0 : Index := 1408#32
  ![v3240_r0.toNat, 1408]
def k0_mult66 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_503_r0 : BitVec 32 := 32#32
  let v3304_r0 : BitVec 32 := Scalar.muli v35_r0 c32_i32_503_r0
  let c8_i32_504_r0 : BitVec 32 := 8#32
  let v3305_r0 : BitVec 32 := Scalar.addi v3304_r0 c8_i32_504_r0
  v3305_r0
def k0_mult67 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_511_r0 : BitVec 32 := 32#32
  let v3371_r0 : BitVec 32 := Scalar.muli v35_r0 c32_i32_511_r0
  let c16_i32_512_r0 : BitVec 32 := 16#32
  let v3372_r0 : BitVec 32 := Scalar.addi v3371_r0 c16_i32_512_r0
  v3372_r0
def k0_mult68 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_519_r0 : BitVec 32 := 32#32
  let v3438_r0 : BitVec 32 := Scalar.muli v35_r0 c32_i32_519_r0
  let c24_i32_520_r0 : BitVec 32 := 24#32
  let v3439_r0 : BitVec 32 := Scalar.addi v3438_r0 c24_i32_520_r0
  v3439_r0
def k0_mult69 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_532_r0 : BitVec 32 := 32#32
  let v3510_r0 : BitVec 32 := Scalar.muli v35_r0 c32_i32_532_r0
  let c0_i32_533_r0 : BitVec 32 := 0#32
  let v3511_r0 : BitVec 32 := Scalar.addi v3510_r0 c0_i32_533_r0
  v3511_r0
def k0_off24 (k0_t4 : Fin k0_t4_loop.trips) (c0_i32_533_r0 : BitVec 32) : Fin 2 → Nat :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_532_r0 : BitVec 32 := 32#32
  let v3510_r0 : BitVec 32 := Scalar.muli v35_r0 c32_i32_532_r0
  let v3511_r0 : BitVec 32 := Scalar.addi v3510_r0 c0_i32_533_r0
  let v3512_r0 : BitVec 32 := v3511_r0
  let v3513_r0 : Index := Scalar.indexCast v3512_r0
  let c1536_534_r0 : Index := 1536#32
  ![v3513_r0.toNat, 1536]
def k0_mult70 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_540_r0 : BitVec 32 := 32#32
  let v3577_r0 : BitVec 32 := Scalar.muli v35_r0 c32_i32_540_r0
  let c8_i32_541_r0 : BitVec 32 := 8#32
  let v3578_r0 : BitVec 32 := Scalar.addi v3577_r0 c8_i32_541_r0
  v3578_r0
def k0_mult71 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_548_r0 : BitVec 32 := 32#32
  let v3644_r0 : BitVec 32 := Scalar.muli v35_r0 c32_i32_548_r0
  let c16_i32_549_r0 : BitVec 32 := 16#32
  let v3645_r0 : BitVec 32 := Scalar.addi v3644_r0 c16_i32_549_r0
  v3645_r0
def k0_mult72 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_556_r0 : BitVec 32 := 32#32
  let v3711_r0 : BitVec 32 := Scalar.muli v35_r0 c32_i32_556_r0
  let c24_i32_557_r0 : BitVec 32 := 24#32
  let v3712_r0 : BitVec 32 := Scalar.addi v3711_r0 c24_i32_557_r0
  v3712_r0
def k0_mult73 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_568_r0 : BitVec 32 := 32#32
  let v3782_r0 : BitVec 32 := Scalar.muli v35_r0 c32_i32_568_r0
  let c0_i32_569_r0 : BitVec 32 := 0#32
  let v3783_r0 : BitVec 32 := Scalar.addi v3782_r0 c0_i32_569_r0
  v3783_r0
def k0_off25 (k0_t4 : Fin k0_t4_loop.trips) (c0_i32_569_r0 : BitVec 32) : Fin 2 → Nat :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_568_r0 : BitVec 32 := 32#32
  let v3782_r0 : BitVec 32 := Scalar.muli v35_r0 c32_i32_568_r0
  let v3783_r0 : BitVec 32 := Scalar.addi v3782_r0 c0_i32_569_r0
  let v3784_r0 : BitVec 32 := v3783_r0
  let v3785_r0 : Index := Scalar.indexCast v3784_r0
  let c1664_570_r0 : Index := 1664#32
  ![v3785_r0.toNat, 1664]
def k0_mult74 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_576_r0 : BitVec 32 := 32#32
  let v3849_r0 : BitVec 32 := Scalar.muli v35_r0 c32_i32_576_r0
  let c8_i32_577_r0 : BitVec 32 := 8#32
  let v3850_r0 : BitVec 32 := Scalar.addi v3849_r0 c8_i32_577_r0
  v3850_r0
def k0_mult75 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_584_r0 : BitVec 32 := 32#32
  let v3916_r0 : BitVec 32 := Scalar.muli v35_r0 c32_i32_584_r0
  let c16_i32_585_r0 : BitVec 32 := 16#32
  let v3917_r0 : BitVec 32 := Scalar.addi v3916_r0 c16_i32_585_r0
  v3917_r0
def k0_mult76 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_592_r0 : BitVec 32 := 32#32
  let v3983_r0 : BitVec 32 := Scalar.muli v35_r0 c32_i32_592_r0
  let c24_i32_593_r0 : BitVec 32 := 24#32
  let v3984_r0 : BitVec 32 := Scalar.addi v3983_r0 c24_i32_593_r0
  v3984_r0
def k0_mult77 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_605_r0 : BitVec 32 := 32#32
  let v4055_r0 : BitVec 32 := Scalar.muli v35_r0 c32_i32_605_r0
  let c0_i32_606_r0 : BitVec 32 := 0#32
  let v4056_r0 : BitVec 32 := Scalar.addi v4055_r0 c0_i32_606_r0
  v4056_r0
def k0_off26 (k0_t4 : Fin k0_t4_loop.trips) (c0_i32_606_r0 : BitVec 32) : Fin 2 → Nat :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_605_r0 : BitVec 32 := 32#32
  let v4055_r0 : BitVec 32 := Scalar.muli v35_r0 c32_i32_605_r0
  let v4056_r0 : BitVec 32 := Scalar.addi v4055_r0 c0_i32_606_r0
  let v4057_r0 : BitVec 32 := v4056_r0
  let v4058_r0 : Index := Scalar.indexCast v4057_r0
  let c1792_607_r0 : Index := 1792#32
  ![v4058_r0.toNat, 1792]
def k0_mult78 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_613_r0 : BitVec 32 := 32#32
  let v4122_r0 : BitVec 32 := Scalar.muli v35_r0 c32_i32_613_r0
  let c8_i32_614_r0 : BitVec 32 := 8#32
  let v4123_r0 : BitVec 32 := Scalar.addi v4122_r0 c8_i32_614_r0
  v4123_r0
def k0_mult79 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_621_r0 : BitVec 32 := 32#32
  let v4189_r0 : BitVec 32 := Scalar.muli v35_r0 c32_i32_621_r0
  let c16_i32_622_r0 : BitVec 32 := 16#32
  let v4190_r0 : BitVec 32 := Scalar.addi v4189_r0 c16_i32_622_r0
  v4190_r0
def k0_mult80 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_629_r0 : BitVec 32 := 32#32
  let v4256_r0 : BitVec 32 := Scalar.muli v35_r0 c32_i32_629_r0
  let c24_i32_630_r0 : BitVec 32 := 24#32
  let v4257_r0 : BitVec 32 := Scalar.addi v4256_r0 c24_i32_630_r0
  v4257_r0
def k0_mult81 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_641_r0 : BitVec 32 := 32#32
  let v4327_r0 : BitVec 32 := Scalar.muli v35_r0 c32_i32_641_r0
  let c0_i32_642_r0 : BitVec 32 := 0#32
  let v4328_r0 : BitVec 32 := Scalar.addi v4327_r0 c0_i32_642_r0
  v4328_r0
def k0_off27 (k0_t4 : Fin k0_t4_loop.trips) (c0_i32_642_r0 : BitVec 32) : Fin 2 → Nat :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_641_r0 : BitVec 32 := 32#32
  let v4327_r0 : BitVec 32 := Scalar.muli v35_r0 c32_i32_641_r0
  let v4328_r0 : BitVec 32 := Scalar.addi v4327_r0 c0_i32_642_r0
  let v4329_r0 : BitVec 32 := v4328_r0
  let v4330_r0 : Index := Scalar.indexCast v4329_r0
  let c1920_643_r0 : Index := 1920#32
  ![v4330_r0.toNat, 1920]
def k0_mult82 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_649_r0 : BitVec 32 := 32#32
  let v4394_r0 : BitVec 32 := Scalar.muli v35_r0 c32_i32_649_r0
  let c8_i32_650_r0 : BitVec 32 := 8#32
  let v4395_r0 : BitVec 32 := Scalar.addi v4394_r0 c8_i32_650_r0
  v4395_r0
def k0_mult83 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_657_r0 : BitVec 32 := 32#32
  let v4461_r0 : BitVec 32 := Scalar.muli v35_r0 c32_i32_657_r0
  let c16_i32_658_r0 : BitVec 32 := 16#32
  let v4462_r0 : BitVec 32 := Scalar.addi v4461_r0 c16_i32_658_r0
  v4462_r0
def k0_mult84 (k0_t4 : Fin k0_t4_loop.trips) : BitVec 32 :=
  let c0_i32_16_r0 : BitVec 32 := 0#32
  let c0_i32_3_r0 : BitVec 32 := 0#32
  let c1_i32_5_r0 : BitVec 32 := 1#32
  let arg10_r0 : BitVec 32 := Scf.iv c0_i32_3_r0 c1_i32_5_r0 k0_t4
  let c1_i32_15_r0 : BitVec 32 := 1#32
  let v34_r0 : BitVec 32 := Scalar.muli arg10_r0 c1_i32_15_r0
  let v35_r0 : BitVec 32 := Scalar.addi c0_i32_16_r0 v34_r0
  let c32_i32_665_r0 : BitVec 32 := 32#32
  let v4528_r0 : BitVec 32 := Scalar.muli v35_r0 c32_i32_665_r0
  let c24_i32_666_r0 : BitVec 32 := 24#32
  let v4529_r0 : BitVec 32 := Scalar.addi v4528_r0 c24_i32_666_r0
  v4529_r0
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S128x1x4096 : Shape := ⟨3, ![128, 1, 4096]⟩
abbrev S512x14336 : Shape := ⟨2, ![512, 14336]⟩
abbrev S32x14336 : Shape := ⟨2, ![32, 14336]⟩
abbrev S32x1792 : Shape := ⟨2, ![32, 1792]⟩
abbrev S4096 : Shape := ⟨1, ![4096]⟩
abbrev S8 : Shape := ⟨1, ![8]⟩
abbrev S_ : Shape := ⟨0, ![]⟩
abbrev S32x1792x1 : Shape := ⟨3, ![32, 1792, 1]⟩
abbrev S1x1x8 : Shape := ⟨3, ![1, 1, 8]⟩
abbrev S32x1792x8 : Shape := ⟨3, ![32, 1792, 8]⟩
abbrev S512x1x14336 : Shape := ⟨3, ![512, 1, 14336]⟩
abbrev S8x1 : Shape := ⟨2, ![8, 1]⟩
abbrev S1x8x1 : Shape := ⟨3, ![1, 8, 1]⟩
abbrev S512x8x14336 : Shape := ⟨3, ![512, 8, 14336]⟩
abbrev S4096x14336 : Shape := ⟨2, ![4096, 14336]⟩
abbrev S4096x1 : Shape := ⟨2, ![4096, 1]⟩
abbrev S128x4096 : Shape := ⟨2, ![128, 4096]⟩
abbrev S128x14336 : Shape := ⟨2, ![128, 14336]⟩

abbrev nBuf : Space → Nat
  | .hbm => 53
  | .vmem => 0
  | .smem => 0
  | _ => 0

abbrev bufTy : (tb : Table) → Fin (tcTables nBuf tb) → BufTy
  | .hbm, ⟨0, _⟩ => ⟨S128x1x4096, .bf16⟩
  | .hbm, ⟨1, _⟩ => ⟨S512x14336, .i32⟩
  | .hbm, ⟨2, _⟩ => ⟨S32x14336, .bf16⟩
  | .hbm, ⟨3, _⟩ => ⟨S32x1792, .i32⟩
  | .hbm, ⟨4, _⟩ => ⟨S4096, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S32x1792x1, .i32⟩
  | .hbm, ⟨10, _⟩ => ⟨S1x1x8, .i32⟩
  | .hbm, ⟨11, _⟩ => ⟨S32x1792x8, .i32⟩
  | .hbm, ⟨12, _⟩ => ⟨S32x1792x8, .i32⟩
  | .hbm, ⟨13, _⟩ => ⟨S32x1792x8, .i32⟩
  | .hbm, ⟨14, _⟩ => ⟨S_, .i32⟩
  | .hbm, ⟨15, _⟩ => ⟨S32x1792x8, .i32⟩
  | .hbm, ⟨16, _⟩ => ⟨S32x1792x8, .i32⟩
  | .hbm, ⟨17, _⟩ => ⟨S32x14336, .i32⟩
  | .hbm, ⟨18, _⟩ => ⟨S32x14336, .bf16⟩
  | .hbm, ⟨19, _⟩ => ⟨S512x1x14336, .i32⟩
  | .hbm, ⟨20, _⟩ => ⟨S8x1, .i32⟩
  | .hbm, ⟨21, _⟩ => ⟨S1x8x1, .i32⟩
  | .hbm, ⟨22, _⟩ => ⟨S512x8x14336, .i32⟩
  | .hbm, ⟨23, _⟩ => ⟨S512x8x14336, .i32⟩
  | .hbm, ⟨24, _⟩ => ⟨S512x8x14336, .i32⟩
  | .hbm, ⟨25, _⟩ => ⟨S_, .i32⟩
  | .hbm, ⟨26, _⟩ => ⟨S512x8x14336, .i32⟩
  | .hbm, ⟨27, _⟩ => ⟨S512x8x14336, .i32⟩
  | .hbm, ⟨28, _⟩ => ⟨S4096x14336, .i32⟩
  | .hbm, ⟨29, _⟩ => ⟨S4096x14336, .bf16⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096x1, .i32⟩
  | .hbm, ⟨38, _⟩ => ⟨S4096x14336, .bf16⟩
  | .hbm, ⟨39, _⟩ => ⟨S4096x14336, .bf16⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096x1, .i32⟩
  | .hbm, ⟨48, _⟩ => ⟨S4096x14336, .bf16⟩
  | .hbm, ⟨49, _⟩ => ⟨S4096x14336, .bf16⟩
  | .hbm, ⟨50, _⟩ => ⟨S128x4096, .bf16⟩
  | .hbm, ⟨51, _⟩ => ⟨S128x14336, .f32⟩
  | .hbm, ⟨52, _⟩ => ⟨S128x14336, .bf16⟩
  | _, _ => ⟨S128x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Proof.KernelStep.lean ====
/-
  ONE TRIP of the loop over the blocks of 256 contracted rows, as a function of what the buffers hold: the
  tile of weights the trip builds for each of the eight groups of 256 output columns, and what the trip
  leaves in the matrix unit.
-/
module

public import proofs.«01_k».proof.Proof.Gen.Kernel.Frame
public import proofs.«01_k».proof.Proof.Gen.Kernel.Skeleton
public import proofs.«01_k».proof.Proof.Gen.Kernel.Loops
public import Idealize.ShloMosaic.Lib.Claim
public import Idealize.ShloMosaic.Lib.Mxu.Lemmas
public import Idealize.ShloMosaic.Lib.Mxu.Walk

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A window of 32 rows -/

/-- The stored pattern of a window, one signed number per row. -/
def patRows (p : IVec S8x128 32) : IVec S32x128 32 :=
  extsi 32 (bitcast S32x128 8 p bitcasts_S8x128_w32_S32x128_w8) natLt_8_32

/-- The group of each row of a window, read off its stored pattern. -/
def patGroup (p : IVec S8x128 32) : IVec S32x128 32 :=
  addi (muli (broadcast S32x128 8#32) (andi (patRows p) (broadcast S32x128 3#32))) (shrsi (patRows p) (broadcast S32x128 2#32))

/-- The same, the upper and the lower sixteen rows. -/
def patGroupHi (p : IVec S8x128 32) : IVec S16x128 32 := extractStridedSlice S16x128 ![0, 0] (patGroup p) slices_S32x128_o0_0_S16x128
def patGroupLo (p : IVec S8x128 32) : IVec S16x128 32 := extractStridedSlice S16x128 ![16, 0] (patGroup p) slices_S32x128_o16_0_S16x128

/-- The scale of each of sixteen rows: row `g` of the table whose first half is `s0` and second half `s1`. -/
def scaleRows (s0 s1 : FVec F S16x128 .bf16) (g : IVec S16x128 32) : FVec F S16x128 .bf16 :=
  select (cmpi .slt g (broadcast S16x128 16#32))
    (dynamicGather 0 s0 (shapeCast S16x128 (shapeCast S16x128x1 (andi g (broadcast S16x128 15#32)) shapeCasts_S16x128_S16x128x1) shapeCasts_S16x128x1_S16x128))
    (dynamicGather 0 s1 (shapeCast S16x128 (shapeCast S16x128x1 (andi g (broadcast S16x128 15#32)) shapeCasts_S16x128_S16x128x1) shapeCasts_S16x128x1_S16x128))

/-- The 4-bit codes of a window, four to a word: the even nibbles of the packed words, and the odd ones. -/
def evenCodes (q : IVec S8x128 32) : IVec S8x128 32 := andi q (broadcast S8x128 252645135#32)
def oddCodes (q : IVec S8x128 32) : IVec S8x128 32 := andi (shrui q (broadcast S8x128 4#32)) (broadcast S8x128 252645135#32)

/-- Code minus zero point, of each row of a window. -/
def diffRows (codes z p : IVec S8x128 32) : FVec F S32x128 .bf16 :=
  sitofp .bf16 (bitcast S32x128 8 (xori (addi codes (bitcast S8x128 32 (dynamicGather 0 (bitcast S32x128 8 z bitcasts_S8x128_w32_S32x128_w8)
    (shapeCast S32x128 (shapeCast S32x128x1 (patRows p) shapeCasts_S32x128_S32x128x1) shapeCasts_S32x128x1_S32x128)) bitcasts_S32x128_w8_S8x128_w32))
    (broadcast S8x128 2155905152#32)) bitcasts_S8x128_w32_S32x128_w8)

/-- The weights of a window: the difference times the scale, the upper and the lower sixteen rows. -/
def wHi (codes z p : IVec S8x128 32) (s0 s1 : FVec F S16x128 .bf16) : FVec F S16x128 .bf16 :=
  mulf (extractStridedSlice S16x128 ![0, 0] (diffRows (F := F) codes z p) slices_S32x128_o0_0_S16x128) (scaleRows s0 s1 (patGroupHi p))
def wLo (codes z p : IVec S8x128 32) (s0 s1 : FVec F S16x128 .bf16) : FVec F S16x128 .bf16 :=
  mulf (extractStridedSlice S16x128 ![16, 0] (diffRows (F := F) codes z p) slices_S32x128_o16_0_S16x128) (scaleRows s0 s1 (patGroupLo p))

/-- The 256 rows by 128 columns of weights one trip builds for one chunk of columns: eight windows. -/
def chunkW (z : IVec S8x128 32) (s0 s1 : FVec F S16x128 .bf16) (q0 q1 q2 q3 p0 p1 p2 p3 p4 p5 p6 p7 : IVec S8x128 32) : FVec F S256x128 .bf16 :=
  concatenate S256x128 0 [⟨S16x128, wHi (evenCodes q0) z p0 s0 s1⟩, ⟨S16x128, wLo (evenCodes q0) z p0 s0 s1⟩, ⟨S16x128, wHi (oddCodes q0) z p1 s0 s1⟩, ⟨S16x128, wLo (oddCodes q0) z p1 s0 s1⟩, ⟨S16x128, wHi (evenCodes q1) z p2 s0 s1⟩, ⟨S16x128, wLo (evenCodes q1) z p2 s0 s1⟩, ⟨S16x128, wHi (oddCodes q1) z p3 s0 s1⟩, ⟨S16x128, wLo (oddCodes q1) z p3 s0 s1⟩, ⟨S16x128, wHi (evenCodes q2) z p4 s0 s1⟩, ⟨S16x128, wLo (evenCodes q2) z p4 s0 s1⟩, ⟨S16x128, wHi (oddCodes q2) z p5 s0 s1⟩, ⟨S16x128, wLo (oddCodes q2) z p5 s0 s1⟩, ⟨S16x128, wHi (evenCodes q3) z p6 s0 s1⟩, ⟨S16x128, wLo (evenCodes q3) z p6 s0 s1⟩, ⟨S16x128, wHi (oddCodes q3) z p7 s0 s1⟩, ⟨S16x128, wLo (oddCodes q3) z p7 s0 s1⟩] concatenates_S16x128_S16x128_S16x128_S16x128_S16x128_S16x128_S16x128_S16x128_S16x128_S16x128_S16x128_S16x128_S16x128_S16x128_S16x128_S16x128_S256x128_d0

/-- Two chunks side by side: one tile of the matrix unit. -/
def tileW (w0 w1 : FVec F S256x128 .bf16) : FVec F S256x256 .bf16 :=
  concatenate S256x256 1 [⟨S256x128, w0⟩, ⟨S256x128, w1⟩] concatenates_S256x128_S256x128_S256x256_d1

/-! ## What a trip reads -/

/-- The trip's left operand: two blocks of 128 rows of the rearranged `x`, side by side. -/
def lhsAt (x7 : Vec F S4096x128 .bf16) (k : Fin k0_t4_loop.trips) : FVec F S128x256 .bf16 :=
  concatenate S128x256 1
    [⟨S128x128, View.ld x7 (Rect.unit (s := S4096x128) (k0_off10 k 0#32) S128x128.size (k0_off10_inb k 0))⟩,
     ⟨S128x128, View.ld x7 (Rect.unit (s := S4096x128) (k0_off10 k 128#32) S128x128.size (k0_off10_inb k 1))⟩]
    concatenates_S128x128_S128x128_S128x256_d1

/-- The stored pattern of the trip's window `w`. -/
def patAt0 (x8 : Vec F S1024x128 .i32) (k : Fin k0_t4_loop.trips) : IVec S8x128 32 := View.ld x8 (Rect.unit (s := S1024x128) (k0_off11 k 0#32) S8x128.size (k0_off11_inb k 0))
def patAt1 (x8 : Vec F S1024x128 .i32) (k : Fin k0_t4_loop.trips) : IVec S8x128 32 := View.ld x8 (Rect.unit (s := S1024x128) (k0_off11 k 8#32) S8x128.size (k0_off11_inb k 1))
def patAt2 (x8 : Vec F S1024x128 .i32) (k : Fin k0_t4_loop.trips) : IVec S8x128 32 := View.ld x8 (Rect.unit (s := S1024x128) (k0_off11 k 16#32) S8x128.size (k0_off11_inb k 2))
def patAt3 (x8 : Vec F S1024x128 .i32) (k : Fin k0_t4_loop.trips) : IVec S8x128 32 := View.ld x8 (Rect.unit (s := S1024x128) (k0_off11 k 24#32) S8x128.size (k0_off11_inb k 3))
def patAt4 (x8 : Vec F S1024x128 .i32) (k : Fin k0_t4_loop.trips) : IVec S8x128 32 := View.ld x8 (Rect.unit (s := S1024x128) (k0_off11 k 32#32) S8x128.size (k0_off11_inb k 4))
def patAt5 (x8 : Vec F S1024x128 .i32) (k : Fin k0_t4_loop.trips) : IVec S8x128 32 := View.ld x8 (Rect.unit (s := S1024x128) (k0_off11 k 40#32) S8x128.size (k0_off11_inb k 5))
def patAt6 (x8 : Vec F S1024x128 .i32) (k : Fin k0_t4_loop.trips) : IVec S8x128 32 := View.ld x8 (Rect.unit (s := S1024x128) (k0_off11 k 48#32) S8x128.size (k0_off11_inb k 6))
def patAt7 (x8 : Vec F S1024x128 .i32) (k : Fin k0_t4_loop.trips) : IVec S8x128 32 := View.ld x8 (Rect.unit (s := S1024x128) (k0_off11 k 56#32) S8x128.size (k0_off11_inb k 7))

/-! The weights the trip builds for each chunk of 128 columns. -/
/-- Chunk 0. -/
def chunkAt0 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![0, 0] S8x128.size inb_S128x128_S8x128_0_0))
    (View.ld x4 (Rect.unit (s := S32x2048) ![0, 0] S16x128.size inb_S32x2048_S16x128_0_0)) (View.ld x4 (Rect.unit (s := S32x2048) ![16, 0] S16x128.size inb_S32x2048_S16x128_16_0))
    (View.ld x3 (Rect.unit (s := S512x2048) (k0_off12 k 0#32) S8x128.size (k0_off12_inb k 0))) (View.ld x3 (Rect.unit (s := S512x2048) (k0_off12 k 8#32) S8x128.size (k0_off12_inb k 1)))
    (View.ld x3 (Rect.unit (s := S512x2048) (k0_off12 k 16#32) S8x128.size (k0_off12_inb k 2))) (View.ld x3 (Rect.unit (s := S512x2048) (k0_off12 k 24#32) S8x128.size (k0_off12_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 1. -/
def chunkAt1 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![8, 0] S8x128.size inb_S128x128_S8x128_8_0))
    (View.ld x4 (Rect.unit (s := S32x2048) ![0, 128] S16x128.size inb_S32x2048_S16x128_0_128)) (View.ld x4 (Rect.unit (s := S32x2048) ![16, 128] S16x128.size inb_S32x2048_S16x128_16_128))
    (View.ld x3 (Rect.unit (s := S512x2048) (k0_off13 k 0#32) S8x128.size (k0_off13_inb k 0))) (View.ld x3 (Rect.unit (s := S512x2048) (k0_off13 k 8#32) S8x128.size (k0_off13_inb k 1)))
    (View.ld x3 (Rect.unit (s := S512x2048) (k0_off13 k 16#32) S8x128.size (k0_off13_inb k 2))) (View.ld x3 (Rect.unit (s := S512x2048) (k0_off13 k 24#32) S8x128.size (k0_off13_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 2. -/
def chunkAt2 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![16, 0] S8x128.size inb_S128x128_S8x128_16_0))
    (View.ld x4 (Rect.unit (s := S32x2048) ![0, 256] S16x128.size inb_S32x2048_S16x128_0_256)) (View.ld x4 (Rect.unit (s := S32x2048) ![16, 256] S16x128.size inb_S32x2048_S16x128_16_256))
    (View.ld x3 (Rect.unit (s := S512x2048) (k0_off14 k 0#32) S8x128.size (k0_off14_inb k 0))) (View.ld x3 (Rect.unit (s := S512x2048) (k0_off14 k 8#32) S8x128.size (k0_off14_inb k 1)))
    (View.ld x3 (Rect.unit (s := S512x2048) (k0_off14 k 16#32) S8x128.size (k0_off14_inb k 2))) (View.ld x3 (Rect.unit (s := S512x2048) (k0_off14 k 24#32) S8x128.size (k0_off14_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 3. -/
def chunkAt3 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![24, 0] S8x128.size inb_S128x128_S8x128_24_0))
    (View.ld x4 (Rect.unit (s := S32x2048) ![0, 384] S16x128.size inb_S32x2048_S16x128_0_384)) (View.ld x4 (Rect.unit (s := S32x2048) ![16, 384] S16x128.size inb_S32x2048_S16x128_16_384))
    (View.ld x3 (Rect.unit (s := S512x2048) (k0_off15 k 0#32) S8x128.size (k0_off15_inb k 0))) (View.ld x3 (Rect.unit (s := S512x2048) (k0_off15 k 8#32) S8x128.size (k0_off15_inb k 1)))
    (View.ld x3 (Rect.unit (s := S512x2048) (k0_off15 k 16#32) S8x128.size (k0_off15_inb k 2))) (View.ld x3 (Rect.unit (s := S512x2048) (k0_off15 k 24#32) S8x128.size (k0_off15_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 4. -/
def chunkAt4 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![32, 0] S8x128.size inb_S128x128_S8x128_32_0))
    (View.ld x4 (Rect.unit (s := S32x2048) ![0, 512] S16x128.size inb_S32x2048_S16x128_0_512)) (View.ld x4 (Rect.unit (s := S32x2048) ![16, 512] S16x128.size inb_S32x2048_S16x128_16_512))
    (View.ld x3 (Rect.unit (s := S512x2048) (k0_off16 k 0#32) S8x128.size (k0_off16_inb k 0))) (View.ld x3 (Rect.unit (s := S512x2048) (k0_off16 k 8#32) S8x128.size (k0_off16_inb k 1)))
    (View.ld x3 (Rect.unit (s := S512x2048) (k0_off16 k 16#32) S8x128.size (k0_off16_inb k 2))) (View.ld x3 (Rect.unit (s := S512x2048) (k0_off16 k 24#32) S8x128.size (k0_off16_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 5. -/
def chunkAt5 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![40, 0] S8x128.size inb_S128x128_S8x128_40_0))
    (View.ld x4 (Rect.unit (s := S32x2048) ![0, 640] S16x128.size inb_S32x2048_S16x128_0_640)) (View.ld x4 (Rect.unit (s := S32x2048) ![16, 640] S16x128.size inb_S32x2048_S16x128_16_640))
    (View.ld x3 (Rect.unit (s := S512x2048) (k0_off17 k 0#32) S8x128.size (k0_off17_inb k 0))) (View.ld x3 (Rect.unit (s := S512x2048) (k0_off17 k 8#32) S8x128.size (k0_off17_inb k 1)))
    (View.ld x3 (Rect.unit (s := S512x2048) (k0_off17 k 16#32) S8x128.size (k0_off17_inb k 2))) (View.ld x3 (Rect.unit (s := S512x2048) (k0_off17 k 24#32) S8x128.size (k0_off17_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 6. -/
def chunkAt6 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![48, 0] S8x128.size inb_S128x128_S8x128_48_0))
    (View.ld x4 (Rect.unit (s := S32x2048) ![0, 768] S16x128.size inb_S32x2048_S16x128_0_768)) (View.ld x4 (Rect.unit (s := S32x2048) ![16, 768] S16x128.size inb_S32x2048_S16x128_16_768))
    (View.ld x3 (Rect.unit (s := S512x2048) (k0_off18 k 0#32) S8x128.size (k0_off18_inb k 0))) (View.ld x3 (Rect.unit (s := S512x2048) (k0_off18 k 8#32) S8x128.size (k0_off18_inb k 1)))
    (View.ld x3 (Rect.unit (s := S512x2048) (k0_off18 k 16#32) S8x128.size (k0_off18_inb k 2))) (View.ld x3 (Rect.unit (s := S512x2048) (k0_off18 k 24#32) S8x128.size (k0_off18_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 7. -/
def chunkAt7 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![56, 0] S8x128.size inb_S128x128_S8x128_56_0))
    (View.ld x4 (Rect.unit (s := S32x2048) ![0, 896] S16x128.size inb_S32x2048_S16x128_0_896)) (View.ld x4 (Rect.unit (s := S32x2048) ![16, 896] S16x128.size inb_S32x2048_S16x128_16_896))
    (View.ld x3 (Rect.unit (s := S512x2048) (k0_off19 k 0#32) S8x128.size (k0_off19_inb k 0))) (View.ld x3 (Rect.unit (s := S512x2048) (k0_off19 k 8#32) S8x128.size (k0_off19_inb k 1)))
    (View.ld x3 (Rect.unit (s := S512x2048) (k0_off19 k 16#32) S8x128.size (k0_off19_inb k 2))) (View.ld x3 (Rect.unit (s := S512x2048) (k0_off19 k 24#32) S8x128.size (k0_off19_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 8. -/
def chunkAt8 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![64, 0] S8x128.size inb_S128x128_S8x128_64_0))
    (View.ld x4 (Rect.unit (s := S32x2048) ![0, 1024] S16x128.size inb_S32x2048_S16x128_0_1024)) (View.ld x4 (Rect.unit (s := S32x2048) ![16, 1024] S16x128.size inb_S32x2048_S16x128_16_1024))
    (View.ld x3 (Rect.unit (s := S512x2048) (k0_off20 k 0#32) S8x128.size (k0_off20_inb k 0))) (View.ld x3 (Rect.unit (s := S512x2048) (k0_off20 k 8#32) S8x128.size (k0_off20_inb k 1)))
    (View.ld x3 (Rect.unit (s := S512x2048) (k0_off20 k 16#32) S8x128.size (k0_off20_inb k 2))) (View.ld x3 (Rect.unit (s := S512x2048) (k0_off20 k 24#32) S8x128.size (k0_off20_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 9. -/
def chunkAt9 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![72, 0] S8x128.size inb_S128x128_S8x128_72_0))
    (View.ld x4 (Rect.unit (s := S32x2048) ![0, 1152] S16x128.size inb_S32x2048_S16x128_0_1152)) (View.ld x4 (Rect.unit (s := S32x2048) ![16, 1152] S16x128.size inb_S32x2048_S16x128_16_1152))
    (View.ld x3 (Rect.unit (s := S512x2048) (k0_off21 k 0#32) S8x128.size (k0_off21_inb k 0))) (View.ld x3 (Rect.unit (s := S512x2048) (k0_off21 k 8#32) S8x128.size (k0_off21_inb k 1)))
    (View.ld x3 (Rect.unit (s := S512x2048) (k0_off21 k 16#32) S8x128.size (k0_off21_inb k 2))) (View.ld x3 (Rect.unit (s := S512x2048) (k0_off21 k 24#32) S8x128.size (k0_off21_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 10. -/
def chunkAt10 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![80, 0] S8x128.size inb_S128x128_S8x128_80_0))
    (View.ld x4 (Rect.unit (s := S32x2048) ![0, 1280] S16x128.size inb_S32x2048_S16x128_0_1280)) (View.ld x4 (Rect.unit (s := S32x2048) ![16, 1280] S16x128.size inb_S32x2048_S16x128_16_1280))
    (View.ld x3 (Rect.unit (s := S512x2048) (k0_off22 k 0#32) S8x128.size (k0_off22_inb k 0))) (View.ld x3 (Rect.unit (s := S512x2048) (k0_off22 k 8#32) S8x128.size (k0_off22_inb k 1)))
    (View.ld x3 (Rect.unit (s := S512x2048) (k0_off22 k 16#32) S8x128.size (k0_off22_inb k 2))) (View.ld x3 (Rect.unit (s := S512x2048) (k0_off22 k 24#32) S8x128.size (k0_off22_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 11. -/
def chunkAt11 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![88, 0] S8x128.size inb_S128x128_S8x128_88_0))
    (View.ld x4 (Rect.unit (s := S32x2048) ![0, 1408] S16x128.size inb_S32x2048_S16x128_0_1408)) (View.ld x4 (Rect.unit (s := S32x2048) ![16, 1408] S16x128.size inb_S32x2048_S16x128_16_1408))
    (View.ld x3 (Rect.unit (s := S512x2048) (k0_off23 k 0#32) S8x128.size (k0_off23_inb k 0))) (View.ld x3 (Rect.unit (s := S512x2048) (k0_off23 k 8#32) S8x128.size (k0_off23_inb k 1)))
    (View.ld x3 (Rect.unit (s := S512x2048) (k0_off23 k 16#32) S8x128.size (k0_off23_inb k 2))) (View.ld x3 (Rect.unit (s := S512x2048) (k0_off23 k 24#32) S8x128.size (k0_off23_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 12. -/
def chunkAt12 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![96, 0] S8x128.size inb_S128x128_S8x128_96_0))
    (View.ld x4 (Rect.unit (s := S32x2048) ![0, 1536] S16x128.size inb_S32x2048_S16x128_0_1536)) (View.ld x4 (Rect.unit (s := S32x2048) ![16, 1536] S16x128.size inb_S32x2048_S16x128_16_1536))
    (View.ld x3 (Rect.unit (s := S512x2048) (k0_off24 k 0#32) S8x128.size (k0_off24_inb k 0))) (View.ld x3 (Rect.unit (s := S512x2048) (k0_off24 k 8#32) S8x128.size (k0_off24_inb k 1)))
    (View.ld x3 (Rect.unit (s := S512x2048) (k0_off24 k 16#32) S8x128.size (k0_off24_inb k 2))) (View.ld x3 (Rect.unit (s := S512x2048) (k0_off24 k 24#32) S8x128.size (k0_off24_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 13. -/
def chunkAt13 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![104, 0] S8x128.size inb_S128x128_S8x128_104_0))
    (View.ld x4 (Rect.unit (s := S32x2048) ![0, 1664] S16x128.size inb_S32x2048_S16x128_0_1664)) (View.ld x4 (Rect.unit (s := S32x2048) ![16, 1664] S16x128.size inb_S32x2048_S16x128_16_1664))
    (View.ld x3 (Rect.unit (s := S512x2048) (k0_off25 k 0#32) S8x128.size (k0_off25_inb k 0))) (View.ld x3 (Rect.unit (s := S512x2048) (k0_off25 k 8#32) S8x128.size (k0_off25_inb k 1)))
    (View.ld x3 (Rect.unit (s := S512x2048) (k0_off25 k 16#32) S8x128.size (k0_off25_inb k 2))) (View.ld x3 (Rect.unit (s := S512x2048) (k0_off25 k 24#32) S8x128.size (k0_off25_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 14. -/
def chunkAt14 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![112, 0] S8x128.size inb_S128x128_S8x128_112_0))
    (View.ld x4 (Rect.unit (s := S32x2048) ![0, 1792] S16x128.size inb_S32x2048_S16x128_0_1792)) (View.ld x4 (Rect.unit (s := S32x2048) ![16, 1792] S16x128.size inb_S32x2048_S16x128_16_1792))
    (View.ld x3 (Rect.unit (s := S512x2048) (k0_off26 k 0#32) S8x128.size (k0_off26_inb k 0))) (View.ld x3 (Rect.unit (s := S512x2048) (k0_off26 k 8#32) S8x128.size (k0_off26_inb k 1)))
    (View.ld x3 (Rect.unit (s := S512x2048) (k0_off26 k 16#32) S8x128.size (k0_off26_inb k 2))) (View.ld x3 (Rect.unit (s := S512x2048) (k0_off26 k 24#32) S8x128.size (k0_off26_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 15. -/
def chunkAt15 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![120, 0] S8x128.size inb_S128x128_S8x128_120_0))
    (View.ld x4 (Rect.unit (s := S32x2048) ![0, 1920] S16x128.size inb_S32x2048_S16x128_0_1920)) (View.ld x4 (Rect.unit (s := S32x2048) ![16, 1920] S16x128.size inb_S32x2048_S16x128_16_1920))
    (View.ld x3 (Rect.unit (s := S512x2048) (k0_off27 k 0#32) S8x128.size (k0_off27_inb k 0))) (View.ld x3 (Rect.unit (s := S512x2048) (k0_off27 k 8#32) S8x128.size (k0_off27_inb k 1)))
    (View.ld x3 (Rect.unit (s := S512x2048) (k0_off27 k 16#32) S8x128.size (k0_off27_inb k 2))) (View.ld x3 (Rect.unit (s := S512x2048) (k0_off27 k 24#32) S8x128.size (k0_off27_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- The trip's tile of weights for the output columns of group `j` (of 256 columns). -/
def tileAt0 (x3 : Vec F S512x2048 .i32) (x4 : Vec F S32x2048 .bf16) (x8 : Vec F S1024x128 .i32) (x9 : Vec F S128x128 .i32) (k : Fin k0_t4_loop.trips) : FVec F S256x256 .bf16 :=
  tileW (chunkAt0 x3 x4 x8 x9 k) (chunkAt1 x3 x4 x8 x9 k)
def tileAt1 (x3 : Vec F S512x2048 .i32) (x4 : Vec F S32x2048 .bf16) (x8 : Vec F S1024x128 .i32) (x9 : Vec F S128x128 .i32) (k : Fin k0_t4_loop.trips) : FVec F S256x256 .bf16 :=
  tileW (chunkAt2 x3 x4 x8 x9 k) (chunkAt3 x3 x4 x8 x9 k)
def tileAt2 (x3 : Vec F S512x2048 .i32) (x4 : Vec F S32x2048 .bf16) (x8 : Vec F S1024x128 .i32) (x9 : Vec F S128x128 .i32) (k : Fin k0_t4_loop.trips) : FVec F S256x256 .bf16 :=
  tileW (chunkAt4 x3 x4 x8 x9 k) (chunkAt5 x3 x4 x8 x9 k)
def tileAt3 (x3 : Vec F S512x2048 .i32) (x4 : Vec F S32x2048 .bf16) (x8 : Vec F S1024x128 .i32) (x9 : Vec F S128x128 .i32) (k : Fin k0_t4_loop.trips) : FVec F S256x256 .bf16 :=
  tileW (chunkAt6 x3 x4 x8 x9 k) (chunkAt7 x3 x4 x8 x9 k)
def tileAt4 (x3 : Vec F S512x2048 .i32) (x4 : Vec F S32x2048 .bf16) (x8 : Vec F S1024x128 .i32) (x9 : Vec F S128x128 .i32) (k : Fin k0_t4_loop.trips) : FVec F S256x256 .bf16 :=
  tileW (chunkAt8 x3 x4 x8 x9 k) (chunkAt9 x3 x4 x8 x9 k)
def tileAt5 (x3 : Vec F S512x2048 .i32) (x4 : Vec F S32x2048 .bf16) (x8 : Vec F S1024x128 .i32) (x9 : Vec F S128x128 .i32) (k : Fin k0_t4_loop.trips) : FVec F S256x256 .bf16 :=
  tileW (chunkAt10 x3 x4 x8 x9 k) (chunkAt11 x3 x4 x8 x9 k)
def tileAt6 (x3 : Vec F S512x2048 .i32) (x4 : Vec F S32x2048 .bf16) (x8 : Vec F S1024x128 .i32) (x9 : Vec F S128x128 .i32) (k : Fin k0_t4_loop.trips) : FVec F S256x256 .bf16 :=
  tileW (chunkAt12 x3 x4 x8 x9 k) (chunkAt13 x3 x4 x8 x9 k)
def tileAt7 (x3 : Vec F S512x2048 .i32) (x4 : Vec F S32x2048 .bf16) (x8 : Vec F S1024x128 .i32) (x9 : Vec F S128x128 .i32) (k : Fin k0_t4_loop.trips) : FVec F S256x256 .bf16 :=
  tileW (chunkAt14 x3 x4 x8 x9 k) (chunkAt15 x3 x4 x8 x9 k)

/-- What a trip leaves in the matrix unit: per group of columns, the tile pushed and the left operand
    multiplied by it into the group's rows of the result buffer. -/
def kStep (x3 : Vec F S512x2048 .i32) (x4 : Vec F S32x2048 .bf16) (x7 : Vec F S4096x128 .bf16) (x8 : Vec F S1024x128 .i32) (x9 : Vec F S128x128 .i32) (k : Fin k0_t4_loop.trips) (s : Mxu F) : Mxu F :=
  let s0 := (s.pushed 0 0 false (tileAt0 x3 x4 x8 x9 k)).accLhs 0 0 0 (lhsAt x7 k) fits_0_128
  let s1 := (s0.pushed 0 1 false (tileAt1 x3 x4 x8 x9 k)).accLhs 0 1 32 (lhsAt x7 k) fits_32_128
  let s2 := (s1.pushed 0 0 false (tileAt2 x3 x4 x8 x9 k)).accLhs 0 0 64 (lhsAt x7 k) fits_64_128
  let s3 := (s2.pushed 0 1 false (tileAt3 x3 x4 x8 x9 k)).accLhs 0 1 96 (lhsAt x7 k) fits_96_128
  let s4 := (s3.pushed 0 0 false (tileAt4 x3 x4 x8 x9 k)).accLhs 0 0 128 (lhsAt x7 k) fits_128_128
  let s5 := (s4.pushed 0 1 false (tileAt5 x3 x4 x8 x9 k)).accLhs 0 1 160 (lhsAt x7 k) fits_160_128
  let s6 := (s5.pushed 0 0 false (tileAt6 x3 x4 x8 x9 k)).accLhs 0 0 192 (lhsAt x7 k) fits_192_128
  let s7 := (s6.pushed 0 1 false (tileAt7 x3 x4 x8 x9 k)).accLhs 0 1 224 (lhsAt x7 k) fits_224_128
  s7

/-! ## The trip's run -/

/-- The buffers a trip reads, held. -/
abbrev Trip4 (c : Dev nD) (arg3 : Memref sig .tc .vmem S512x2048 .i32) (arg4 : Memref sig .tc .vmem S32x2048 .bf16) (arg7 : Memref sig .tc .vmem S4096x128 .bf16) (arg8 : Memref sig .tc .vmem S1024x128 .i32) (arg9 : Memref sig .tc .vmem S128x128 .i32)
    (f3 : BufTy.Contents (Elt F) arg3.view.ty) (f4 : BufTy.Contents (Elt F) arg4.view.ty) (f7 : BufTy.Contents (Elt F) arg7.view.ty) (f8 : BufTy.Contents (Elt F) arg8.view.ty) (f9 : BufTy.Contents (Elt F) arg9.view.ty) : sProp 𝕄 :=
  iprop((arg3.view.loc (c : Thread nD τ) ↦[arg3.view.set]{fullShare} f3) ∗ (arg4.view.loc (c : Thread nD τ) ↦[arg4.view.set]{fullShare} f4)
    ∗ (arg7.view.loc (c : Thread nD τ) ↦[arg7.view.set]{fullShare} f7) ∗ (arg8.view.loc (c : Thread nD τ) ↦[arg8.view.set]{fullShare} f8)
    ∗ (arg9.view.loc (c : Thread nD τ) ↦[arg9.view.set]{fullShare} f9))

set_option maxHeartbeats 4000000 in
/-- A trip runs: it leaves the buffers as they were and the matrix unit at a state the run computes. -/
def trip4 (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole)
    (f3 : BufTy.Contents (Elt F) arg3.view.ty) (f4 : BufTy.Contents (Elt F) arg4.view.ty) (f7 : BufTy.Contents (Elt F) arg7.view.ty) (f8 : BufTy.Contents (Elt F) arg8.view.ty) (f9 : BufTy.Contents (Elt F) arg9.view.ty) (k : Fin k0_t4_loop.trips) (s : Mxu F) (hs0 : s.reg 0 0 = none) (hs1 : s.reg 0 1 = none) :
    { R : Mxu F // Trip4 (F := F) c arg3 arg4 arg7 arg8 arg9 f3 f4 f7 f8 f9
      ⊢ wp frame (wpE (defs₀ (F := F)) Variants.none (c : Thread nD τ) none) Set.univ (k0_t4_body (F := F) i arg1 harg1 arg2 harg2 arg3 harg3 arg4 harg4 arg5 harg5 arg6 harg6 arg7 harg7 arg8 harg8 arg9 harg9 k s)
          (fun s' => iprop(⌜s' = R⌝ ∗ Trip4 (F := F) c arg3 arg4 arg7 arg8 arg9 f3 f4 f7 f8 f9)) } := by
  have hk : k.val < 16 := Nat.lt_of_lt_of_le k.isLt k0_t4_abs.2.1
  refine ⟨?_, ?run⟩
  case run =>
    have hp0 : s.PushOk 0 0 false := Mxu.pushOk_of_none _ _ _ _ hs0
    have hp1 : s.PushOk 0 1 false := Mxu.pushOk_of_none _ _ _ _ hs1
    unfold k0_t4_body
    iintro ⟨H3, H4, H7, H8, H9⟩
    sl_exec (disch := first | (mxu_pushok_peel; done) | (mxu_pushok_peel; first | exact hp0 | exact hp1))

    sl_step
    isplitr; · ipureintro; rfl
    unfold Trip4
    isplitl [H3]; · iexact H3
    isplitl [H4]; · iexact H4
    isplitl [H7]; · iexact H7
    isplitl [H8]; · iexact H8
    iexact H9

set_option maxHeartbeats 4000000 in
/-- The state a trip leaves is `kStep` of what the buffers hold. -/
theorem trip4_val (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole)
    (f3 : BufTy.Contents (Elt F) arg3.view.ty) (f4 : BufTy.Contents (Elt F) arg4.view.ty) (f7 : BufTy.Contents (Elt F) arg7.view.ty) (f8 : BufTy.Contents (Elt F) arg8.view.ty) (f9 : BufTy.Contents (Elt F) arg9.view.ty) (k : Fin k0_t4_loop.trips) (s : Mxu F) (hs0 : s.reg 0 0 = none) (hs1 : s.reg 0 1 = none) :
    (trip4 c i arg1 harg1 arg2 harg2 arg3 harg3 arg4 harg4 arg5 harg5 arg6 harg6 arg7 harg7 arg8 harg8 arg9 harg9 f3 f4 f7 f8 f9 k s hs0 hs1).val = kStep (arg3.view.read (Elt F) f3) (arg4.view.read (Elt F) f4) (arg7.view.read (Elt F) f7) (arg8.view.read (Elt F) f8) (arg9.view.read (Elt F) f9) k s := by
  show trip4.sl.k0_mxu19 arg3 arg4 arg7 arg8 arg9 f3 f4 f7 f8 f9 k s = _
  rfl

end Cert.Proof.K

end
-- ==== Proof.KernelPrep.lean ====
/-
  WHAT THE PREPARATION LEAVES in the three scratch buffers: the rearranged `x`, the stored patterns of the
  groups, and the table of zero points, each as a function of the input block it is read from.
-/
module

public import proofs.«01_k».proof.Proof.Gen.Kernel.Frame
public import proofs.«01_k».proof.Proof.Gen.Kernel.Skeleton
public import proofs.«01_k».proof.Proof.Gen.Kernel.Loops
public import Idealize.ShloMosaic.Lib.Claim
public import Idealize.ShloMosaic.Lib.ValueIdx
public import Idealize.ShloMosaic.Lib.WritesUnit

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## The rearranged `x` -/

/-- Block `k` of 128 columns of `x`. -/
def xBlk (x1 : Vec F S128x4096 .bf16) (k : Fin 32) : Vec F S128x128 .bf16 :=
  fun j => x1 (ix2 (j 0) ⟨128 * k.val + (j 1).val, by have : (j 1).val < 128 := (j 1).isLt; omega⟩)

/-- The rearranged `x`: block `k` of 128 columns, its columns permuted, is rows `128 k` to `128 k + 127`. -/
def xsOf (x1 : Vec F S128x4096 .bf16) : Vec F S4096x128 .bf16 :=
  fun y => k0_pay574 (xBlk x1 ⟨(y 0).val / 128, by have : (y 0).val < 4096 := (y 0).isLt; omega⟩)
    (ix2 (⟨(y 0).val % 128, by omega⟩ : Fin 128) (y 1))

/-! ## The stored patterns -/

/-- Row `k` of the group indices. -/
def gRow (x2 : Vec F S32x128 .i32) (k : Fin 32) : Vec F S1x128 .i32 := fun j => x2 (ix2 k (j 1))

/-- One byte of a window's packed pattern: the row's entries at columns `p + 8 s + b + e`, `s` the sublane, shifted
    left by `t`. -/
def patByte (row : Vec F S1x128 .i32) (p b e t : BitVec 32) : IVec S8x128 32 :=
  shli (dynamicGather 1 (k0_pay4 (F := F) row) (shapeCast S8x128 (shapeCast S8x128x1
    (addi (addi (addi (broadcast S8x128 p) (muli (broadcast S8x128 8#32) (iota .tc S8x128 32 [0] iota_S8x128_d0_w32))) (broadcast S8x128 b)) (broadcast S8x128 e))
    shapeCasts_S8x128_S8x128x1) shapeCasts_S8x128x1_S8x128)) (broadcast S8x128 t)

/-- A window's packed pattern: four bytes to a word. -/
def patWin (row : Vec F S1x128 .i32) (p e : BitVec 32) : IVec S8x128 32 :=
  shapeCast S8x128 (ori (ori (ori (patByte (F := F) row p 0#32 e 0#32) (patByte (F := F) row p 2#32 e 8#32)) (patByte (F := F) row p 4#32 e 16#32)) (patByte (F := F) row p 6#32 e 24#32))
    shapeCasts_S8x128_S8x128

/-- The stored patterns: row `k` of the group indices gives rows `32 k` to `32 k + 31`, four windows of eight rows. -/
def patOf (x2 : Vec F S32x128 .i32) : Vec F S1024x128 .i32 :=
  fun y => patWin (F := F) (gRow x2 ⟨(y 0).val / 32, by have : (y 0).val < 1024 := (y 0).isLt; omega⟩)
    (BitVec.ofNat 32 (64 * ((y 0).val / 8 % 4 / 2))) (BitVec.ofNat 32 ((y 0).val / 8 % 4 % 2))
    (ix2 (⟨(y 0).val % 8, by omega⟩ : Fin 8) (y 1))

/-! ## The table of zero points -/

/-- The packed zero points of groups `8 b` to `8 b + 7` at block `t` of 128 words. -/
def qzBlk (x5 : Vec F S32x256 .i32) (b : Fin 4) (t : Fin 2) : Vec F S8x128 .i32 :=
  fun j => x5 (ix2 ⟨8 * b.val + (j 0).val, by have : (j 0).val < 8 := (j 0).isLt; omega⟩ ⟨128 * t.val + (j 1).val, by have : (j 1).val < 128 := (j 1).isLt; omega⟩)

/-- The column of a block of packed words that holds lane `l`'s zero point, in part `a` of the block. -/
def zpSrc (a : BitVec 32) : IVec S8x128 32 :=
  addi (broadcast S8x128 (Scalar.muli 16#32 a)) (shrsi (iota .tc S8x128 32 [1] iota_S8x128_d1_w32) (broadcast S8x128 3#32))

/-- One byte of the table: the zero points of eight groups, shifted left by `t`. -/
def zpByte (q : Vec F S8x128 .i32) (a t : BitVec 32) : IVec S8x128 32 :=
  shli (andi (shrui (dynamicGather 1 q (shapeCast S8x128 (shapeCast S8x128x1 (zpSrc a) shapeCasts_S8x128_S8x128x1) shapeCasts_S8x128x1_S8x128)) k0_pay576)
    (broadcast S8x128 15#32)) (broadcast S8x128 t)

/-- The table of one chunk of columns: minus the zero points, offset by 128 in every byte. -/
def zpTab (q0 q1 q2 q3 : Vec F S8x128 .i32) (a : BitVec 32) : IVec S8x128 32 :=
  shapeCast S8x128 (subi (broadcast S8x128 2155905152#32)
    (addi (addi (addi (addi (broadcast S8x128 0#32) (zpByte (F := F) q0 a 0#32)) (zpByte (F := F) q1 a 8#32)) (zpByte (F := F) q2 a 16#32)) (zpByte (F := F) q3 a 24#32)))
    shapeCasts_S8x128_S8x128

/-- The table: chunk `c` of columns is rows `8 c` to `8 c + 7`. -/
def tabOf (x5 : Vec F S32x256 .i32) : Vec F S128x128 .i32 :=
  fun y =>
    let c := (y 0).val / 8
    have hc : c / 8 < 2 := by have : (y 0).val < 128 := (y 0).isLt; omega
    zpTab (F := F) (qzBlk x5 0 ⟨c / 8, hc⟩) (qzBlk x5 1 ⟨c / 8, hc⟩) (qzBlk x5 2 ⟨c / 8, hc⟩) (qzBlk x5 3 ⟨c / 8, hc⟩) (BitVec.ofNat 32 (c % 8))
      (ix2 (⟨(y 0).val % 8, by omega⟩ : Fin 8) (y 1))

/-! ## The loops' pieces -/

/-- What one trip over the blocks of `x` stores. -/
theorem tripL_k0_t1_eq (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole) (k0_h1 : k0_cond1 i = 1#1) (X : BufTy.Contents (Elt F) arg1.view.ty) (k : Fin k0_t1_loop.trips) :
    tripL_k0_t1 (F := F) Variants.none c none i arg1 harg1 arg2 harg2 arg3 harg3 arg4 harg4 arg5 harg5 arg6 harg6 arg7 harg7 arg8 harg8 arg9 harg9 k0_h1 X k = [⟨Rect.unit (s := S4096x128) (k0_off2 k) S128x128.size (k0_off2_inb i k k0_h1), k0_pay574 (View.ld (arg1.view.read (Elt F) X) (Rect.unit (s := S128x4096) (k0_off1 k) S128x128.size (k0_off1_inb i k k0_h1)))⟩] := by
  unfold tripL_k0_t1 trip_k0_t1; rfl

/-- The pieces the input loop has written after `n` trips are those of its first `n` trips. -/
theorem mem_pb_k0_t1 (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole) (k0_h1 : k0_cond1 i = 1#1) (X : BufTy.Contents (Elt F) arg1.view.ty) (n : ℕ) (hn : n ≤ k0_t1_loop.trips) (p : View.Piece (Elt F) S4096x128 .bf16) :
    p ∈ pb_k0_t1 (F := F) Variants.none c none i arg1 harg1 arg2 harg2 arg3 harg3 arg4 harg4 arg5 harg5 arg6 harg6 arg7 harg7 arg8 harg8 arg9 harg9 k0_h1 X n ↔ ∃ k : Fin k0_t1_loop.trips, k.val < n ∧ p ∈ tripL_k0_t1 (F := F) Variants.none c none i arg1 harg1 arg2 harg2 arg3 harg3 arg4 harg4 arg5 harg5 arg6 harg6 arg7 harg7 arg8 harg8 arg9 harg9 k0_h1 X k := by
  induction n with
  | zero => simp [pb_k0_t1]
  | succ n ih =>
    have e := pb_k0_t1_succ (F := F) Variants.none c none i arg1 harg1 arg2 harg2 arg3 harg3 arg4 harg4 arg5 harg5 arg6 harg6 arg7 harg7 arg8 harg8 arg9 harg9 k0_h1 X ⟨n, hn⟩
    dsimp only at e
    rw [e, List.mem_append, ih (by omega)]
    constructor
    · rintro (h | ⟨k, hk, h⟩)
      · exact ⟨⟨n, hn⟩, Nat.lt_succ_self n, h⟩
      · exact ⟨k, by omega, h⟩
    · rintro ⟨k, hk, h⟩
      by_cases hkn : k.val = n
      · left; have : k = ⟨n, hn⟩ := Fin.ext hkn
        rw [← this]; exact h
      · right; exact ⟨k, by omega, h⟩

/-- What one trip over the rows of group indices stores. -/
theorem tripL_k0_t2_eq (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole) (k0_h1 : k0_cond1 i = 1#1) (X : BufTy.Contents (Elt F) arg2.view.ty) (k : Fin k0_t2_loop.trips) :
    tripL_k0_t2 (F := F) Variants.none c none i arg1 harg1 arg2 harg2 arg3 harg3 arg4 harg4 arg5 harg5 arg6 harg6 arg7 harg7 arg8 harg8 arg9 harg9 k0_h1 (iota .tc S8x128 32 [0] iota_S8x128_d0_w32) X k = [⟨Rect.unit (s := S1024x128) (k0_off4 k 24#32) S8x128.size (k0_off4_inb i k k0_h1 3), patWin (F := F) (View.ld (arg2.view.read (Elt F) X) (Rect.unit (s := S32x128) (k0_off3 k) S1x128.size (k0_off3_inb i k k0_h1))) 64#32 1#32⟩, ⟨Rect.unit (s := S1024x128) (k0_off4 k 16#32) S8x128.size (k0_off4_inb i k k0_h1 2), patWin (F := F) (View.ld (arg2.view.read (Elt F) X) (Rect.unit (s := S32x128) (k0_off3 k) S1x128.size (k0_off3_inb i k k0_h1))) 64#32 0#32⟩, ⟨Rect.unit (s := S1024x128) (k0_off4 k 8#32) S8x128.size (k0_off4_inb i k k0_h1 1), patWin (F := F) (View.ld (arg2.view.read (Elt F) X) (Rect.unit (s := S32x128) (k0_off3 k) S1x128.size (k0_off3_inb i k k0_h1))) 0#32 1#32⟩, ⟨Rect.unit (s := S1024x128) (k0_off4 k 0#32) S8x128.size (k0_off4_inb i k k0_h1 0), patWin (F := F) (View.ld (arg2.view.read (Elt F) X) (Rect.unit (s := S32x128) (k0_off3 k) S1x128.size (k0_off3_inb i k k0_h1))) 0#32 0#32⟩] := by
  unfold tripL_k0_t2 trip_k0_t2; rfl

/-- The pieces the pattern loop has written after `n` trips are those of its first `n` trips. -/
theorem mem_pb_k0_t2 (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole) (k0_h1 : k0_cond1 i = 1#1) (X : BufTy.Contents (Elt F) arg2.view.ty) (n : ℕ) (hn : n ≤ k0_t2_loop.trips) (p : View.Piece (Elt F) S1024x128 .i32) :
    p ∈ pb_k0_t2 (F := F) Variants.none c none i arg1 harg1 arg2 harg2 arg3 harg3 arg4 harg4 arg5 harg5 arg6 harg6 arg7 harg7 arg8 harg8 arg9 harg9 k0_h1 (iota .tc S8x128 32 [0] iota_S8x128_d0_w32) X n ↔ ∃ k : Fin k0_t2_loop.trips, k.val < n ∧ p ∈ tripL_k0_t2 (F := F) Variants.none c none i arg1 harg1 arg2 harg2 arg3 harg3 arg4 harg4 arg5 harg5 arg6 harg6 arg7 harg7 arg8 harg8 arg9 harg9 k0_h1 (iota .tc S8x128 32 [0] iota_S8x128_d0_w32) X k := by
  induction n with
  | zero => simp [pb_k0_t2]
  | succ n ih =>
    have e := pb_k0_t2_succ (F := F) Variants.none c none i arg1 harg1 arg2 harg2 arg3 harg3 arg4 harg4 arg5 harg5 arg6 harg6 arg7 harg7 arg8 harg8 arg9 harg9 k0_h1 (iota .tc S8x128 32 [0] iota_S8x128_d0_w32) X ⟨n, hn⟩
    dsimp only at e
    rw [e, List.mem_append, ih (by omega)]
    constructor
    · rintro (h | ⟨k, hk, h⟩)
      · exact ⟨⟨n, hn⟩, Nat.lt_succ_self n, h⟩
      · exact ⟨k, by omega, h⟩
    · rintro ⟨k, hk, h⟩
      by_cases hkn : k.val = n
      · left; have : k = ⟨n, hn⟩ := Fin.ext hkn
        rw [← this]; exact h
      · right; exact ⟨k, by omega, h⟩

/-- What one trip over the chunks of columns stores. -/
theorem tripL_k0_t3_eq (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole) (X : BufTy.Contents (Elt F) arg5.view.ty) (k : Fin k0_t3_loop.trips) :
    tripL_k0_t3 (F := F) Variants.none c none i arg1 harg1 arg2 harg2 arg3 harg3 arg4 harg4 arg5 harg5 arg6 harg6 arg7 harg7 arg8 harg8 arg9 harg9 (iota .tc S8x128 32 [1] iota_S8x128_d1_w32) X k = [⟨Rect.unit (s := S128x128) (k0_off9 k) S8x128.size (k0_off9_inb k), zpTab (F := F) (View.ld (arg5.view.read (Elt F) X) (Rect.unit (s := S32x256) (k0_off5 k) S8x128.size (k0_off5_inb k))) (View.ld (arg5.view.read (Elt F) X) (Rect.unit (s := S32x256) (k0_off6 k) S8x128.size (k0_off6_inb k))) (View.ld (arg5.view.read (Elt F) X) (Rect.unit (s := S32x256) (k0_off7 k) S8x128.size (k0_off7_inb k))) (View.ld (arg5.view.read (Elt F) X) (Rect.unit (s := S32x256) (k0_off8 k) S8x128.size (k0_off8_inb k))) (Scalar.andi (Scalar.addi 0#32 (Scalar.muli (Scf.iv 0#32 1#32 k) 1#32)) 7#32)⟩] := by
  unfold tripL_k0_t3 trip_k0_t3; rfl

/-- The pieces the table loop has written after `n` trips are those of its first `n` trips. -/
theorem mem_pb_k0_t3 (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole) (X : BufTy.Contents (Elt F) arg5.view.ty) (n : ℕ) (hn : n ≤ k0_t3_loop.trips) (p : View.Piece (Elt F) S128x128 .i32) :
    p ∈ pb_k0_t3 (F := F) Variants.none c none i arg1 harg1 arg2 harg2 arg3 harg3 arg4 harg4 arg5 harg5 arg6 harg6 arg7 harg7 arg8 harg8 arg9 harg9 (iota .tc S8x128 32 [1] iota_S8x128_d1_w32) X n ↔ ∃ k : Fin k0_t3_loop.trips, k.val < n ∧ p ∈ tripL_k0_t3 (F := F) Variants.none c none i arg1 harg1 arg2 harg2 arg3 harg3 arg4 harg4 arg5 harg5 arg6 harg6 arg7 harg7 arg8 harg8 arg9 harg9 (iota .tc S8x128 32 [1] iota_S8x128_d1_w32) X k := by
  induction n with
  | zero => simp [pb_k0_t3]
  | succ n ih =>
    have e := pb_k0_t3_succ (F := F) Variants.none c none i arg1 harg1 arg2 harg2 arg3 harg3 arg4 harg4 arg5 harg5 arg6 harg6 arg7 harg7 arg8 harg8 arg9 harg9 (iota .tc S8x128 32 [1] iota_S8x128_d1_w32) X ⟨n, hn⟩
    dsimp only at e
    rw [e, List.mem_append, ih (by omega)]
    constructor
    · rintro (h | ⟨k, hk, h⟩)
      · exact ⟨⟨n, hn⟩, Nat.lt_succ_self n, h⟩
      · exact ⟨k, by omega, h⟩
    · rintro ⟨k, hk, h⟩
      by_cases hkn : k.val = n
      · left; have : k = ⟨n, hn⟩ := Fin.ext hkn
        rw [← this]; exact h
      · right; exact ⟨k, by omega, h⟩

/-! ## What the buffers hold after the loops -/

/-- An element is in a rectangle of consecutive elements when each coordinate is in its range. -/
theorem mem_set_unit_of {s : Shape} {off size : Fin s.rank → ℕ} {inb : ∀ a, off a + size a ≤ s.size a} {y : s.Idx}
    (h : ∀ a, off a ≤ (y a).val ∧ (y a).val < off a + size a) : y ∈ (Rect.unit off size inb).set := by
  refine (Rect.unit off size inb).mem_set.2 fun a => ⟨(y a).val - off a, ?_, ?_⟩
  · show (y a).val - off a < size a; have := h a; omega
  · show (y a).val = off a + 1 * ((y a).val - off a); have := h a; omega

/-- An index of a rectangle of consecutive elements, placed: the offset plus the index. -/
theorem rectUnit_val {s : Shape} (off size : Fin s.rank → ℕ) (inb) (j : (Rect.unit off size inb).shape.Idx) (a : Fin s.rank) :
    ((Rect.unit off size inb).emb j a : ℕ) = off a + j a := by
  rw [Rect.emb_apply]; show off a + 1 * (j a : ℕ) = _; omega

/-- Two indices with equal coordinates are equal. -/
theorem ix2_ext {n0 n1 : ℕ} {a : Fin n0} {b : Fin n1} {y : (⟨2, ![n0, n1]⟩ : Shape).Idx} (h0 : a.val = (y 0).val) (h1 : b.val = (y 1).val) : ix2 a b = y := by
  have e0 : a = y 0 := Fin.ext h0
  have e1 : b = y 1 := Fin.ext h1
  subst e0 e1; exact (eq_ix2 y).symm

/-- A value read through a rectangle, entry by entry. -/
theorem ld_eq_ix2 {Val : EltTy → Type} {e : EltTy} {N0 N1 : ℕ} (X : (⟨2, ![N0, N1]⟩ : Shape).Idx → Val e) (off size : Fin 2 → ℕ) (inb)
    (x : (Rect.unit (s := ⟨2, ![N0, N1]⟩) off size inb).shape.Idx) (a : Fin N0) (b : Fin N1)
    (h0 : a.val = off 0 + (x 0).val) (h1 : b.val = off 1 + (x 1).val) :
    View.ld X (Rect.unit (s := ⟨2, ![N0, N1]⟩) off size inb) x = X (ix2 a b) := by
  refine congrArg X (ix2_ext ?_ ?_).symm
  · rw [h0]; exact (rectUnit_val (s := ⟨2, ![N0, N1]⟩) off size inb x 0).symm
  · rw [h1]; exact (rectUnit_val (s := ⟨2, ![N0, N1]⟩) off size inb x 1).symm

/-- The number of trips of the input loop. -/
theorem t1_trips : k0_t1_loop.trips = 32 := by decide +kernel
/-- The number of trips of the pattern loop. -/
theorem t2_trips : k0_t2_loop.trips = 32 := by decide +kernel
/-- The number of trips of the table loop. -/
theorem t3_trips : k0_t3_loop.trips = 16 := by decide +kernel
/-- The number of trips of the contraction loop. -/
theorem t4_trips : k0_t4_loop.trips = 16 := by decide +kernel

/-- The rearranged input, at an index of a trip's piece. -/
theorem xsOf_at (x1 : Vec F S128x4096 .bf16) (k : Fin 32) (j : S128x128.Idx) (y : S4096x128.Idx)
    (h0 : (y 0).val = 128 * k.val + (j 0).val) (h1 : (y 1).val = (j 1).val) : xsOf x1 y = k0_pay574 (xBlk x1 k) j := by
  have hj : (j 0).val < 128 := (j 0).isLt
  have e : (⟨(y 0).val / 128, by have : (y 0).val < 4096 := (y 0).isLt; omega⟩ : Fin 32) = k := Fin.ext (by show (y 0).val / 128 = k.val; omega)
  have e2 : ix2 (⟨(y 0).val % 128, by omega⟩ : Fin 128) (y 1) = j := ix2_ext (by show (y 0).val % 128 = _; omega) h1
  show k0_pay574 (xBlk x1 ⟨(y 0).val / 128, _⟩) (ix2 (⟨(y 0).val % 128, _⟩ : Fin 128) (y 1)) = _
  rw [e]; exact congrArg _ e2

/-- The patterns, at an index of a trip's piece. -/
theorem patOf_at (x2 : Vec F S32x128 .i32) (k : Fin 32) (w : Fin 4) (j : S8x128.Idx) (y : S1024x128.Idx)
    (h0 : (y 0).val = 32 * k.val + 8 * w.val + (j 0).val) (h1 : (y 1).val = (j 1).val) :
    patOf (F := F) x2 y = patWin (F := F) (gRow x2 k) (BitVec.ofNat 32 (64 * (w.val / 2))) (BitVec.ofNat 32 (w.val % 2)) j := by
  have hj : (j 0).val < 8 := (j 0).isLt
  have e : (⟨(y 0).val / 32, by have : (y 0).val < 1024 := (y 0).isLt; omega⟩ : Fin 32) = k := Fin.ext (by show (y 0).val / 32 = k.val; omega)
  have ew : (y 0).val / 8 % 4 = w.val := by omega
  have e2 : ix2 (⟨(y 0).val % 8, by omega⟩ : Fin 8) (y 1) = j := ix2_ext (by show (y 0).val % 8 = _; omega) h1
  show patWin (F := F) (gRow x2 ⟨(y 0).val / 32, _⟩) (BitVec.ofNat 32 (64 * ((y 0).val / 8 % 4 / 2))) (BitVec.ofNat 32 ((y 0).val / 8 % 4 % 2)) (ix2 (⟨(y 0).val % 8, _⟩ : Fin 8) (y 1)) = _
  rw [e, ew]; exact congrArg _ e2

/-- The table, at an index of a trip's piece. -/
theorem tabOf_at (x5 : Vec F S32x256 .i32) (c : Fin 16) (t : Fin 2) (ht : t.val = c.val / 8) (j : S8x128.Idx) (y : S128x128.Idx)
    (h0 : (y 0).val = 8 * c.val + (j 0).val) (h1 : (y 1).val = (j 1).val) :
    tabOf (F := F) x5 y = zpTab (F := F) (qzBlk x5 0 t) (qzBlk x5 1 t) (qzBlk x5 2 t) (qzBlk x5 3 t) (BitVec.ofNat 32 (c.val % 8)) j := by
  have hj : (j 0).val < 8 := (j 0).isLt
  have ec : (y 0).val / 8 = c.val := by omega
  have e : (⟨(y 0).val / 8 / 8, by have : (y 0).val < 128 := (y 0).isLt; omega⟩ : Fin 2) = t := Fin.ext (by show (y 0).val / 8 / 8 = t.val; omega)
  have e2 : ix2 (⟨(y 0).val % 8, by omega⟩ : Fin 8) (y 1) = j := ix2_ext (by show (y 0).val % 8 = _; omega) h1
  show zpTab (F := F) (qzBlk x5 0 ⟨(y 0).val / 8 / 8, _⟩) (qzBlk x5 1 ⟨(y 0).val / 8 / 8, _⟩) (qzBlk x5 2 ⟨(y 0).val / 8 / 8, _⟩) (qzBlk x5 3 ⟨(y 0).val / 8 / 8, _⟩) (BitVec.ofNat 32 ((y 0).val / 8 % 8)) (ix2 (⟨(y 0).val % 8, _⟩ : Fin 8) (y 1)) = _
  rw [e, ec]; exact congrArg _ e2

/-- After the loop over the blocks of `x` the buffer holds the rearranged `x`. -/
theorem read_pb_k0_t1 (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole) (k0_h1 : k0_cond1 i = 1#1) (X : BufTy.Contents (Elt F) arg1.view.ty) (f : BufTy.Contents (Elt F) arg7.view.ty) (n : ℕ) (hn : n = k0_t1_loop.trips) :
    arg7.view.read (Elt F) (arg7.view.writes (Elt F) f (pb_k0_t1 (F := F) Variants.none c none i arg1 harg1 arg2 harg2 arg3 harg3 arg4 harg4 arg5 harg5 arg6 harg6 arg7 harg7 arg8 harg8 arg9 harg9 k0_h1 X n)) = xsOf (arg1.view.read (Elt F) X) := by
  subst hn
  funext y
  refine View.read_writes_apply_of_pieces _ f (xsOf (arg1.view.read (Elt F) X)) _ ?_ y ?_
  · intro p hp x
    obtain ⟨k, -, hp⟩ := (mem_pb_k0_t1 (F := F) c i arg1 harg1 arg2 harg2 arg3 harg3 arg4 harg4 arg5 harg5 arg6 harg6 arg7 harg7 arg8 harg8 arg9 harg9 k0_h1 X _ le_rfl p).1 hp
    rw [tripL_k0_t1_eq] at hp
    rw [List.mem_singleton] at hp; subst hp
    have hk : k.val < 32 := by have := k.isLt; have := t1_trips; omega
    have e0 := rectUnit_val (s := S4096x128) (k0_off2 k) S128x128.size (k0_off2_inb i k k0_h1) x 0
    have e1 := rectUnit_val (s := S4096x128) (k0_off2 k) S128x128.size (k0_off2_inb i k k0_h1) x 1
    refine Eq.trans ?_ (xsOf_at _ ⟨k.val, hk⟩ x _ (e0.trans ?_) (e1.trans ?_)).symm
    · refine congrFun (congrArg k0_pay574 (funext fun j => ?_)) x
      refine ld_eq_ix2 (Val := Elt F) _ _ _ _ j _ _ ?_ ?_
      · exact ((congrArg (· + (j 0).val) (congrFun (k0_off1_eq k) 0)).trans (Nat.zero_add _)).symm
      · exact (congrArg (· + (j 1).val) (congrFun (k0_off1_eq k) 1)).symm
    · exact congrArg (· + (x 0).val) (congrFun (k0_off2_eq k) 0)
    · exact (congrArg (· + (x 1).val) (congrFun (k0_off2_eq k) 1)).trans (Nat.zero_add _)
  · have hy : (y 0).val < 4096 := (y 0).isLt
    have hy1 : (y 1).val < 128 := (y 1).isLt
    have hk : (y 0).val / 128 < k0_t1_loop.trips := by rw [t1_trips]; omega
    refine ⟨_, (mem_pb_k0_t1 (F := F) c i arg1 harg1 arg2 harg2 arg3 harg3 arg4 harg4 arg5 harg5 arg6 harg6 arg7 harg7 arg8 harg8 arg9 harg9 k0_h1 X _ le_rfl _).2 ⟨⟨_, hk⟩, hk, by rw [tripL_k0_t1_eq]; exact List.mem_singleton.2 rfl⟩, ?_⟩
    refine mem_set_unit_of (inb := k0_off2_inb i _ k0_h1) (fun a => ?_)
    rw [k0_off2_eq]
    match a with
    | ⟨0, _⟩ => exact (show 128 * ((y 0).val / 128) ≤ (y 0).val ∧ (y 0).val < 128 * ((y 0).val / 128) + 128 by omega)
    | ⟨1, _⟩ => exact (show 0 ≤ (y 1).val ∧ (y 1).val < 0 + 128 by omega)

/-- After the loop over the rows of group indices the buffer holds the stored patterns. -/
theorem read_pb_k0_t2 (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole) (k0_h1 : k0_cond1 i = 1#1) (X : BufTy.Contents (Elt F) arg2.view.ty) (f : BufTy.Contents (Elt F) arg8.view.ty) (n : ℕ) (hn : n = k0_t2_loop.trips) :
    arg8.view.read (Elt F) (arg8.view.writes (Elt F) f (pb_k0_t2 (F := F) Variants.none c none i arg1 harg1 arg2 harg2 arg3 harg3 arg4 harg4 arg5 harg5 arg6 harg6 arg7 harg7 arg8 harg8 arg9 harg9 k0_h1 (iota .tc S8x128 32 [0] iota_S8x128_d0_w32) X n)) = patOf (F := F) (arg2.view.read (Elt F) X) := by
  subst hn
  funext y
  refine View.read_writes_apply_of_pieces _ f (patOf (F := F) (arg2.view.read (Elt F) X)) _ ?_ y ?_
  · intro p hp x
    obtain ⟨k, -, hp⟩ := (mem_pb_k0_t2 (F := F) c i arg1 harg1 arg2 harg2 arg3 harg3 arg4 harg4 arg5 harg5 arg6 harg6 arg7 harg7 arg8 harg8 arg9 harg9 k0_h1 X _ le_rfl p).1 hp
    rw [tripL_k0_t2_eq] at hp
    have hk : k.val < 32 := by have := k.isLt; have := t2_trips; omega
    have hrow : View.ld (arg2.view.read (Elt F) X) (Rect.unit (s := S32x128) (k0_off3 k) S1x128.size (k0_off3_inb i k k0_h1)) = gRow (arg2.view.read (Elt F) X) ⟨k.val, hk⟩ := by
      refine funext fun j => ?_
      refine ld_eq_ix2 (Val := Elt F) _ _ _ _ j _ _ ?_ ?_
      · refine ((congrArg (· + (j 0).val) (congrFun (k0_off3_eq k) 0)).trans ?_).symm
        show k.val + (j 0).val = k.val; have : (j 0).val < 1 := (j 0).isLt; omega
      · exact ((congrArg (· + (j 1).val) (congrFun (k0_off3_eq k) 1)).trans (Nat.zero_add _)).symm
    rw [hrow] at hp
    simp only [List.mem_cons, List.not_mem_nil, or_false] at hp
    rcases hp with rfl | rfl | rfl | rfl
    · have e0 := rectUnit_val (s := S1024x128) (k0_off4 k 24#32) S8x128.size (k0_off4_inb i k k0_h1 3) x 0
      have e1 := rectUnit_val (s := S1024x128) (k0_off4 k 24#32) S8x128.size (k0_off4_inb i k k0_h1 3) x 1
      have eo : k0_off4 k 24#32 = ![32 * k.val + 8 * 3, 0] := k0_off4_eq k 3
      refine (patOf_at _ ⟨k.val, hk⟩ 3 x _ (e0.trans ?_) (e1.trans ?_)).symm
      · exact congrArg (· + (x 0).val) (congrFun eo 0)
      · exact (congrArg (· + (x 1).val) (congrFun eo 1)).trans (Nat.zero_add _)
    · have e0 := rectUnit_val (s := S1024x128) (k0_off4 k 16#32) S8x128.size (k0_off4_inb i k k0_h1 2) x 0
      have e1 := rectUnit_val (s := S1024x128) (k0_off4 k 16#32) S8x128.size (k0_off4_inb i k k0_h1 2) x 1
      have eo : k0_off4 k 16#32 = ![32 * k.val + 8 * 2, 0] := k0_off4_eq k 2
      refine (patOf_at _ ⟨k.val, hk⟩ 2 x _ (e0.trans ?_) (e1.trans ?_)).symm
      · exact congrArg (· + (x 0).val) (congrFun eo 0)
      · exact (congrArg (· + (x 1).val) (congrFun eo 1)).trans (Nat.zero_add _)
    · have e0 := rectUnit_val (s := S1024x128) (k0_off4 k 8#32) S8x128.size (k0_off4_inb i k k0_h1 1) x 0
      have e1 := rectUnit_val (s := S1024x128) (k0_off4 k 8#32) S8x128.size (k0_off4_inb i k k0_h1 1) x 1
      have eo : k0_off4 k 8#32 = ![32 * k.val + 8 * 1, 0] := k0_off4_eq k 1
      refine (patOf_at _ ⟨k.val, hk⟩ 1 x _ (e0.trans ?_) (e1.trans ?_)).symm
      · exact congrArg (· + (x 0).val) (congrFun eo 0)
      · exact (congrArg (· + (x 1).val) (congrFun eo 1)).trans (Nat.zero_add _)
    · have e0 := rectUnit_val (s := S1024x128) (k0_off4 k 0#32) S8x128.size (k0_off4_inb i k k0_h1 0) x 0
      have e1 := rectUnit_val (s := S1024x128) (k0_off4 k 0#32) S8x128.size (k0_off4_inb i k k0_h1 0) x 1
      have eo : k0_off4 k 0#32 = ![32 * k.val + 8 * 0, 0] := k0_off4_eq k 0
      refine (patOf_at _ ⟨k.val, hk⟩ 0 x _ (e0.trans ?_) (e1.trans ?_)).symm
      · exact congrArg (· + (x 0).val) (congrFun eo 0)
      · exact (congrArg (· + (x 1).val) (congrFun eo 1)).trans (Nat.zero_add _)

  · have hy : (y 0).val < 1024 := (y 0).isLt
    have hy1 : (y 1).val < 128 := (y 1).isLt
    have hk : (y 0).val / 32 < k0_t2_loop.trips := by rw [t2_trips]; omega
    have hw : (y 0).val / 8 % 4 = 0 ∨ (y 0).val / 8 % 4 = 1 ∨ (y 0).val / 8 % 4 = 2 ∨ (y 0).val / 8 % 4 = 3 := by omega
    rcases hw with hw | hw | hw | hw
    · refine ⟨_, (mem_pb_k0_t2 (F := F) c i arg1 harg1 arg2 harg2 arg3 harg3 arg4 harg4 arg5 harg5 arg6 harg6 arg7 harg7 arg8 harg8 arg9 harg9 k0_h1 X _ le_rfl _).2 ⟨⟨_, hk⟩, hk, by rw [tripL_k0_t2_eq]; exact List.mem_cons_of_mem _ (List.mem_cons_of_mem _ (List.mem_cons_of_mem _ (List.mem_cons_self)))⟩, ?_⟩
      have eo : k0_off4 ⟨(y 0).val / 32, hk⟩ 0#32 = ![32 * ((y 0).val / 32) + 8 * 0, 0] := k0_off4_eq ⟨_, hk⟩ 0
      refine mem_set_unit_of (inb := k0_off4_inb i _ k0_h1 0) (fun a => ?_)
      rw [eo]
      match a with
      | ⟨0, _⟩ => exact (show 32 * ((y 0).val / 32) + 8 * 0 ≤ (y 0).val ∧ (y 0).val < 32 * ((y 0).val / 32) + 8 * 0 + 8 by omega)
      | ⟨1, _⟩ => exact (show 0 ≤ (y 1).val ∧ (y 1).val < 0 + 128 by omega)
    · refine ⟨_, (mem_pb_k0_t2 (F := F) c i arg1 harg1 arg2 harg2 arg3 harg3 arg4 harg4 arg5 harg5 arg6 harg6 arg7 harg7 arg8 harg8 arg9 harg9 k0_h1 X _ le_rfl _).2 ⟨⟨_, hk⟩, hk, by rw [tripL_k0_t2_eq]; exact List.mem_cons_of_mem _ (List.mem_cons_of_mem _ (List.mem_cons_self))⟩, ?_⟩
      have eo : k0_off4 ⟨(y 0).val / 32, hk⟩ 8#32 = ![32 * ((y 0).val / 32) + 8 * 1, 0] := k0_off4_eq ⟨_, hk⟩ 1
      refine mem_set_unit_of (inb := k0_off4_inb i _ k0_h1 1) (fun a => ?_)
      rw [eo]
      match a with
      | ⟨0, _⟩ => exact (show 32 * ((y 0).val / 32) + 8 * 1 ≤ (y 0).val ∧ (y 0).val < 32 * ((y 0).val / 32) + 8 * 1 + 8 by omega)
      | ⟨1, _⟩ => exact (show 0 ≤ (y 1).val ∧ (y 1).val < 0 + 128 by omega)
    · refine ⟨_, (mem_pb_k0_t2 (F := F) c i arg1 harg1 arg2 harg2 arg3 harg3 arg4 harg4 arg5 harg5 arg6 harg6 arg7 harg7 arg8 harg8 arg9 harg9 k0_h1 X _ le_rfl _).2 ⟨⟨_, hk⟩, hk, by rw [tripL_k0_t2_eq]; exact List.mem_cons_of_mem _ (List.mem_cons_self)⟩, ?_⟩
      have eo : k0_off4 ⟨(y 0).val / 32, hk⟩ 16#32 = ![32 * ((y 0).val / 32) + 8 * 2, 0] := k0_off4_eq ⟨_, hk⟩ 2
      refine mem_set_unit_of (inb := k0_off4_inb i _ k0_h1 2) (fun a => ?_)
      rw [eo]
      match a with
      | ⟨0, _⟩ => exact (show 32 * ((y 0).val / 32) + 8 * 2 ≤ (y 0).val ∧ (y 0).val < 32 * ((y 0).val / 32) + 8 * 2 + 8 by omega)
      | ⟨1, _⟩ => exact (show 0 ≤ (y 1).val ∧ (y 1).val < 0 + 128 by omega)
    · refine ⟨_, (mem_pb_k0_t2 (F := F) c i arg1 harg1 arg2 harg2 arg3 harg3 arg4 harg4 arg5 harg5 arg6 harg6 arg7 harg7 arg8 harg8 arg9 harg9 k0_h1 X _ le_rfl _).2 ⟨⟨_, hk⟩, hk, by rw [tripL_k0_t2_eq]; exact List.mem_cons_self⟩, ?_⟩
      have eo : k0_off4 ⟨(y 0).val / 32, hk⟩ 24#32 = ![32 * ((y 0).val / 32) + 8 * 3, 0] := k0_off4_eq ⟨_, hk⟩ 3
      refine mem_set_unit_of (inb := k0_off4_inb i _ k0_h1 3) (fun a => ?_)
      rw [eo]
      match a with
      | ⟨0, _⟩ => exact (show 32 * ((y 0).val / 32) + 8 * 3 ≤ (y 0).val ∧ (y 0).val < 32 * ((y 0).val / 32) + 8 * 3 + 8 by omega)
      | ⟨1, _⟩ => exact (show 0 ≤ (y 1).val ∧ (y 1).val < 0 + 128 by omega)

/-- Where a table trip reads a block of packed zero points. -/
theorem k0_off5_closed : ∀ k : Fin k0_t3_loop.trips, k0_off5 k = ![0, 128 * (k.val / 8)] := by decide +kernel
/-- Where a table trip reads a block of packed zero points. -/
theorem k0_off6_closed : ∀ k : Fin k0_t3_loop.trips, k0_off6 k = ![8, 128 * (k.val / 8)] := by decide +kernel
/-- Where a table trip reads a block of packed zero points. -/
theorem k0_off7_closed : ∀ k : Fin k0_t3_loop.trips, k0_off7 k = ![16, 128 * (k.val / 8)] := by decide +kernel
/-- Where a table trip reads a block of packed zero points. -/
theorem k0_off8_closed : ∀ k : Fin k0_t3_loop.trips, k0_off8 k = ![24, 128 * (k.val / 8)] := by decide +kernel
/-- Which eighth of a block of packed zero points a table trip takes. -/
theorem t3_part : ∀ k : Fin k0_t3_loop.trips, Scalar.andi (Scalar.addi 0#32 (Scalar.muli (Scf.iv 0#32 1#32 k) 1#32)) 7#32 = BitVec.ofNat 32 (k.val % 8) := by decide +kernel

/-- After the loop over the chunks of columns the buffer holds the table of zero points. -/
theorem read_pb_k0_t3 (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole) (X : BufTy.Contents (Elt F) arg5.view.ty) (f : BufTy.Contents (Elt F) arg9.view.ty) (n : ℕ) (hn : n = k0_t3_loop.trips) :
    arg9.view.read (Elt F) (arg9.view.writes (Elt F) f (pb_k0_t3 (F := F) Variants.none c none i arg1 harg1 arg2 harg2 arg3 harg3 arg4 harg4 arg5 harg5 arg6 harg6 arg7 harg7 arg8 harg8 arg9 harg9 (iota .tc S8x128 32 [1] iota_S8x128_d1_w32) X n)) = tabOf (F := F) (arg5.view.read (Elt F) X) := by
  subst hn
  funext y
  refine View.read_writes_apply_of_pieces _ f (tabOf (F := F) (arg5.view.read (Elt F) X)) _ ?_ y ?_
  · intro p hp x
    obtain ⟨k, -, hp⟩ := (mem_pb_k0_t3 (F := F) c i arg1 harg1 arg2 harg2 arg3 harg3 arg4 harg4 arg5 harg5 arg6 harg6 arg7 harg7 arg8 harg8 arg9 harg9 X _ le_rfl p).1 hp
    rw [tripL_k0_t3_eq] at hp
    rw [List.mem_singleton] at hp; subst hp
    have hk : k.val < 16 := by have := k.isLt; have := t3_trips; omega
    have e0 := rectUnit_val (s := S128x128) (k0_off9 k) S8x128.size (k0_off9_inb k) x 0
    have e1 := rectUnit_val (s := S128x128) (k0_off9 k) S8x128.size (k0_off9_inb k) x 1
    refine Eq.trans ?_ (tabOf_at _ ⟨k.val, hk⟩ ⟨k.val / 8, by omega⟩ rfl x _ (e0.trans ?_) (e1.trans ?_)).symm
    · have hp3 := t3_part k
      have q0 : View.ld (arg5.view.read (Elt F) X) (Rect.unit (s := S32x256) (k0_off5 k) S8x128.size (k0_off5_inb k)) = qzBlk (arg5.view.read (Elt F) X) 0 ⟨k.val / 8, by omega⟩ := by
        refine funext fun j => ?_
        refine ld_eq_ix2 (Val := Elt F) _ _ _ _ j _ _ ?_ ?_
        · exact (congrArg (· + (j 0).val) (congrFun (k0_off5_closed k) 0)).symm
        · exact (congrArg (· + (j 1).val) (congrFun (k0_off5_closed k) 1)).symm
      have q1 : View.ld (arg5.view.read (Elt F) X) (Rect.unit (s := S32x256) (k0_off6 k) S8x128.size (k0_off6_inb k)) = qzBlk (arg5.view.read (Elt F) X) 1 ⟨k.val / 8, by omega⟩ := by
        refine funext fun j => ?_
        refine ld_eq_ix2 (Val := Elt F) _ _ _ _ j _ _ ?_ ?_
        · exact (congrArg (· + (j 0).val) (congrFun (k0_off6_closed k) 0)).symm
        · exact (congrArg (· + (j 1).val) (congrFun (k0_off6_closed k) 1)).symm
      have q2 : View.ld (arg5.view.read (Elt F) X) (Rect.unit (s := S32x256) (k0_off7 k) S8x128.size (k0_off7_inb k)) = qzBlk (arg5.view.read (Elt F) X) 2 ⟨k.val / 8, by omega⟩ := by
        refine funext fun j => ?_
        refine ld_eq_ix2 (Val := Elt F) _ _ _ _ j _ _ ?_ ?_
        · exact (congrArg (· + (j 0).val) (congrFun (k0_off7_closed k) 0)).symm
        · exact (congrArg (· + (j 1).val) (congrFun (k0_off7_closed k) 1)).symm
      have q3 : View.ld (arg5.view.read (Elt F) X) (Rect.unit (s := S32x256) (k0_off8 k) S8x128.size (k0_off8_inb k)) = qzBlk (arg5.view.read (Elt F) X) 3 ⟨k.val / 8, by omega⟩ := by
        refine funext fun j => ?_
        refine ld_eq_ix2 (Val := Elt F) _ _ _ _ j _ _ ?_ ?_
        · exact (congrArg (· + (j 0).val) (congrFun (k0_off8_closed k) 0)).symm
        · exact (congrArg (· + (j 1).val) (congrFun (k0_off8_closed k) 1)).symm
      rw [q0, q1, q2, q3, hp3]
    · exact congrArg (· + (x 0).val) (congrFun (k0_off9_eq k) 0)
    · exact (congrArg (· + (x 1).val) (congrFun (k0_off9_eq k) 1)).trans (Nat.zero_add _)
  · have hy : (y 0).val < 128 := (y 0).isLt
    have hy1 : (y 1).val < 128 := (y 1).isLt
    have hk : (y 0).val / 8 < k0_t3_loop.trips := by rw [t3_trips]; omega
    refine ⟨_, (mem_pb_k0_t3 (F := F) c i arg1 harg1 arg2 harg2 arg3 harg3 arg4 harg4 arg5 harg5 arg6 harg6 arg7 harg7 arg8 harg8 arg9 harg9 X _ le_rfl _).2 ⟨⟨_, hk⟩, hk, by rw [tripL_k0_t3_eq]; exact List.mem_singleton.2 rfl⟩, ?_⟩
    refine mem_set_unit_of (inb := k0_off9_inb _) (fun a => ?_)
    rw [k0_off9_eq]
    match a with
    | ⟨0, _⟩ => exact (show 8 * ((y 0).val / 8) ≤ (y 0).val ∧ (y 0).val < 8 * ((y 0).val / 8) + 8 by omega)
    | ⟨1, _⟩ => exact (show 0 ≤ (y 1).val ∧ (y 1).val < 0 + 128 by omega)

end Cert.Proof.K

end
-- ==== Proof.KernelRun.lean ====
/-
  THE RUN of the body: the state of the matrix unit after each trip of the loop over the blocks of contracted
  rows, what the body leaves in the result block and in the three scratch buffers, and the body's triple.
-/
module

public import proofs.«01_k».proof.Proof.KernelStep
public import proofs.«01_k».proof.Proof.KernelPrep
public import proofs.«01_k».proof.Proof.Gen.Kernel.Frame
public import proofs.«01_k».proof.Proof.Gen.Kernel.Skeleton
public import proofs.«01_k».proof.Proof.Gen.Kernel.Loops
public import Idealize.ShloMosaic.Lib.Claim
public import Idealize.ShloMosaic.Lib.Mxu.Lemmas
public import Idealize.ShloMosaic.Lib.Mxu.Walk

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## The matrix unit's state -/

/-- The state of the matrix unit before trip `k`. -/
def mxuAt (x3 : Vec F S512x2048 .i32) (x4 : Vec F S32x2048 .bf16) (x7 : Vec F S4096x128 .bf16) (x8 : Vec F S1024x128 .i32) (x9 : Vec F S128x128 .i32) : ℕ → Mxu F
  | 0 => Mxu.init
  | k + 1 => if h : k < k0_t4_loop.trips then kStep x3 x4 x7 x8 x9 ⟨k, h⟩ (mxuAt x3 x4 x7 x8 x9 k) else mxuAt x3 x4 x7 x8 x9 k

/-- The matrix unit's state after one more trip. -/
theorem mxuAt_succ (x3 : Vec F S512x2048 .i32) (x4 : Vec F S32x2048 .bf16) (x7 : Vec F S4096x128 .bf16) (x8 : Vec F S1024x128 .i32) (x9 : Vec F S128x128 .i32) (k : Fin k0_t4_loop.trips) :
    mxuAt x3 x4 x7 x8 x9 (k.val + 1) = kStep x3 x4 x7 x8 x9 k (mxuAt x3 x4 x7 x8 x9 k.val) := by
  rw [mxuAt, dif_pos k.isLt]

/-- No weights staged, and nothing in the second unit's result buffer. -/
def Quiet (s : Mxu F) : Prop := (∀ q r, s.reg q r = none) ∧ ∀ R, s.live 1 R = false

/-- Nothing is pending in the matrix unit before the first trip. -/
theorem quiet_init : Quiet (Mxu.init : Mxu F) := ⟨fun q r => Mxu.reg_init .., fun R => Mxu.live_init ..⟩

/-- Weights staged and used at once leave nothing staged. -/
theorem quiet_pass (s : Mxu F) (hs : Quiet s) (r : Fin 2) (A : ℕ) (w : FVec F S256x256 .bf16) (lhs : FVec F S128x256 .bf16) (h : Mxu.Fits A 128) :
    Quiet ((s.pushed 0 r false w).accLhs 0 r A lhs h) := by
  refine ⟨fun q' r' => ?_, fun R => ?_⟩
  · by_cases hne : q' = 0 ∧ r' = r
    · obtain ⟨rfl, rfl⟩ := hne
      exact Mxu.reg_accLhs ..
    · rw [Mxu.reg_accLhs_ne _ _ _ _ _ _ _ _ hne, Mxu.reg_pushed_ne _ _ _ _ _ _ _ hne]
      exact hs.1 q' r'
  · rw [Mxu.live_accLhs, if_neg (fun hh => absurd hh.1 (by decide)), Mxu.live_pushed]
    exact hs.2 R

/-- A trip leaves nothing pending. -/
theorem quiet_kStep (x3 : Vec F S512x2048 .i32) (x4 : Vec F S32x2048 .bf16) (x7 : Vec F S4096x128 .bf16) (x8 : Vec F S1024x128 .i32) (x9 : Vec F S128x128 .i32) (k : Fin k0_t4_loop.trips) (s : Mxu F) (hs : Quiet s) : Quiet (kStep x3 x4 x7 x8 x9 k s) := by
  unfold kStep
  repeat' (first | exact hs | apply quiet_pass)

/-- Nothing is pending between trips. -/
theorem quiet_mxuAt (x3 : Vec F S512x2048 .i32) (x4 : Vec F S32x2048 .bf16) (x7 : Vec F S4096x128 .bf16) (x8 : Vec F S1024x128 .i32) (x9 : Vec F S128x128 .i32) : ∀ n, Quiet (mxuAt x3 x4 x7 x8 x9 n)
  | 0 => quiet_init
  | n + 1 => by
    rw [mxuAt]; split
    · exact quiet_kStep x3 x4 x7 x8 x9 _ _ (quiet_mxuAt x3 x4 x7 x8 x9 n)
    · exact quiet_mxuAt x3 x4 x7 x8 x9 n

/-- The eight results read out in turn leave the unit as it began. -/
theorem drained_pops (s : Mxu F) (hs : Quiet s) :
    ((((((((s.pop 0 0 128 fits_0_128).pop 0 32 128 fits_32_128).pop 0 64 128 fits_64_128).pop 0 96 128 fits_96_128).pop 0 128 128 fits_128_128).pop 0 160 128 fits_160_128).pop 0 192 128 fits_192_128).pop 0 224 128 fits_224_128).Drained := by
  refine ⟨fun q r => ?_, fun q R => ?_⟩
  · simp only [Mxu.reg_pop, hs.1 q r, Option.isNone_none]
  · simp only [Mxu.live_pop]
    have hR : R.val < 1024 := R.isLt
    have hq : q = 0 ∨ q = 1 := by omega
    rcases hq with rfl | rfl
    · split_ifs <;> first | rfl | (exfalso; simp only [true_and] at *; omega)
    · simp only [hs.2 R, ite_self]

/-! ## The loop over the blocks of contracted rows -/

set_option warn.classDefReducibility false in
/-- The loop: before trip `k` the unit is at `mxuAt k`; the buffers are only read. -/
@[sl_loop] def loopInv_k0_t4 (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole)
    (f3 : BufTy.Contents (Elt F) arg3.view.ty) (f4 : BufTy.Contents (Elt F) arg4.view.ty) (f7 : BufTy.Contents (Elt F) arg7.view.ty) (f8 : BufTy.Contents (Elt F) arg8.view.ty) (f9 : BufTy.Contents (Elt F) arg9.view.ty) :
    LoopInvTy_k0_t4 (F := F) Unit ℕ (UR sig nD τ) ℕ Variants.none c none Set.univ i arg1 harg1 arg2 harg2 arg3 harg3 arg4 harg4 arg5 harg5 arg6 harg6 arg7 harg7 arg8 harg8 arg9 harg9 (Mxu.init : Mxu F) where
  inv k s := iprop(Trip4 (F := F) c arg3 arg4 arg7 arg8 arg9 f3 f4 f7 f8 f9 ∗ ⌜s = mxuAt (arg3.view.read (Elt F) f3) (arg4.view.read (Elt F) f4) (arg7.view.read (Elt F) f7) (arg8.view.read (Elt F) f8) (arg9.view.read (Elt F) f9) k⌝)
  step k acc := by
    iintro ⟨HT, %h⟩
    subst h
    have hq := quiet_mxuAt (arg3.view.read (Elt F) f3) (arg4.view.read (Elt F) f4) (arg7.view.read (Elt F) f7) (arg8.view.read (Elt F) f8) (arg9.view.read (Elt F) f9) k.val
    iapply (wp_wand_r Idealize.ShloMosaic.frame (wpE (defs₀ (F := F)) Variants.none (c : Thread nD τ) none) Set.univ)
    isplitl [HT]
    · iapply ((trip4 c i arg1 harg1 arg2 harg2 arg3 harg3 arg4 harg4 arg5 harg5 arg6 harg6 arg7 harg7 arg8 harg8 arg9 harg9 f3 f4 f7 f8 f9 k _ (hq.1 0 0) (hq.1 0 1)).2)
      iexact HT
    · iintro %s' ⟨%hs', HT⟩
      isplitl [HT]; · iexact HT
      ipureintro
      rw [hs', trip4_val, mxuAt_succ]

/-! ## What the body leaves in the result block -/

abbrev rOut0 : Rect S128x2048 := Rect.unit (s := S128x2048) ![0, 0] S128x256.size inb_S128x2048_S128x256_0_0
abbrev rOut1 : Rect S128x2048 := Rect.unit (s := S128x2048) ![0, 256] S128x256.size inb_S128x2048_S128x256_0_256
abbrev rOut2 : Rect S128x2048 := Rect.unit (s := S128x2048) ![0, 512] S128x256.size inb_S128x2048_S128x256_0_512
abbrev rOut3 : Rect S128x2048 := Rect.unit (s := S128x2048) ![0, 768] S128x256.size inb_S128x2048_S128x256_0_768
abbrev rOut4 : Rect S128x2048 := Rect.unit (s := S128x2048) ![0, 1024] S128x256.size inb_S128x2048_S128x256_0_1024
abbrev rOut5 : Rect S128x2048 := Rect.unit (s := S128x2048) ![0, 1280] S128x256.size inb_S128x2048_S128x256_0_1280
abbrev rOut6 : Rect S128x2048 := Rect.unit (s := S128x2048) ![0, 1536] S128x256.size inb_S128x2048_S128x256_0_1536
abbrev rOut7 : Rect S128x2048 := Rect.unit (s := S128x2048) ![0, 1792] S128x256.size inb_S128x2048_S128x256_0_1792

/-- The eight stores of the result block, last first: the eight results read out in turn. -/
def outPieces (s : Mxu F) : List (View.Piece (Elt F) S128x2048 .bf16) :=
  [⟨rOut7, k0_pay3 ((((((((s.pop 0 0 128 fits_0_128).pop 0 32 128 fits_32_128).pop 0 64 128 fits_64_128).pop 0 96 128 fits_96_128).pop 0 128 128 fits_128_128).pop 0 160 128 fits_160_128).pop 0 192 128 fits_192_128).read 0 224 fits_224_128)⟩,
   ⟨rOut6, k0_pay2 (((((((s.pop 0 0 128 fits_0_128).pop 0 32 128 fits_32_128).pop 0 64 128 fits_64_128).pop 0 96 128 fits_96_128).pop 0 128 128 fits_128_128).pop 0 160 128 fits_160_128).read 0 192 fits_192_128)⟩,
   ⟨rOut5, k0_pay1 ((((((s.pop 0 0 128 fits_0_128).pop 0 32 128 fits_32_128).pop 0 64 128 fits_64_128).pop 0 96 128 fits_96_128).pop 0 128 128 fits_128_128).read 0 160 fits_160_128)⟩,
   ⟨rOut4, k0_pay585 (((((s.pop 0 0 128 fits_0_128).pop 0 32 128 fits_32_128).pop 0 64 128 fits_64_128).pop 0 96 128 fits_96_128).read 0 128 fits_128_128)⟩,
   ⟨rOut3, k0_pay584 ((((s.pop 0 0 128 fits_0_128).pop 0 32 128 fits_32_128).pop 0 64 128 fits_64_128).read 0 96 fits_96_128)⟩,
   ⟨rOut2, k0_pay583 (((s.pop 0 0 128 fits_0_128).pop 0 32 128 fits_32_128).read 0 64 fits_64_128)⟩,
   ⟨rOut1, k0_pay582 ((s.pop 0 0 128 fits_0_128).read 0 32 fits_32_128)⟩,
   ⟨rOut0, k0_pay581 (s.read 0 0 fits_0_128)⟩]

/-- The eight tiles cover the result block. -/
theorem cover_out (s : Mxu F) (y : S128x2048.Idx) : ∃ pc ∈ outPieces s, y ∈ pc.1.set :=
  View.cover_of_tiled (outPieces s) S128x256.size (by rfl) y

/-- The result block from what the buffers hold. -/
def outOf (x3 : Vec F S512x2048 .i32) (x4 : Vec F S32x2048 .bf16) (x7 : Vec F S4096x128 .bf16) (x8 : Vec F S1024x128 .i32) (x9 : Vec F S128x128 .i32) : Vec F S128x2048 .bf16 :=
  View.canon (outPieces (mxuAt x3 x4 x7 x8 x9 k0_t4_loop.trips))

/-! ## The body's triple -/

/-- The body at the first point: it fills the rearranged `x` and the patterns, then computes the block. -/
theorem sound_first (c : Dev nD) (i : grid0.Coords) (hc : k0_cond1 i = 1#1) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole)
    (x1 : Vec F S128x4096 .bf16) (x2 : Vec F S32x128 .i32) (x3 : Vec F S512x2048 .i32) (x4 : Vec F S32x2048 .bf16) (x5 : Vec F S32x256 .i32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outOf x3 x4 (xsOf x1) (patOf (F := F) x2) (tabOf (F := F) x5)) ∗ owns (c : Thread nD τ) arg7 fullShare (xsOf x1) ∗ owns (c : Thread nD τ) arg8 fullShare (patOf (F := F) x2) ∗ (∃ d, owns (c : Thread nD τ) arg9 fullShare d)) -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    have e := View.read_writes_eq_canon (Val := Elt F) arg6.view f6 _ (cover_out (mxuAt (arg3.view.read (Elt F) f3) (arg4.view.read (Elt F) f4) (arg7.view.read (Elt F) (arg7.view.writes (Elt F) f7 (pb_k0_t1 (F := F) Variants.none c none i arg1 harg1 arg2 harg2 arg3 harg3 arg4 harg4 arg5 harg5 arg6 harg6 arg7 harg7 arg8 harg8 arg9 harg9 hc f1 k0_t1_loop.trips))) (arg8.view.read (Elt F) (arg8.view.writes (Elt F) f8 (pb_k0_t2 (F := F) Variants.none c none i arg1 harg1 arg2 harg2 arg3 harg3 arg4 harg4 arg5 harg5 arg6 harg6 arg7 harg7 arg8 harg8 arg9 harg9 hc (iota .tc S8x128 32 [0] iota_S8x128_d0_w32) f2 k0_t2_loop.trips))) (arg9.view.read (Elt F) (arg9.view.writes (Elt F) f9 (pb_k0_t3 (F := F) Variants.none c none i arg1 harg1 arg2 harg2 arg3 harg3 arg4 harg4 arg5 harg5 arg6 harg6 arg7 harg7 arg8 harg8 arg9 harg9 (iota .tc S8x128 32 [1] iota_S8x128_d1_w32) f5 k0_t3_loop.trips))) k0_t4_loop.trips))
    refine Eq.trans e ?_
    unfold outOf
    rw [read_pb_k0_t1 (F := F) c i arg1 harg1 arg2 harg2 arg3 harg3 arg4 harg4 arg5 harg5 arg6 harg6 arg7 harg7 arg8 harg8 arg9 harg9 hc f1 f7 _ rfl, read_pb_k0_t2 (F := F) c i arg1 harg1 arg2 harg2 arg3 harg3 arg4 harg4 arg5 harg5 arg6 harg6 arg7 harg7 arg8 harg8 arg9 harg9 hc f2 f8 _ rfl, read_pb_k0_t3 (F := F) c i arg1 harg1 arg2 harg2 arg3 harg3 arg4 harg4 arg5 harg5 arg6 harg6 arg7 harg7 arg8 harg8 arg9 harg9 f5 f9 _ rfl]
  isplitl [H7]
  · iexists _; isplitr
    swap; · iexact H7
    ipureintro
    exact read_pb_k0_t1 (F := F) c i arg1 harg1 arg2 harg2 arg3 harg3 arg4 harg4 arg5 harg5 arg6 harg6 arg7 harg7 arg8 harg8 arg9 harg9 hc f1 f7 _ rfl
  isplitl [H8]
  · iexists _; isplitr
    swap; · iexact H8
    ipureintro
    exact read_pb_k0_t2 (F := F) c i arg1 harg1 arg2 harg2 arg3 harg3 arg4 harg4 arg5 harg5 arg6 harg6 arg7 harg7 arg8 harg8 arg9 harg9 hc f2 f8 _ rfl
  iexists _, _; isplitr
  swap; · iexact H9
  ipureintro; rfl

/-- The body at a later point: it finds the rearranged `x` and the patterns, and computes the block. -/
theorem sound_later (c : Dev nD) (i : grid0.Coords) (hc : ¬ k0_cond1 i = 1#1) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole)
    (x1 : Vec F S128x4096 .bf16) (x2 : Vec F S32x128 .i32) (x3 : Vec F S512x2048 .i32) (x4 : Vec F S32x2048 .bf16) (x5 : Vec F S32x256 .i32) (x7 : Vec F S4096x128 .bf16) (x8 : Vec F S1024x128 .i32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare x7 ∗ owns (c : Thread nD τ) arg8 fullShare x8 ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outOf x3 x4 x7 x8 (tabOf (F := F) x5)) ∗ owns (c : Thread nD τ) arg7 fullShare x7 ∗ owns (c : Thread nD τ) arg8 fullShare x8 ∗ (∃ d, owns (c : Thread nD τ) arg9 fullShare d)) -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, Hk⟩
  subst hf1 hf2 hf3 hf4 hf5 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    have e := View.read_writes_eq_canon (Val := Elt F) arg6.view f6 _ (cover_out (mxuAt (arg3.view.read (Elt F) f3) (arg4.view.read (Elt F) f4) (arg7.view.read (Elt F) f7) (arg8.view.read (Elt F) f8) (arg9.view.read (Elt F) (arg9.view.writes (Elt F) f9 (pb_k0_t3 (F := F) Variants.none c none i arg1 harg1 arg2 harg2 arg3 harg3 arg4 harg4 arg5 harg5 arg6 harg6 arg7 harg7 arg8 harg8 arg9 harg9 (iota .tc S8x128 32 [1] iota_S8x128_d1_w32) f5 k0_t3_loop.trips))) k0_t4_loop.trips))
    refine Eq.trans e ?_
    unfold outOf
    rw [read_pb_k0_t3 (F := F) c i arg1 harg1 arg2 harg2 arg3 harg3 arg4 harg4 arg5 harg5 arg6 harg6 arg7 harg7 arg8 harg8 arg9 harg9 f5 f9 _ rfl]
  isplitl [H7]
  · iexists f7; isplitr; · ipureintro; rfl
    iexact H7
  isplitl [H8]
  · iexists f8; isplitr; · ipureintro; rfl
    iexact H8
  iexists _, _; isplitr
  swap; · iexact H9
  ipureintro; rfl

end Cert.Proof.K

end
-- ==== Proof.KernelLaunch.lean ====
/-
  THE LAUNCH: the body at every point of the grid, the rearranged `x` and the stored patterns carried from the first
  point to the later ones, and the run of the whole program.
-/
module

public import proofs.«01_k».proof.Proof.KernelRun
public import proofs.«01_k».proof.Proof.Gen.Kernel.Frame
public import proofs.«01_k».proof.Proof.Gen.Kernel.Skeleton
public import proofs.«01_k».proof.Proof.Gen.Kernel.Loops
public import Idealize.ShloMosaic.Lib.Claim
public import Idealize.ShloMosaic.Lib.Mxu.Lemmas
public import Idealize.ShloMosaic.Lib.Mxu.Walk

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The one block of `x`. -/
def xIn (c : Dev nD) : Vec F S128x4096 .bf16 := iblk m c 0 ⟨0, by decide⟩
/-- The one block of group indices. -/
def gIn (c : Dev nD) : Vec F S32x128 .i32 := iblk m c 1 ⟨0, by decide⟩

/-- The input's block is the same at every point. -/
theorem iblk0_eq (c : Dev nD) (t : Fin cfg0.N) : iblk m c 0 t = xIn m c := rfl
/-- The groups' block is the same at every point. -/
theorem iblk1_eq (c : Dev nD) (t : Fin cfg0.N) : iblk m c 1 t = gIn m c := rfl

/-- The result block at point `t`. -/
def resBlk (c : Dev nD) (t : Fin cfg0.N) : Vec F S128x2048 .bf16 :=
  outOf (iblk m c 2 t) (iblk m c 3 t) (xsOf (xIn m c)) (patOf (F := F) (gIn m c)) (tabOf (F := F) (iblk m c 4 t))

/-- What the scratch buffers hold after the first point: the rearranged `x`, the stored patterns, and some table. -/
def kept (c : Dev nD) : sProp 𝕄 :=
  iprop((((c : Thread nD τ).loc cc0_scratch0) ↦{fullShare} (xsOf (xIn m c) : Vec F S4096x128 .bf16))
    ∗ (((c : Thread nD τ).loc cc0_scratch1) ↦{fullShare} (patOf (F := F) (gIn m c) : Vec F S1024x128 .i32))
    ∗ (∃ f : Buf (Elt F) ((c : Thread nD τ).loc cc0_scratch2), ((c : Thread nD τ).loc cc0_scratch2) ↦{fullShare} f)
    ∗ ∃ r, prngReg c r)

/-- The proof data: each input's buffer is left at its block, the result's at `resBlk`; before the first point the
    scratch buffers hold anything, after it what `kept` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => resBlk m c t
  Φ t := if t.val = 0 then Pipeline.ΦA spec0 c else kept m c
  q _ := fullShare
  owed _ := 0

/-- What the scratch buffers hold between points. -/
theorem Phi_eq (c : Dev nD) (t : Fin (cfg0.N + 1)) : (dats m 0 c).Φ t = if t.val = 0 then Pipeline.ΦA spec0 c else kept m c := by
  dsimp only [dats]

/-- The arrays start as the region finds them. -/
theorem A_eq (c : Dev nD) (w : Fin cfg0.W) : (dats m 0 c).A w = V m c (Pipeline.arrRef spec0 w) := by
  dsimp only [dats]

/-- What window 0 holds after a point. -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = iblk m c 4 t := by dsimp only [dats]
/-- What window 5 holds after a point. -/
theorem after0_5 (c : Dev nD) (t : Fin cfg0.N) : (dats m 0 c).after 5 t = resBlk m c t := by dsimp only [dats]

/-- What window 0 holds before a point: its block. -/
theorem before0_0 (c : Dev nD) (t : Fin cfg0.N) (d) : (dats m 0 c).before 0 t d = iblk m c 0 t :=
  before0_0_of m (dats m 0 c) (A_eq m c 0) (after0_0 m c) t d
/-- What window 1 holds before a point: its block. -/
theorem before0_1 (c : Dev nD) (t : Fin cfg0.N) (d) : (dats m 0 c).before 1 t d = iblk m c 1 t :=
  before0_1_of m (dats m 0 c) (A_eq m c 1) (after0_1 m c) t d
/-- What window 2 holds before a point: its block. -/
theorem before0_2 (c : Dev nD) (t : Fin cfg0.N) (d) : (dats m 0 c).before 2 t d = iblk m c 2 t :=
  before0_2_of m (dats m 0 c) (A_eq m c 2) (after0_2 m c) t d
/-- What window 3 holds before a point: its block. -/
theorem before0_3 (c : Dev nD) (t : Fin cfg0.N) (d) : (dats m 0 c).before 3 t d = iblk m c 3 t :=
  before0_3_of m (dats m 0 c) (A_eq m c 3) (after0_3 m c) t d
/-- What window 4 holds before a point: its block. -/
theorem before0_4 (c : Dev nD) (t : Fin cfg0.N) (d) : (dats m 0 c).before 4 t d = iblk m c 4 t :=
  before0_4_of m (dats m 0 c) (A_eq m c 4) (after0_4 m c) t d

/-- The body's condition holds at the first point only. -/
theorem cond_iff : ∀ t : Fin cfg0.N, k0_cond1 (grid0.coords t) = 1#1 ↔ t.val = 0 := by decide +kernel

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at the first point. -/
theorem sound_body_first (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = Pipeline.ΦA spec0 c from (Phi_eq m c _).trans (if_pos h0),
    show (dats m 0 c).Φ t.succ = kept m c from (Phi_eq m c _).trans (if_neg (by simp)),
    show (dats m 0 c).owesAt () t.succ = (dats m 0 c).owesAt () t.castSucc from rfl,
    after0_0, after0_1, after0_2, after0_3, after0_4, after0_5]
  unfold Pipeline.ΦA
  rw [scopedRest0_eq]
  unfold kept
  iintro ⟨⟨⟨⟨%f7, H7⟩, ⟨%f8, H8⟩, ⟨%f9, H9⟩⟩, Hr⟩, Ho, ⟨%d0, H0⟩, ⟨%d1, H1⟩, ⟨%d2, H2⟩, ⟨%d3, H3⟩, ⟨%d4, H4⟩, ⟨%d5, H5⟩⟩
  iapply (sound_first c (grid0.coords t) ((cond_iff t).2 h0) _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H7]; · iexists f7; rw [owns_whole (c : Thread nD τ) cc0_scratch0 fullShare f7]; iexact H7
  isplitl [H8]; · iexists f8; rw [owns_whole (c : Thread nD τ) cc0_scratch1 fullShare f8]; iexact H8
  isplitl [H9]; · iexists f9; rw [owns_whole (c : Thread nD τ) cc0_scratch2 fullShare f9]; iexact H9
  iintro ⟨H0, H1, H2, H3, H4, H5, H7, H8, ⟨%g9, H9⟩⟩
  isplitl [H7 H8 H9 Hr]
  · isplitl [H7]; · rw [← owns_whole (c : Thread nD τ) cc0_scratch0 fullShare]; iexact H7
    isplitl [H8]; · rw [← owns_whole (c : Thread nD τ) cc0_scratch1 fullShare]; iexact H8
    isplitl [H9]; · iexists g9; rw [← owns_whole (c : Thread nD τ) cc0_scratch2 fullShare]; iexact H9
    iexact Hr
  isplitl [Ho]; · iexact Ho
  isplitl [H0]; · iexact H0
  isplitl [H1]; · iexact H1
  isplitl [H2]; · iexact H2
  isplitl [H3]; · iexact H3
  isplitl [H4]; · iexact H4
  iexact H5

/-- The body at a later point. -/
theorem sound_body_later (c : Dev nD) (t : Fin cfg0.N) (h0 : ¬ t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = kept m c from (Phi_eq m c _).trans (if_neg h0),
    show (dats m 0 c).Φ t.succ = kept m c from (Phi_eq m c _).trans (if_neg (by simp)),
    show (dats m 0 c).owesAt () t.succ = (dats m 0 c).owesAt () t.castSucc from rfl,
    after0_0, after0_1, after0_2, after0_3, after0_4, after0_5]
  unfold kept
  iintro ⟨⟨H7, H8, ⟨%f9, H9⟩, Hr⟩, Ho, ⟨%d0, H0⟩, ⟨%d1, H1⟩, ⟨%d2, H2⟩, ⟨%d3, H3⟩, ⟨%d4, H4⟩, ⟨%d5, H5⟩⟩
  iapply (sound_later c (grid0.coords t) (fun h => h0 ((cond_iff t).1 h)) _ _ _ _ _ _ _ _ _ _ _ _ _ _ _ _ _ _ (iblk m c 0 t) (iblk m c 1 t) (iblk m c 2 t) (iblk m c 3 t) (iblk m c 4 t) (xsOf (xIn m c)) (patOf (F := F) (gIn m c)) _)
  isplitl [H0]; · iexact H0
  isplitl [H1]; · iexact H1
  isplitl [H2]; · iexact H2
  isplitl [H3]; · iexact H3
  isplitl [H4]; · iexact H4
  isplitl [H5]; · iexists _; iexact H5
  isplitl [H7]; · rw [owns_whole (c : Thread nD τ) cc0_scratch0 fullShare]; iexact H7
  isplitl [H8]; · rw [owns_whole (c : Thread nD τ) cc0_scratch1 fullShare]; iexact H8
  isplitl [H9]; · iexists f9; rw [owns_whole (c : Thread nD τ) cc0_scratch2 fullShare f9]; iexact H9
  iintro ⟨H0, H1, H2, H3, H4, H5, H7, H8, ⟨%g9, H9⟩⟩
  isplitl [H7 H8 H9 Hr]
  · isplitl [H7]; · rw [← owns_whole (c : Thread nD τ) cc0_scratch0 fullShare]; iexact H7
    isplitl [H8]; · rw [← owns_whole (c : Thread nD τ) cc0_scratch1 fullShare]; iexact H8
    isplitl [H9]; · iexists g9; rw [← owns_whole (c : Thread nD τ) cc0_scratch2 fullShare]; iexact H9
    iexact Hr
  isplitl [Ho]; · iexact Ho
  isplitl [H0]; · iexact H0
  isplitl [H1]; · iexact H1
  isplitl [H2]; · iexact H2
  isplitl [H3]; · iexact H3
  isplitl [H4]; · iexact H4
  iexact H5

/-- The body at any point. -/
theorem sound_body (c : Dev nD) (t : Fin cfg0.N) :
    bodyPre m c t ⊢ wp frame (wpE (defs₀ (F := F)) Variants.none c none) Set.univ (bodyAt0 t) (fun _ => bodyPost m c t) :=
  if h0 : t.val = 0 then sound_body_first m c t h0 else sound_body_later m c t h0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Entering: the scratch buffers hold anything. -/
theorem phi_in (c : Dev nD) : Pipeline.ΦA spec0 c ⊢ (dats m 0 c).Φ 0 := by
  rw [show (dats m 0 c).Φ 0 = Pipeline.ΦA spec0 c from (Phi_eq m c _).trans (if_pos rfl)]

/-- Leaving: what they hold is forgotten. -/
theorem phi_out (c : Dev nD) : (dats m 0 c).Φ (Fin.last cfg0.N) ⊢ Pipeline.ΦA spec0 c := by
  rw [show (dats m 0 c).Φ (Fin.last cfg0.N) = kept m c from (Phi_eq m c _).trans (if_neg (by decide))]
  unfold Pipeline.ΦA
  rw [scopedRest0_eq]
  unfold kept
  iintro ⟨H7, H8, H9, Hr⟩
  isplitl [H7 H8 H9]
  · isplitl [H7]; · iexists _; iexact H7
    isplitl [H8]; · iexists _; iexact H8
    iexact H9
  iexact Hr

set_option backward.isDefEq.respectTransparency.types false in
/-- The launch, and every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- Every execution terminates, and ends with every array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: every execution terminates with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.K

end
-- ==== Proof.Step.lean ====
/-
  ONE TRIP of the loop over the blocks of 256 contracted rows, as a function of what the buffers hold: the
  tile of weights the trip builds for each of the eight groups of 256 output columns, and what the trip
  leaves in the matrix unit.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import Idealize.ShloMosaic.Lib.Mxu.Lemmas
public import Idealize.ShloMosaic.Lib.Mxu.Walk

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A window of 32 rows -/

/-- The stored pattern of a window, one signed number per row. -/
def patRows (p : IVec S8x128 32) : IVec S32x128 32 :=
  extsi 32 (bitcast S32x128 8 p bitcasts_S8x128_w32_S32x128_w8) natLt_8_32

/-- The group of each row of a window, read off its stored pattern. -/
def patGroup (p : IVec S8x128 32) : IVec S32x128 32 :=
  addi (muli (broadcast S32x128 8#32) (andi (patRows p) (broadcast S32x128 3#32))) (shrsi (patRows p) (broadcast S32x128 2#32))

/-- The same, the upper and the lower sixteen rows. -/
def patGroupHi (p : IVec S8x128 32) : IVec S16x128 32 := extractStridedSlice S16x128 ![0, 0] (patGroup p) slices_S32x128_o0_0_S16x128
def patGroupLo (p : IVec S8x128 32) : IVec S16x128 32 := extractStridedSlice S16x128 ![16, 0] (patGroup p) slices_S32x128_o16_0_S16x128

/-- The scale of each of sixteen rows: row `g` of the table whose first half is `s0` and second half `s1`. -/
def scaleRows (s0 s1 : FVec F S16x128 .bf16) (g : IVec S16x128 32) : FVec F S16x128 .bf16 :=
  select (cmpi .slt g (broadcast S16x128 16#32))
    (dynamicGather 0 s0 (shapeCast S16x128 (shapeCast S16x128x1 (andi g (broadcast S16x128 15#32)) shapeCasts_S16x128_S16x128x1) shapeCasts_S16x128x1_S16x128))
    (dynamicGather 0 s1 (shapeCast S16x128 (shapeCast S16x128x1 (andi g (broadcast S16x128 15#32)) shapeCasts_S16x128_S16x128x1) shapeCasts_S16x128x1_S16x128))

/-- The 4-bit codes of a window, four to a word: the even nibbles of the packed words, and the odd ones. -/
def evenCodes (q : IVec S8x128 32) : IVec S8x128 32 := andi q (broadcast S8x128 252645135#32)
def oddCodes (q : IVec S8x128 32) : IVec S8x128 32 := andi (shrui q (broadcast S8x128 4#32)) (broadcast S8x128 252645135#32)

/-- Code minus zero point, of each row of a window. -/
def diffRows (codes z p : IVec S8x128 32) : FVec F S32x128 .bf16 :=
  sitofp .bf16 (bitcast S32x128 8 (xori (addi codes (bitcast S8x128 32 (dynamicGather 0 (bitcast S32x128 8 z bitcasts_S8x128_w32_S32x128_w8)
    (shapeCast S32x128 (shapeCast S32x128x1 (patRows p) shapeCasts_S32x128_S32x128x1) shapeCasts_S32x128x1_S32x128)) bitcasts_S32x128_w8_S8x128_w32))
    (broadcast S8x128 2155905152#32)) bitcasts_S8x128_w32_S32x128_w8)

/-- The weights of a window: the difference times the scale, the upper and the lower sixteen rows. -/
def wHi (codes z p : IVec S8x128 32) (s0 s1 : FVec F S16x128 .bf16) : FVec F S16x128 .bf16 :=
  mulf (extractStridedSlice S16x128 ![0, 0] (diffRows (F := F) codes z p) slices_S32x128_o0_0_S16x128) (scaleRows s0 s1 (patGroupHi p))
def wLo (codes z p : IVec S8x128 32) (s0 s1 : FVec F S16x128 .bf16) : FVec F S16x128 .bf16 :=
  mulf (extractStridedSlice S16x128 ![16, 0] (diffRows (F := F) codes z p) slices_S32x128_o16_0_S16x128) (scaleRows s0 s1 (patGroupLo p))

/-- The 256 rows by 128 columns of weights one trip builds for one chunk of columns: eight windows. -/
def chunkW (z : IVec S8x128 32) (s0 s1 : FVec F S16x128 .bf16) (q0 q1 q2 q3 p0 p1 p2 p3 p4 p5 p6 p7 : IVec S8x128 32) : FVec F S256x128 .bf16 :=
  concatenate S256x128 0 [⟨S16x128, wHi (evenCodes q0) z p0 s0 s1⟩, ⟨S16x128, wLo (evenCodes q0) z p0 s0 s1⟩, ⟨S16x128, wHi (oddCodes q0) z p1 s0 s1⟩, ⟨S16x128, wLo (oddCodes q0) z p1 s0 s1⟩, ⟨S16x128, wHi (evenCodes q1) z p2 s0 s1⟩, ⟨S16x128, wLo (evenCodes q1) z p2 s0 s1⟩, ⟨S16x128, wHi (oddCodes q1) z p3 s0 s1⟩, ⟨S16x128, wLo (oddCodes q1) z p3 s0 s1⟩, ⟨S16x128, wHi (evenCodes q2) z p4 s0 s1⟩, ⟨S16x128, wLo (evenCodes q2) z p4 s0 s1⟩, ⟨S16x128, wHi (oddCodes q2) z p5 s0 s1⟩, ⟨S16x128, wLo (oddCodes q2) z p5 s0 s1⟩, ⟨S16x128, wHi (evenCodes q3) z p6 s0 s1⟩, ⟨S16x128, wLo (evenCodes q3) z p6 s0 s1⟩, ⟨S16x128, wHi (oddCodes q3) z p7 s0 s1⟩, ⟨S16x128, wLo (oddCodes q3) z p7 s0 s1⟩] concatenates_S16x128_S16x128_S16x128_S16x128_S16x128_S16x128_S16x128_S16x128_S16x128_S16x128_S16x128_S16x128_S16x128_S16x128_S16x128_S16x128_S256x128_d0

/-- Two chunks side by side: one tile of the matrix unit. -/
def tileW (w0 w1 : FVec F S256x128 .bf16) : FVec F S256x256 .bf16 :=
  concatenate S256x256 1 [⟨S256x128, w0⟩, ⟨S256x128, w1⟩] concatenates_S256x128_S256x128_S256x256_d1

/-! ## What a trip reads -/

/-- The trip's left operand: two blocks of 128 rows of the rearranged `x`, side by side. -/
def lhsAt (x7 : Vec F S4096x128 .bf16) (k : Fin k0_t4_loop.trips) : FVec F S128x256 .bf16 :=
  concatenate S128x256 1
    [⟨S128x128, View.ld x7 (Rect.unit (s := S4096x128) (k0_off10 k 0#32) S128x128.size (k0_off10_inb k 0))⟩,
     ⟨S128x128, View.ld x7 (Rect.unit (s := S4096x128) (k0_off10 k 128#32) S128x128.size (k0_off10_inb k 1))⟩]
    concatenates_S128x128_S128x128_S128x256_d1

/-- The stored pattern of the trip's window `w`. -/
def patAt0 (x8 : Vec F S1024x128 .i32) (k : Fin k0_t4_loop.trips) : IVec S8x128 32 := View.ld x8 (Rect.unit (s := S1024x128) (k0_off11 k 0#32) S8x128.size (k0_off11_inb k 0))
def patAt1 (x8 : Vec F S1024x128 .i32) (k : Fin k0_t4_loop.trips) : IVec S8x128 32 := View.ld x8 (Rect.unit (s := S1024x128) (k0_off11 k 8#32) S8x128.size (k0_off11_inb k 1))
def patAt2 (x8 : Vec F S1024x128 .i32) (k : Fin k0_t4_loop.trips) : IVec S8x128 32 := View.ld x8 (Rect.unit (s := S1024x128) (k0_off11 k 16#32) S8x128.size (k0_off11_inb k 2))
def patAt3 (x8 : Vec F S1024x128 .i32) (k : Fin k0_t4_loop.trips) : IVec S8x128 32 := View.ld x8 (Rect.unit (s := S1024x128) (k0_off11 k 24#32) S8x128.size (k0_off11_inb k 3))
def patAt4 (x8 : Vec F S1024x128 .i32) (k : Fin k0_t4_loop.trips) : IVec S8x128 32 := View.ld x8 (Rect.unit (s := S1024x128) (k0_off11 k 32#32) S8x128.size (k0_off11_inb k 4))
def patAt5 (x8 : Vec F S1024x128 .i32) (k : Fin k0_t4_loop.trips) : IVec S8x128 32 := View.ld x8 (Rect.unit (s := S1024x128) (k0_off11 k 40#32) S8x128.size (k0_off11_inb k 5))
def patAt6 (x8 : Vec F S1024x128 .i32) (k : Fin k0_t4_loop.trips) : IVec S8x128 32 := View.ld x8 (Rect.unit (s := S1024x128) (k0_off11 k 48#32) S8x128.size (k0_off11_inb k 6))
def patAt7 (x8 : Vec F S1024x128 .i32) (k : Fin k0_t4_loop.trips) : IVec S8x128 32 := View.ld x8 (Rect.unit (s := S1024x128) (k0_off11 k 56#32) S8x128.size (k0_off11_inb k 7))

/-! The weights the trip builds for each chunk of 128 columns. -/
/-- Chunk 0. -/
def chunkAt0 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![0, 0] S8x128.size inb_S128x128_S8x128_0_0))
    (View.ld x4 (Rect.unit (s := S32x2048) ![0, 0] S16x128.size inb_S32x2048_S16x128_0_0)) (View.ld x4 (Rect.unit (s := S32x2048) ![16, 0] S16x128.size inb_S32x2048_S16x128_16_0))
    (View.ld x3 (Rect.unit (s := S512x2048) (k0_off12 k 0#32) S8x128.size (k0_off12_inb k 0))) (View.ld x3 (Rect.unit (s := S512x2048) (k0_off12 k 8#32) S8x128.size (k0_off12_inb k 1)))
    (View.ld x3 (Rect.unit (s := S512x2048) (k0_off12 k 16#32) S8x128.size (k0_off12_inb k 2))) (View.ld x3 (Rect.unit (s := S512x2048) (k0_off12 k 24#32) S8x128.size (k0_off12_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 1. -/
def chunkAt1 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![8, 0] S8x128.size inb_S128x128_S8x128_8_0))
    (View.ld x4 (Rect.unit (s := S32x2048) ![0, 128] S16x128.size inb_S32x2048_S16x128_0_128)) (View.ld x4 (Rect.unit (s := S32x2048) ![16, 128] S16x128.size inb_S32x2048_S16x128_16_128))
    (View.ld x3 (Rect.unit (s := S512x2048) (k0_off13 k 0#32) S8x128.size (k0_off13_inb k 0))) (View.ld x3 (Rect.unit (s := S512x2048) (k0_off13 k 8#32) S8x128.size (k0_off13_inb k 1)))
    (View.ld x3 (Rect.unit (s := S512x2048) (k0_off13 k 16#32) S8x128.size (k0_off13_inb k 2))) (View.ld x3 (Rect.unit (s := S512x2048) (k0_off13 k 24#32) S8x128.size (k0_off13_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 2. -/
def chunkAt2 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![16, 0] S8x128.size inb_S128x128_S8x128_16_0))
    (View.ld x4 (Rect.unit (s := S32x2048) ![0, 256] S16x128.size inb_S32x2048_S16x128_0_256)) (View.ld x4 (Rect.unit (s := S32x2048) ![16, 256] S16x128.size inb_S32x2048_S16x128_16_256))
    (View.ld x3 (Rect.unit (s := S512x2048) (k0_off14 k 0#32) S8x128.size (k0_off14_inb k 0))) (View.ld x3 (Rect.unit (s := S512x2048) (k0_off14 k 8#32) S8x128.size (k0_off14_inb k 1)))
    (View.ld x3 (Rect.unit (s := S512x2048) (k0_off14 k 16#32) S8x128.size (k0_off14_inb k 2))) (View.ld x3 (Rect.unit (s := S512x2048) (k0_off14 k 24#32) S8x128.size (k0_off14_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 3. -/
def chunkAt3 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![24, 0] S8x128.size inb_S128x128_S8x128_24_0))
    (View.ld x4 (Rect.unit (s := S32x2048) ![0, 384] S16x128.size inb_S32x2048_S16x128_0_384)) (View.ld x4 (Rect.unit (s := S32x2048) ![16, 384] S16x128.size inb_S32x2048_S16x128_16_384))
    (View.ld x3 (Rect.unit (s := S512x2048) (k0_off15 k 0#32) S8x128.size (k0_off15_inb k 0))) (View.ld x3 (Rect.unit (s := S512x2048) (k0_off15 k 8#32) S8x128.size (k0_off15_inb k 1)))
    (View.ld x3 (Rect.unit (s := S512x2048) (k0_off15 k 16#32) S8x128.size (k0_off15_inb k 2))) (View.ld x3 (Rect.unit (s := S512x2048) (k0_off15 k 24#32) S8x128.size (k0_off15_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 4. -/
def chunkAt4 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![32, 0] S8x128.size inb_S128x128_S8x128_32_0))
    (View.ld x4 (Rect.unit (s := S32x2048) ![0, 512] S16x128.size inb_S32x2048_S16x128_0_512)) (View.ld x4 (Rect.unit (s := S32x2048) ![16, 512] S16x128.size inb_S32x2048_S16x128_16_512))
    (View.ld x3 (Rect.unit (s := S512x2048) (k0_off16 k 0#32) S8x128.size (k0_off16_inb k 0))) (View.ld x3 (Rect.unit (s := S512x2048) (k0_off16 k 8#32) S8x128.size (k0_off16_inb k 1)))
    (View.ld x3 (Rect.unit (s := S512x2048) (k0_off16 k 16#32) S8x128.size (k0_off16_inb k 2))) (View.ld x3 (Rect.unit (s := S512x2048) (k0_off16 k 24#32) S8x128.size (k0_off16_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 5. -/
def chunkAt5 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![40, 0] S8x128.size inb_S128x128_S8x128_40_0))
    (View.ld x4 (Rect.unit (s := S32x2048) ![0, 640] S16x128.size inb_S32x2048_S16x128_0_640)) (View.ld x4 (Rect.unit (s := S32x2048) ![16, 640] S16x128.size inb_S32x2048_S16x128_16_640))
    (View.ld x3 (Rect.unit (s := S512x2048) (k0_off17 k 0#32) S8x128.size (k0_off17_inb k 0))) (View.ld x3 (Rect.unit (s := S512x2048) (k0_off17 k 8#32) S8x128.size (k0_off17_inb k 1)))
    (View.ld x3 (Rect.unit (s := S512x2048) (k0_off17 k 16#32) S8x128.size (k0_off17_inb k 2))) (View.ld x3 (Rect.unit (s := S512x2048) (k0_off17 k 24#32) S8x128.size (k0_off17_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 6. -/
def chunkAt6 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![48, 0] S8x128.size inb_S128x128_S8x128_48_0))
    (View.ld x4 (Rect.unit (s := S32x2048) ![0, 768] S16x128.size inb_S32x2048_S16x128_0_768)) (View.ld x4 (Rect.unit (s := S32x2048) ![16, 768] S16x128.size inb_S32x2048_S16x128_16_768))
    (View.ld x3 (Rect.unit (s := S512x2048) (k0_off18 k 0#32) S8x128.size (k0_off18_inb k 0))) (View.ld x3 (Rect.unit (s := S512x2048) (k0_off18 k 8#32) S8x128.size (k0_off18_inb k 1)))
    (View.ld x3 (Rect.unit (s := S512x2048) (k0_off18 k 16#32) S8x128.size (k0_off18_inb k 2))) (View.ld x3 (Rect.unit (s := S512x2048) (k0_off18 k 24#32) S8x128.size (k0_off18_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 7. -/
def chunkAt7 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![56, 0] S8x128.size inb_S128x128_S8x128_56_0))
    (View.ld x4 (Rect.unit (s := S32x2048) ![0, 896] S16x128.size inb_S32x2048_S16x128_0_896)) (View.ld x4 (Rect.unit (s := S32x2048) ![16, 896] S16x128.size inb_S32x2048_S16x128_16_896))
    (View.ld x3 (Rect.unit (s := S512x2048) (k0_off19 k 0#32) S8x128.size (k0_off19_inb k 0))) (View.ld x3 (Rect.unit (s := S512x2048) (k0_off19 k 8#32) S8x128.size (k0_off19_inb k 1)))
    (View.ld x3 (Rect.unit (s := S512x2048) (k0_off19 k 16#32) S8x128.size (k0_off19_inb k 2))) (View.ld x3 (Rect.unit (s := S512x2048) (k0_off19 k 24#32) S8x128.size (k0_off19_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 8. -/
def chunkAt8 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![64, 0] S8x128.size inb_S128x128_S8x128_64_0))
    (View.ld x4 (Rect.unit (s := S32x2048) ![0, 1024] S16x128.size inb_S32x2048_S16x128_0_1024)) (View.ld x4 (Rect.unit (s := S32x2048) ![16, 1024] S16x128.size inb_S32x2048_S16x128_16_1024))
    (View.ld x3 (Rect.unit (s := S512x2048) (k0_off20 k 0#32) S8x128.size (k0_off20_inb k 0))) (View.ld x3 (Rect.unit (s := S512x2048) (k0_off20 k 8#32) S8x128.size (k0_off20_inb k 1)))
    (View.ld x3 (Rect.unit (s := S512x2048) (k0_off20 k 16#32) S8x128.size (k0_off20_inb k 2))) (View.ld x3 (Rect.unit (s := S512x2048) (k0_off20 k 24#32) S8x128.size (k0_off20_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 9. -/
def chunkAt9 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![72, 0] S8x128.size inb_S128x128_S8x128_72_0))
    (View.ld x4 (Rect.unit (s := S32x2048) ![0, 1152] S16x128.size inb_S32x2048_S16x128_0_1152)) (View.ld x4 (Rect.unit (s := S32x2048) ![16, 1152] S16x128.size inb_S32x2048_S16x128_16_1152))
    (View.ld x3 (Rect.unit (s := S512x2048) (k0_off21 k 0#32) S8x128.size (k0_off21_inb k 0))) (View.ld x3 (Rect.unit (s := S512x2048) (k0_off21 k 8#32) S8x128.size (k0_off21_inb k 1)))
    (View.ld x3 (Rect.unit (s := S512x2048) (k0_off21 k 16#32) S8x128.size (k0_off21_inb k 2))) (View.ld x3 (Rect.unit (s := S512x2048) (k0_off21 k 24#32) S8x128.size (k0_off21_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 10. -/
def chunkAt10 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![80, 0] S8x128.size inb_S128x128_S8x128_80_0))
    (View.ld x4 (Rect.unit (s := S32x2048) ![0, 1280] S16x128.size inb_S32x2048_S16x128_0_1280)) (View.ld x4 (Rect.unit (s := S32x2048) ![16, 1280] S16x128.size inb_S32x2048_S16x128_16_1280))
    (View.ld x3 (Rect.unit (s := S512x2048) (k0_off22 k 0#32) S8x128.size (k0_off22_inb k 0))) (View.ld x3 (Rect.unit (s := S512x2048) (k0_off22 k 8#32) S8x128.size (k0_off22_inb k 1)))
    (View.ld x3 (Rect.unit (s := S512x2048) (k0_off22 k 16#32) S8x128.size (k0_off22_inb k 2))) (View.ld x3 (Rect.unit (s := S512x2048) (k0_off22 k 24#32) S8x128.size (k0_off22_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 11. -/
def chunkAt11 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![88, 0] S8x128.size inb_S128x128_S8x128_88_0))
    (View.ld x4 (Rect.unit (s := S32x2048) ![0, 1408] S16x128.size inb_S32x2048_S16x128_0_1408)) (View.ld x4 (Rect.unit (s := S32x2048) ![16, 1408] S16x128.size inb_S32x2048_S16x128_16_1408))
    (View.ld x3 (Rect.unit (s := S512x2048) (k0_off23 k 0#32) S8x128.size (k0_off23_inb k 0))) (View.ld x3 (Rect.unit (s := S512x2048) (k0_off23 k 8#32) S8x128.size (k0_off23_inb k 1)))
    (View.ld x3 (Rect.unit (s := S512x2048) (k0_off23 k 16#32) S8x128.size (k0_off23_inb k 2))) (View.ld x3 (Rect.unit (s := S512x2048) (k0_off23 k 24#32) S8x128.size (k0_off23_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 12. -/
def chunkAt12 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![96, 0] S8x128.size inb_S128x128_S8x128_96_0))
    (View.ld x4 (Rect.unit (s := S32x2048) ![0, 1536] S16x128.size inb_S32x2048_S16x128_0_1536)) (View.ld x4 (Rect.unit (s := S32x2048) ![16, 1536] S16x128.size inb_S32x2048_S16x128_16_1536))
    (View.ld x3 (Rect.unit (s := S512x2048) (k0_off24 k 0#32) S8x128.size (k0_off24_inb k 0))) (View.ld x3 (Rect.unit (s := S512x2048) (k0_off24 k 8#32) S8x128.size (k0_off24_inb k 1)))
    (View.ld x3 (Rect.unit (s := S512x2048) (k0_off24 k 16#32) S8x128.size (k0_off24_inb k 2))) (View.ld x3 (Rect.unit (s := S512x2048) (k0_off24 k 24#32) S8x128.size (k0_off24_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 13. -/
def chunkAt13 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![104, 0] S8x128.size inb_S128x128_S8x128_104_0))
    (View.ld x4 (Rect.unit (s := S32x2048) ![0, 1664] S16x128.size inb_S32x2048_S16x128_0_1664)) (View.ld x4 (Rect.unit (s := S32x2048) ![16, 1664] S16x128.size inb_S32x2048_S16x128_16_1664))
    (View.ld x3 (Rect.unit (s := S512x2048) (k0_off25 k 0#32) S8x128.size (k0_off25_inb k 0))) (View.ld x3 (Rect.unit (s := S512x2048) (k0_off25 k 8#32) S8x128.size (k0_off25_inb k 1)))
    (View.ld x3 (Rect.unit (s := S512x2048) (k0_off25 k 16#32) S8x128.size (k0_off25_inb k 2))) (View.ld x3 (Rect.unit (s := S512x2048) (k0_off25 k 24#32) S8x128.size (k0_off25_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 14. -/
def chunkAt14 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![112, 0] S8x128.size inb_S128x128_S8x128_112_0))
    (View.ld x4 (Rect.unit (s := S32x2048) ![0, 1792] S16x128.size inb_S32x2048_S16x128_0_1792)) (View.ld x4 (Rect.unit (s := S32x2048) ![16, 1792] S16x128.size inb_S32x2048_S16x128_16_1792))
    (View.ld x3 (Rect.unit (s := S512x2048) (k0_off26 k 0#32) S8x128.size (k0_off26_inb k 0))) (View.ld x3 (Rect.unit (s := S512x2048) (k0_off26 k 8#32) S8x128.size (k0_off26_inb k 1)))
    (View.ld x3 (Rect.unit (s := S512x2048) (k0_off26 k 16#32) S8x128.size (k0_off26_inb k 2))) (View.ld x3 (Rect.unit (s := S512x2048) (k0_off26 k 24#32) S8x128.size (k0_off26_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- Chunk 15. -/
def chunkAt15 (x3 : Vec F S512x2048 .i32) (x4 : Vec F S32x2048 .bf16) (x8 : Vec F S1024x128 .i32) (x9 : Vec F S128x128 .i32) (k : Fin k0_t4_loop.trips) : FVec F S256x128 .bf16 :=
  chunkW (View.ld x9 (Rect.unit (s := S128x128) ![120, 0] S8x128.size inb_S128x128_S8x128_120_0))
    (View.ld x4 (Rect.unit (s := S32x2048) ![0, 1920] S16x128.size inb_S32x2048_S16x128_0_1920)) (View.ld x4 (Rect.unit (s := S32x2048) ![16, 1920] S16x128.size inb_S32x2048_S16x128_16_1920))
    (View.ld x3 (Rect.unit (s := S512x2048) (k0_off27 k 0#32) S8x128.size (k0_off27_inb k 0))) (View.ld x3 (Rect.unit (s := S512x2048) (k0_off27 k 8#32) S8x128.size (k0_off27_inb k 1)))
    (View.ld x3 (Rect.unit (s := S512x2048) (k0_off27 k 16#32) S8x128.size (k0_off27_inb k 2))) (View.ld x3 (Rect.unit (s := S512x2048) (k0_off27 k 24#32) S8x128.size (k0_off27_inb k 3)))
    (patAt0 (F := F) x8 k) (patAt1 (F := F) x8 k) (patAt2 (F := F) x8 k) (patAt3 (F := F) x8 k) (patAt4 (F := F) x8 k) (patAt5 (F := F) x8 k) (patAt6 (F := F) x8 k) (patAt7 (F := F) x8 k)

/-- The trip's tile of weights for the output columns of group `j` (of 256 columns). -/
def tileAt0 (x3 : Vec F S512x2048 .i32) (x4 : Vec F S32x2048 .bf16) (x8 : Vec F S1024x128 .i32) (x9 : Vec F S128x128 .i32) (k : Fin k0_t4_loop.trips) : FVec F S256x256 .bf16 :=
  tileW (chunkAt0 x3 x4 x8 x9 k) (chunkAt1 x3 x4 x8 x9 k)
def tileAt1 (x3 : Vec F S512x2048 .i32) (x4 : Vec F S32x2048 .bf16) (x8 : Vec F S1024x128 .i32) (x9 : Vec F S128x128 .i32) (k : Fin k0_t4_loop.trips) : FVec F S256x256 .bf16 :=
  tileW (chunkAt2 x3 x4 x8 x9 k) (chunkAt3 x3 x4 x8 x9 k)
def tileAt2 (x3 : Vec F S512x2048 .i32) (x4 : Vec F S32x2048 .bf16) (x8 : Vec F S1024x128 .i32) (x9 : Vec F S128x128 .i32) (k : Fin k0_t4_loop.trips) : FVec F S256x256 .bf16 :=
  tileW (chunkAt4 x3 x4 x8 x9 k) (chunkAt5 x3 x4 x8 x9 k)
def tileAt3 (x3 : Vec F S512x2048 .i32) (x4 : Vec F S32x2048 .bf16) (x8 : Vec F S1024x128 .i32) (x9 : Vec F S128x128 .i32) (k : Fin k0_t4_loop.trips) : FVec F S256x256 .bf16 :=
  tileW (chunkAt6 x3 x4 x8 x9 k) (chunkAt7 x3 x4 x8 x9 k)
def tileAt4 (x3 : Vec F S512x2048 .i32) (x4 : Vec F S32x2048 .bf16) (x8 : Vec F S1024x128 .i32) (x9 : Vec F S128x128 .i32) (k : Fin k0_t4_loop.trips) : FVec F S256x256 .bf16 :=
  tileW (chunkAt8 x3 x4 x8 x9 k) (chunkAt9 x3 x4 x8 x9 k)
def tileAt5 (x3 : Vec F S512x2048 .i32) (x4 : Vec F S32x2048 .bf16) (x8 : Vec F S1024x128 .i32) (x9 : Vec F S128x128 .i32) (k : Fin k0_t4_loop.trips) : FVec F S256x256 .bf16 :=
  tileW (chunkAt10 x3 x4 x8 x9 k) (chunkAt11 x3 x4 x8 x9 k)
def tileAt6 (x3 : Vec F S512x2048 .i32) (x4 : Vec F S32x2048 .bf16) (x8 : Vec F S1024x128 .i32) (x9 : Vec F S128x128 .i32) (k : Fin k0_t4_loop.trips) : FVec F S256x256 .bf16 :=
  tileW (chunkAt12 x3 x4 x8 x9 k) (chunkAt13 x3 x4 x8 x9 k)
def tileAt7 (x3 : Vec F S512x2048 .i32) (x4 : Vec F S32x2048 .bf16) (x8 : Vec F S1024x128 .i32) (x9 : Vec F S128x128 .i32) (k : Fin k0_t4_loop.trips) : FVec F S256x256 .bf16 :=
  tileW (chunkAt14 x3 x4 x8 x9 k) (chunkAt15 x3 x4 x8 x9 k)

/-- What a trip leaves in the matrix unit: per group of columns, the tile pushed and the left operand
    multiplied by it into the group's rows of the result buffer. -/
def kStep (x3 : Vec F S512x2048 .i32) (x4 : Vec F S32x2048 .bf16) (x7 : Vec F S4096x128 .bf16) (x8 : Vec F S1024x128 .i32) (x9 : Vec F S128x128 .i32) (k : Fin k0_t4_loop.trips) (s : Mxu F) : Mxu F :=
  let s0 := (s.pushed 0 0 false (tileAt0 x3 x4 x8 x9 k)).accLhs 0 0 0 (lhsAt x7 k) fits_0_128
  let s1 := (s0.pushed 0 1 false (tileAt1 x3 x4 x8 x9 k)).accLhs 0 1 32 (lhsAt x7 k) fits_32_128
  let s2 := (s1.pushed 0 0 false (tileAt2 x3 x4 x8 x9 k)).accLhs 0 0 64 (lhsAt x7 k) fits_64_128
  let s3 := (s2.pushed 0 1 false (tileAt3 x3 x4 x8 x9 k)).accLhs 0 1 96 (lhsAt x7 k) fits_96_128
  let s4 := (s3.pushed 0 0 false (tileAt4 x3 x4 x8 x9 k)).accLhs 0 0 128 (lhsAt x7 k) fits_128_128
  let s5 := (s4.pushed 0 1 false (tileAt5 x3 x4 x8 x9 k)).accLhs 0 1 160 (lhsAt x7 k) fits_160_128
  let s6 := (s5.pushed 0 0 false (tileAt6 x3 x4 x8 x9 k)).accLhs 0 0 192 (lhsAt x7 k) fits_192_128
  let s7 := (s6.pushed 0 1 false (tileAt7 x3 x4 x8 x9 k)).accLhs 0 1 224 (lhsAt x7 k) fits_224_128
  s7

/-! ## The trip's run -/

/-- The buffers a trip reads, held. -/
abbrev Trip4 (c : Dev nD) (arg3 : Memref sig .tc .vmem S512x2048 .i32) (arg4 : Memref sig .tc .vmem S32x2048 .bf16) (arg7 : Memref sig .tc .vmem S4096x128 .bf16) (arg8 : Memref sig .tc .vmem S1024x128 .i32) (arg9 : Memref sig .tc .vmem S128x128 .i32)
    (f3 : BufTy.Contents (Elt F) arg3.view.ty) (f4 : BufTy.Contents (Elt F) arg4.view.ty) (f7 : BufTy.Contents (Elt F) arg7.view.ty) (f8 : BufTy.Contents (Elt F) arg8.view.ty) (f9 : BufTy.Contents (Elt F) arg9.view.ty) : sProp 𝕄 :=
  iprop((arg3.view.loc (c : Thread nD τ) ↦[arg3.view.set]{fullShare} f3) ∗ (arg4.view.loc (c : Thread nD τ) ↦[arg4.view.set]{fullShare} f4)
    ∗ (arg7.view.loc (c : Thread nD τ) ↦[arg7.view.set]{fullShare} f7) ∗ (arg8.view.loc (c : Thread nD τ) ↦[arg8.view.set]{fullShare} f8)
    ∗ (arg9.view.loc (c : Thread nD τ) ↦[arg9.view.set]{fullShare} f9))

set_option maxHeartbeats 4000000 in
/-- A trip runs: it leaves the buffers as they were and the matrix unit at a state the run computes. -/
def trip4 (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole)
    (f3 : BufTy.Contents (Elt F) arg3.view.ty) (f4 : BufTy.Contents (Elt F) arg4.view.ty) (f7 : BufTy.Contents (Elt F) arg7.view.ty) (f8 : BufTy.Contents (Elt F) arg8.view.ty) (f9 : BufTy.Contents (Elt F) arg9.view.ty) (k : Fin k0_t4_loop.trips) (s : Mxu F) (hs0 : s.reg 0 0 = none) (hs1 : s.reg 0 1 = none) :
    { R : Mxu F // Trip4 (F := F) c arg3 arg4 arg7 arg8 arg9 f3 f4 f7 f8 f9
      ⊢ wp frame (wpE (defs₀ (F := F)) Variants.none (c : Thread nD τ) none) Set.univ (k0_t4_body (F := F) i arg1 harg1 arg2 harg2 arg3 harg3 arg4 harg4 arg5 harg5 arg6 harg6 arg7 harg7 arg8 harg8 arg9 harg9 k s)
          (fun s' => iprop(⌜s' = R⌝ ∗ Trip4 (F := F) c arg3 arg4 arg7 arg8 arg9 f3 f4 f7 f8 f9)) } := by
  have hk : k.val < 16 := Nat.lt_of_lt_of_le k.isLt k0_t4_abs.2.1
  refine ⟨?_, ?run⟩
  case run =>
    have hp0 : s.PushOk 0 0 false := Mxu.pushOk_of_none _ _ _ _ hs0
    have hp1 : s.PushOk 0 1 false := Mxu.pushOk_of_none _ _ _ _ hs1
    unfold k0_t4_body
    iintro ⟨H3, H4, H7, H8, H9⟩
    sl_exec (disch := first | (mxu_pushok_peel; done) | (mxu_pushok_peel; first | exact hp0 | exact hp1))

    sl_step
    isplitr; · ipureintro; rfl
    unfold Trip4
    isplitl [H3]; · iexact H3
    isplitl [H4]; · iexact H4
    isplitl [H7]; · iexact H7
    isplitl [H8]; · iexact H8
    iexact H9

set_option maxHeartbeats 4000000 in
/-- The state a trip leaves is `kStep` of what the buffers hold. -/
theorem trip4_val (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole)
    (f3 : BufTy.Contents (Elt F) arg3.view.ty) (f4 : BufTy.Contents (Elt F) arg4.view.ty) (f7 : BufTy.Contents (Elt F) arg7.view.ty) (f8 : BufTy.Contents (Elt F) arg8.view.ty) (f9 : BufTy.Contents (Elt F) arg9.view.ty) (k : Fin k0_t4_loop.trips) (s : Mxu F) (hs0 : s.reg 0 0 = none) (hs1 : s.reg 0 1 = none) :
    (trip4 c i arg1 harg1 arg2 harg2 arg3 harg3 arg4 harg4 arg5 harg5 arg6 harg6 arg7 harg7 arg8 harg8 arg9 harg9 f3 f4 f7 f8 f9 k s hs0 hs1).val = kStep (arg3.view.read (Elt F) f3) (arg4.view.read (Elt F) f4) (arg7.view.read (Elt F) f7) (arg8.view.read (Elt F) f8) (arg9.view.read (Elt F) f9) k s := by
  show trip4.sl.k0_mxu19 arg3 arg4 arg7 arg8 arg9 f3 f4 f7 f8 f9 k s = _
  rfl

end Cert.Proof.KI

end
-- ==== Proof.Prep.lean ====
/-
  WHAT THE PREPARATION LEAVES in the three scratch buffers: the rearranged `x`, the stored patterns of the
  groups, and the table of zero points, each as a function of the input block it is read from.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import Idealize.ShloMosaic.Lib.ValueIdx
public import Idealize.ShloMosaic.Lib.WritesUnit

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## The rearranged `x` -/

/-- Block `k` of 128 columns of `x`. -/
def xBlk (x1 : Vec F S128x4096 .bf16) (k : Fin 32) : Vec F S128x128 .bf16 :=
  fun j => x1 (ix2 (j 0) ⟨128 * k.val + (j 1).val, by have : (j 1).val < 128 := (j 1).isLt; omega⟩)

/-- The rearranged `x`: block `k` of 128 columns, its columns permuted, is rows `128 k` to `128 k + 127`. -/
def xsOf (x1 : Vec F S128x4096 .bf16) : Vec F S4096x128 .bf16 :=
  fun y => k0_pay574 (xBlk x1 ⟨(y 0).val / 128, by have : (y 0).val < 4096 := (y 0).isLt; omega⟩)
    (ix2 (⟨(y 0).val % 128, by omega⟩ : Fin 128) (y 1))

/-! ## The stored patterns -/

/-- Row `k` of the group indices. -/
def gRow (x2 : Vec F S32x128 .i32) (k : Fin 32) : Vec F S1x128 .i32 := fun j => x2 (ix2 k (j 1))

/-- One byte of a window's packed pattern: the row's entries at columns `p + 8 s + b + e`, `s` the sublane, shifted
    left by `t`. -/
def patByte (row : Vec F S1x128 .i32) (p b e t : BitVec 32) : IVec S8x128 32 :=
  shli (dynamicGather 1 (k0_pay4 (F := F) row) (shapeCast S8x128 (shapeCast S8x128x1
    (addi (addi (addi (broadcast S8x128 p) (muli (broadcast S8x128 8#32) (iota .tc S8x128 32 [0] iota_S8x128_d0_w32))) (broadcast S8x128 b)) (broadcast S8x128 e))
    shapeCasts_S8x128_S8x128x1) shapeCasts_S8x128x1_S8x128)) (broadcast S8x128 t)

/-- A window's packed pattern: four bytes to a word. -/
def patWin (row : Vec F S1x128 .i32) (p e : BitVec 32) : IVec S8x128 32 :=
  shapeCast S8x128 (ori (ori (ori (patByte (F := F) row p 0#32 e 0#32) (patByte (F := F) row p 2#32 e 8#32)) (patByte (F := F) row p 4#32 e 16#32)) (patByte (F := F) row p 6#32 e 24#32))
    shapeCasts_S8x128_S8x128

/-- The stored patterns: row `k` of the group indices gives rows `32 k` to `32 k + 31`, four windows of eight rows. -/
def patOf (x2 : Vec F S32x128 .i32) : Vec F S1024x128 .i32 :=
  fun y => patWin (F := F) (gRow x2 ⟨(y 0).val / 32, by have : (y 0).val < 1024 := (y 0).isLt; omega⟩)
    (BitVec.ofNat 32 (64 * ((y 0).val / 8 % 4 / 2))) (BitVec.ofNat 32 ((y 0).val / 8 % 4 % 2))
    (ix2 (⟨(y 0).val % 8, by omega⟩ : Fin 8) (y 1))

/-! ## The table of zero points -/

/-- The packed zero points of groups `8 b` to `8 b + 7` at block `t` of 128 words. -/
def qzBlk (x5 : Vec F S32x256 .i32) (b : Fin 4) (t : Fin 2) : Vec F S8x128 .i32 :=
  fun j => x5 (ix2 ⟨8 * b.val + (j 0).val, by have : (j 0).val < 8 := (j 0).isLt; omega⟩ ⟨128 * t.val + (j 1).val, by have : (j 1).val < 128 := (j 1).isLt; omega⟩)

/-- The column of a block of packed words that holds lane `l`'s zero point, in part `a` of the block. -/
def zpSrc (a : BitVec 32) : IVec S8x128 32 :=
  addi (broadcast S8x128 (Scalar.muli 16#32 a)) (shrsi (iota .tc S8x128 32 [1] iota_S8x128_d1_w32) (broadcast S8x128 3#32))

/-- One byte of the table: the zero points of eight groups, shifted left by `t`. -/
def zpByte (q : Vec F S8x128 .i32) (a t : BitVec 32) : IVec S8x128 32 :=
  shli (andi (shrui (dynamicGather 1 q (shapeCast S8x128 (shapeCast S8x128x1 (zpSrc a) shapeCasts_S8x128_S8x128x1) shapeCasts_S8x128x1_S8x128)) k0_pay576)
    (broadcast S8x128 15#32)) (broadcast S8x128 t)

/-- The table of one chunk of columns: minus the zero points, offset by 128 in every byte. -/
def zpTab (q0 q1 q2 q3 : Vec F S8x128 .i32) (a : BitVec 32) : IVec S8x128 32 :=
  shapeCast S8x128 (subi (broadcast S8x128 2155905152#32)
    (addi (addi (addi (addi (broadcast S8x128 0#32) (zpByte (F := F) q0 a 0#32)) (zpByte (F := F) q1 a 8#32)) (zpByte (F := F) q2 a 16#32)) (zpByte (F := F) q3 a 24#32)))
    shapeCasts_S8x128_S8x128

/-- The table: chunk `c` of columns is rows `8 c` to `8 c + 7`. -/
def tabOf (x5 : Vec F S32x256 .i32) : Vec F S128x128 .i32 :=
  fun y =>
    let c := (y 0).val / 8
    have hc : c / 8 < 2 := by have : (y 0).val < 128 := (y 0).isLt; omega
    zpTab (F := F) (qzBlk x5 0 ⟨c / 8, hc⟩) (qzBlk x5 1 ⟨c / 8, hc⟩) (qzBlk x5 2 ⟨c / 8, hc⟩) (qzBlk x5 3 ⟨c / 8, hc⟩) (BitVec.ofNat 32 (c % 8))
      (ix2 (⟨(y 0).val % 8, by omega⟩ : Fin 8) (y 1))

/-! ## The loops' pieces -/

/-- What one trip over the blocks of `x` stores. -/
theorem tripL_k0_t1_eq (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole) (k0_h1 : k0_cond1 i = 1#1) (X : BufTy.Contents (Elt F) arg1.view.ty) (k : Fin k0_t1_loop.trips) :
    tripL_k0_t1 (F := F) Variants.none c none i arg1 harg1 arg2 harg2 arg3 harg3 arg4 harg4 arg5 harg5 arg6 harg6 arg7 harg7 arg8 harg8 arg9 harg9 k0_h1 X k = [⟨Rect.unit (s := S4096x128) (k0_off2 k) S128x128.size (k0_off2_inb i k k0_h1), k0_pay574 (View.ld (arg1.view.read (Elt F) X) (Rect.unit (s := S128x4096) (k0_off1 k) S128x128.size (k0_off1_inb i k k0_h1)))⟩] := by
  unfold tripL_k0_t1 trip_k0_t1; rfl

/-- The pieces the input loop has written after `n` trips are those of its first `n` trips. -/
theorem mem_pb_k0_t1 (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole) (k0_h1 : k0_cond1 i = 1#1) (X : BufTy.Contents (Elt F) arg1.view.ty) (n : ℕ) (hn : n ≤ k0_t1_loop.trips) (p : View.Piece (Elt F) S4096x128 .bf16) :
    p ∈ pb_k0_t1 (F := F) Variants.none c none i arg1 harg1 arg2 harg2 arg3 harg3 arg4 harg4 arg5 harg5 arg6 harg6 arg7 harg7 arg8 harg8 arg9 harg9 k0_h1 X n ↔ ∃ k : Fin k0_t1_loop.trips, k.val < n ∧ p ∈ tripL_k0_t1 (F := F) Variants.none c none i arg1 harg1 arg2 harg2 arg3 harg3 arg4 harg4 arg5 harg5 arg6 harg6 arg7 harg7 arg8 harg8 arg9 harg9 k0_h1 X k := by
  induction n with
  | zero => simp [pb_k0_t1]
  | succ n ih =>
    have e := pb_k0_t1_succ (F := F) Variants.none c none i arg1 harg1 arg2 harg2 arg3 harg3 arg4 harg4 arg5 harg5 arg6 harg6 arg7 harg7 arg8 harg8 arg9 harg9 k0_h1 X ⟨n, hn⟩
    dsimp only at e
    rw [e, List.mem_append, ih (by omega)]
    constructor
    · rintro (h | ⟨k, hk, h⟩)
      · exact ⟨⟨n, hn⟩, Nat.lt_succ_self n, h⟩
      · exact ⟨k, by omega, h⟩
    · rintro ⟨k, hk, h⟩
      by_cases hkn : k.val = n
      · left; have : k = ⟨n, hn⟩ := Fin.ext hkn
        rw [← this]; exact h
      · right; exact ⟨k, by omega, h⟩

/-- What one trip over the rows of group indices stores. -/
theorem tripL_k0_t2_eq (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole) (k0_h1 : k0_cond1 i = 1#1) (X : BufTy.Contents (Elt F) arg2.view.ty) (k : Fin k0_t2_loop.trips) :
    tripL_k0_t2 (F := F) Variants.none c none i arg1 harg1 arg2 harg2 arg3 harg3 arg4 harg4 arg5 harg5 arg6 harg6 arg7 harg7 arg8 harg8 arg9 harg9 k0_h1 (iota .tc S8x128 32 [0] iota_S8x128_d0_w32) X k = [⟨Rect.unit (s := S1024x128) (k0_off4 k 24#32) S8x128.size (k0_off4_inb i k k0_h1 3), patWin (F := F) (View.ld (arg2.view.read (Elt F) X) (Rect.unit (s := S32x128) (k0_off3 k) S1x128.size (k0_off3_inb i k k0_h1))) 64#32 1#32⟩, ⟨Rect.unit (s := S1024x128) (k0_off4 k 16#32) S8x128.size (k0_off4_inb i k k0_h1 2), patWin (F := F) (View.ld (arg2.view.read (Elt F) X) (Rect.unit (s := S32x128) (k0_off3 k) S1x128.size (k0_off3_inb i k k0_h1))) 64#32 0#32⟩, ⟨Rect.unit (s := S1024x128) (k0_off4 k 8#32) S8x128.size (k0_off4_inb i k k0_h1 1), patWin (F := F) (View.ld (arg2.view.read (Elt F) X) (Rect.unit (s := S32x128) (k0_off3 k) S1x128.size (k0_off3_inb i k k0_h1))) 0#32 1#32⟩, ⟨Rect.unit (s := S1024x128) (k0_off4 k 0#32) S8x128.size (k0_off4_inb i k k0_h1 0), patWin (F := F) (View.ld (arg2.view.read (Elt F) X) (Rect.unit (s := S32x128) (k0_off3 k) S1x128.size (k0_off3_inb i k k0_h1))) 0#32 0#32⟩] := by
  unfold tripL_k0_t2 trip_k0_t2; rfl

/-- The pieces the pattern loop has written after `n` trips are those of its first `n` trips. -/
theorem mem_pb_k0_t2 (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole) (k0_h1 : k0_cond1 i = 1#1) (X : BufTy.Contents (Elt F) arg2.view.ty) (n : ℕ) (hn : n ≤ k0_t2_loop.trips) (p : View.Piece (Elt F) S1024x128 .i32) :
    p ∈ pb_k0_t2 (F := F) Variants.none c none i arg1 harg1 arg2 harg2 arg3 harg3 arg4 harg4 arg5 harg5 arg6 harg6 arg7 harg7 arg8 harg8 arg9 harg9 k0_h1 (iota .tc S8x128 32 [0] iota_S8x128_d0_w32) X n ↔ ∃ k : Fin k0_t2_loop.trips, k.val < n ∧ p ∈ tripL_k0_t2 (F := F) Variants.none c none i arg1 harg1 arg2 harg2 arg3 harg3 arg4 harg4 arg5 harg5 arg6 harg6 arg7 harg7 arg8 harg8 arg9 harg9 k0_h1 (iota .tc S8x128 32 [0] iota_S8x128_d0_w32) X k := by
  induction n with
  | zero => simp [pb_k0_t2]
  | succ n ih =>
    have e := pb_k0_t2_succ (F := F) Variants.none c none i arg1 harg1 arg2 harg2 arg3 harg3 arg4 harg4 arg5 harg5 arg6 harg6 arg7 harg7 arg8 harg8 arg9 harg9 k0_h1 (iota .tc S8x128 32 [0] iota_S8x128_d0_w32) X ⟨n, hn⟩
    dsimp only at e
    rw [e, List.mem_append, ih (by omega)]
    constructor
    · rintro (h | ⟨k, hk, h⟩)
      · exact ⟨⟨n, hn⟩, Nat.lt_succ_self n, h⟩
      · exact ⟨k, by omega, h⟩
    · rintro ⟨k, hk, h⟩
      by_cases hkn : k.val = n
      · left; have : k = ⟨n, hn⟩ := Fin.ext hkn
        rw [← this]; exact h
      · right; exact ⟨k, by omega, h⟩

/-- What one trip over the chunks of columns stores. -/
theorem tripL_k0_t3_eq (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole) (X : BufTy.Contents (Elt F) arg5.view.ty) (k : Fin k0_t3_loop.trips) :
    tripL_k0_t3 (F := F) Variants.none c none i arg1 harg1 arg2 harg2 arg3 harg3 arg4 harg4 arg5 harg5 arg6 harg6 arg7 harg7 arg8 harg8 arg9 harg9 (iota .tc S8x128 32 [1] iota_S8x128_d1_w32) X k = [⟨Rect.unit (s := S128x128) (k0_off9 k) S8x128.size (k0_off9_inb k), zpTab (F := F) (View.ld (arg5.view.read (Elt F) X) (Rect.unit (s := S32x256) (k0_off5 k) S8x128.size (k0_off5_inb k))) (View.ld (arg5.view.read (Elt F) X) (Rect.unit (s := S32x256) (k0_off6 k) S8x128.size (k0_off6_inb k))) (View.ld (arg5.view.read (Elt F) X) (Rect.unit (s := S32x256) (k0_off7 k) S8x128.size (k0_off7_inb k))) (View.ld (arg5.view.read (Elt F) X) (Rect.unit (s := S32x256) (k0_off8 k) S8x128.size (k0_off8_inb k))) (Scalar.andi (Scalar.addi 0#32 (Scalar.muli (Scf.iv 0#32 1#32 k) 1#32)) 7#32)⟩] := by
  unfold tripL_k0_t3 trip_k0_t3; rfl

/-- The pieces the table loop has written after `n` trips are those of its first `n` trips. -/
theorem mem_pb_k0_t3 (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole) (X : BufTy.Contents (Elt F) arg5.view.ty) (n : ℕ) (hn : n ≤ k0_t3_loop.trips) (p : View.Piece (Elt F) S128x128 .i32) :
    p ∈ pb_k0_t3 (F := F) Variants.none c none i arg1 harg1 arg2 harg2 arg3 harg3 arg4 harg4 arg5 harg5 arg6 harg6 arg7 harg7 arg8 harg8 arg9 harg9 (iota .tc S8x128 32 [1] iota_S8x128_d1_w32) X n ↔ ∃ k : Fin k0_t3_loop.trips, k.val < n ∧ p ∈ tripL_k0_t3 (F := F) Variants.none c none i arg1 harg1 arg2 harg2 arg3 harg3 arg4 harg4 arg5 harg5 arg6 harg6 arg7 harg7 arg8 harg8 arg9 harg9 (iota .tc S8x128 32 [1] iota_S8x128_d1_w32) X k := by
  induction n with
  | zero => simp [pb_k0_t3]
  | succ n ih =>
    have e := pb_k0_t3_succ (F := F) Variants.none c none i arg1 harg1 arg2 harg2 arg3 harg3 arg4 harg4 arg5 harg5 arg6 harg6 arg7 harg7 arg8 harg8 arg9 harg9 (iota .tc S8x128 32 [1] iota_S8x128_d1_w32) X ⟨n, hn⟩
    dsimp only at e
    rw [e, List.mem_append, ih (by omega)]
    constructor
    · rintro (h | ⟨k, hk, h⟩)
      · exact ⟨⟨n, hn⟩, Nat.lt_succ_self n, h⟩
      · exact ⟨k, by omega, h⟩
    · rintro ⟨k, hk, h⟩
      by_cases hkn : k.val = n
      · left; have : k = ⟨n, hn⟩ := Fin.ext hkn
        rw [← this]; exact h
      · right; exact ⟨k, by omega, h⟩

/-! ## What the buffers hold after the loops -/

/-- An element is in a rectangle of consecutive elements when each coordinate is in its range. -/
theorem mem_set_unit_of {s : Shape} {off size : Fin s.rank → ℕ} {inb : ∀ a, off a + size a ≤ s.size a} {y : s.Idx}
    (h : ∀ a, off a ≤ (y a).val ∧ (y a).val < off a + size a) : y ∈ (Rect.unit off size inb).set := by
  refine (Rect.unit off size inb).mem_set.2 fun a => ⟨(y a).val - off a, ?_, ?_⟩
  · show (y a).val - off a < size a; have := h a; omega
  · show (y a).val = off a + 1 * ((y a).val - off a); have := h a; omega

/-- An index of a rectangle of consecutive elements, placed: the offset plus the index. -/
theorem rectUnit_val {s : Shape} (off size : Fin s.rank → ℕ) (inb) (j : (Rect.unit off size inb).shape.Idx) (a : Fin s.rank) :
    ((Rect.unit off size inb).emb j a : ℕ) = off a + j a := by
  rw [Rect.emb_apply]; show off a + 1 * (j a : ℕ) = _; omega

/-- Two indices with equal coordinates are equal. -/
theorem ix2_ext {n0 n1 : ℕ} {a : Fin n0} {b : Fin n1} {y : (⟨2, ![n0, n1]⟩ : Shape).Idx} (h0 : a.val = (y 0).val) (h1 : b.val = (y 1).val) : ix2 a b = y := by
  have e0 : a = y 0 := Fin.ext h0
  have e1 : b = y 1 := Fin.ext h1
  subst e0 e1; exact (eq_ix2 y).symm

/-- A value read through a rectangle, entry by entry. -/
theorem ld_eq_ix2 {Val : EltTy → Type} {e : EltTy} {N0 N1 : ℕ} (X : (⟨2, ![N0, N1]⟩ : Shape).Idx → Val e) (off size : Fin 2 → ℕ) (inb)
    (x : (Rect.unit (s := ⟨2, ![N0, N1]⟩) off size inb).shape.Idx) (a : Fin N0) (b : Fin N1)
    (h0 : a.val = off 0 + (x 0).val) (h1 : b.val = off 1 + (x 1).val) :
    View.ld X (Rect.unit (s := ⟨2, ![N0, N1]⟩) off size inb) x = X (ix2 a b) := by
  refine congrArg X (ix2_ext ?_ ?_).symm
  · rw [h0]; exact (rectUnit_val (s := ⟨2, ![N0, N1]⟩) off size inb x 0).symm
  · rw [h1]; exact (rectUnit_val (s := ⟨2, ![N0, N1]⟩) off size inb x 1).symm

/-- The number of trips of the input loop. -/
theorem t1_trips : k0_t1_loop.trips = 32 := by decide +kernel
/-- The number of trips of the pattern loop. -/
theorem t2_trips : k0_t2_loop.trips = 32 := by decide +kernel
/-- The number of trips of the table loop. -/
theorem t3_trips : k0_t3_loop.trips = 16 := by decide +kernel
/-- The number of trips of the contraction loop. -/
theorem t4_trips : k0_t4_loop.trips = 16 := by decide +kernel

/-- The rearranged input, at an index of a trip's piece. -/
theorem xsOf_at (x1 : Vec F S128x4096 .bf16) (k : Fin 32) (j : S128x128.Idx) (y : S4096x128.Idx)
    (h0 : (y 0).val = 128 * k.val + (j 0).val) (h1 : (y 1).val = (j 1).val) : xsOf x1 y = k0_pay574 (xBlk x1 k) j := by
  have hj : (j 0).val < 128 := (j 0).isLt
  have e : (⟨(y 0).val / 128, by have : (y 0).val < 4096 := (y 0).isLt; omega⟩ : Fin 32) = k := Fin.ext (by show (y 0).val / 128 = k.val; omega)
  have e2 : ix2 (⟨(y 0).val % 128, by omega⟩ : Fin 128) (y 1) = j := ix2_ext (by show (y 0).val % 128 = _; omega) h1
  show k0_pay574 (xBlk x1 ⟨(y 0).val / 128, _⟩) (ix2 (⟨(y 0).val % 128, _⟩ : Fin 128) (y 1)) = _
  rw [e]; exact congrArg _ e2

/-- The patterns, at an index of a trip's piece. -/
theorem patOf_at (x2 : Vec F S32x128 .i32) (k : Fin 32) (w : Fin 4) (j : S8x128.Idx) (y : S1024x128.Idx)
    (h0 : (y 0).val = 32 * k.val + 8 * w.val + (j 0).val) (h1 : (y 1).val = (j 1).val) :
    patOf (F := F) x2 y = patWin (F := F) (gRow x2 k) (BitVec.ofNat 32 (64 * (w.val / 2))) (BitVec.ofNat 32 (w.val % 2)) j := by
  have hj : (j 0).val < 8 := (j 0).isLt
  have e : (⟨(y 0).val / 32, by have : (y 0).val < 1024 := (y 0).isLt; omega⟩ : Fin 32) = k := Fin.ext (by show (y 0).val / 32 = k.val; omega)
  have ew : (y 0).val / 8 % 4 = w.val := by omega
  have e2 : ix2 (⟨(y 0).val % 8, by omega⟩ : Fin 8) (y 1) = j := ix2_ext (by show (y 0).val % 8 = _; omega) h1
  show patWin (F := F) (gRow x2 ⟨(y 0).val / 32, _⟩) (BitVec.ofNat 32 (64 * ((y 0).val / 8 % 4 / 2))) (BitVec.ofNat 32 ((y 0).val / 8 % 4 % 2)) (ix2 (⟨(y 0).val % 8, _⟩ : Fin 8) (y 1)) = _
  rw [e, ew]; exact congrArg _ e2

/-- The table, at an index of a trip's piece. -/
theorem tabOf_at (x5 : Vec F S32x256 .i32) (c : Fin 16) (t : Fin 2) (ht : t.val = c.val / 8) (j : S8x128.Idx) (y : S128x128.Idx)
    (h0 : (y 0).val = 8 * c.val + (j 0).val) (h1 : (y 1).val = (j 1).val) :
    tabOf (F := F) x5 y = zpTab (F := F) (qzBlk x5 0 t) (qzBlk x5 1 t) (qzBlk x5 2 t) (qzBlk x5 3 t) (BitVec.ofNat 32 (c.val % 8)) j := by
  have hj : (j 0).val < 8 := (j 0).isLt
  have ec : (y 0).val / 8 = c.val := by omega
  have e : (⟨(y 0).val / 8 / 8, by have : (y 0).val < 128 := (y 0).isLt; omega⟩ : Fin 2) = t := Fin.ext (by show (y 0).val / 8 / 8 = t.val; omega)
  have e2 : ix2 (⟨(y 0).val % 8, by omega⟩ : Fin 8) (y 1) = j := ix2_ext (by show (y 0).val % 8 = _; omega) h1
  show zpTab (F := F) (qzBlk x5 0 ⟨(y 0).val / 8 / 8, _⟩) (qzBlk x5 1 ⟨(y 0).val / 8 / 8, _⟩) (qzBlk x5 2 ⟨(y 0).val / 8 / 8, _⟩) (qzBlk x5 3 ⟨(y 0).val / 8 / 8, _⟩) (BitVec.ofNat 32 ((y 0).val / 8 % 8)) (ix2 (⟨(y 0).val % 8, _⟩ : Fin 8) (y 1)) = _
  rw [e, ec]; exact congrArg _ e2

/-- After the loop over the blocks of `x` the buffer holds the rearranged `x`. -/
theorem read_pb_k0_t1 (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole) (k0_h1 : k0_cond1 i = 1#1) (X : BufTy.Contents (Elt F) arg1.view.ty) (f : BufTy.Contents (Elt F) arg7.view.ty) (n : ℕ) (hn : n = k0_t1_loop.trips) :
    arg7.view.read (Elt F) (arg7.view.writes (Elt F) f (pb_k0_t1 (F := F) Variants.none c none i arg1 harg1 arg2 harg2 arg3 harg3 arg4 harg4 arg5 harg5 arg6 harg6 arg7 harg7 arg8 harg8 arg9 harg9 k0_h1 X n)) = xsOf (arg1.view.read (Elt F) X) := by
  subst hn
  funext y
  refine View.read_writes_apply_of_pieces _ f (xsOf (arg1.view.read (Elt F) X)) _ ?_ y ?_
  · intro p hp x
    obtain ⟨k, -, hp⟩ := (mem_pb_k0_t1 (F := F) c i arg1 harg1 arg2 harg2 arg3 harg3 arg4 harg4 arg5 harg5 arg6 harg6 arg7 harg7 arg8 harg8 arg9 harg9 k0_h1 X _ le_rfl p).1 hp
    rw [tripL_k0_t1_eq] at hp
    rw [List.mem_singleton] at hp; subst hp
    have hk : k.val < 32 := by have := k.isLt; have := t1_trips; omega
    have e0 := rectUnit_val (s := S4096x128) (k0_off2 k) S128x128.size (k0_off2_inb i k k0_h1) x 0
    have e1 := rectUnit_val (s := S4096x128) (k0_off2 k) S128x128.size (k0_off2_inb i k k0_h1) x 1
    refine Eq.trans ?_ (xsOf_at _ ⟨k.val, hk⟩ x _ (e0.trans ?_) (e1.trans ?_)).symm
    · refine congrFun (congrArg k0_pay574 (funext fun j => ?_)) x
      refine ld_eq_ix2 (Val := Elt F) _ _ _ _ j _ _ ?_ ?_
      · exact ((congrArg (· + (j 0).val) (congrFun (k0_off1_eq k) 0)).trans (Nat.zero_add _)).symm
      · exact (congrArg (· + (j 1).val) (congrFun (k0_off1_eq k) 1)).symm
    · exact congrArg (· + (x 0).val) (congrFun (k0_off2_eq k) 0)
    · exact (congrArg (· + (x 1).val) (congrFun (k0_off2_eq k) 1)).trans (Nat.zero_add _)
  · have hy : (y 0).val < 4096 := (y 0).isLt
    have hy1 : (y 1).val < 128 := (y 1).isLt
    have hk : (y 0).val / 128 < k0_t1_loop.trips := by rw [t1_trips]; omega
    refine ⟨_, (mem_pb_k0_t1 (F := F) c i arg1 harg1 arg2 harg2 arg3 harg3 arg4 harg4 arg5 harg5 arg6 harg6 arg7 harg7 arg8 harg8 arg9 harg9 k0_h1 X _ le_rfl _).2 ⟨⟨_, hk⟩, hk, by rw [tripL_k0_t1_eq]; exact List.mem_singleton.2 rfl⟩, ?_⟩
    refine mem_set_unit_of (inb := k0_off2_inb i _ k0_h1) (fun a => ?_)
    rw [k0_off2_eq]
    match a with
    | ⟨0, _⟩ => exact (show 128 * ((y 0).val / 128) ≤ (y 0).val ∧ (y 0).val < 128 * ((y 0).val / 128) + 128 by omega)
    | ⟨1, _⟩ => exact (show 0 ≤ (y 1).val ∧ (y 1).val < 0 + 128 by omega)

/-- After the loop over the rows of group indices the buffer holds the stored patterns. -/
theorem read_pb_k0_t2 (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole) (k0_h1 : k0_cond1 i = 1#1) (X : BufTy.Contents (Elt F) arg2.view.ty) (f : BufTy.Contents (Elt F) arg8.view.ty) (n : ℕ) (hn : n = k0_t2_loop.trips) :
    arg8.view.read (Elt F) (arg8.view.writes (Elt F) f (pb_k0_t2 (F := F) Variants.none c none i arg1 harg1 arg2 harg2 arg3 harg3 arg4 harg4 arg5 harg5 arg6 harg6 arg7 harg7 arg8 harg8 arg9 harg9 k0_h1 (iota .tc S8x128 32 [0] iota_S8x128_d0_w32) X n)) = patOf (F := F) (arg2.view.read (Elt F) X) := by
  subst hn
  funext y
  refine View.read_writes_apply_of_pieces _ f (patOf (F := F) (arg2.view.read (Elt F) X)) _ ?_ y ?_
  · intro p hp x
    obtain ⟨k, -, hp⟩ := (mem_pb_k0_t2 (F := F) c i arg1 harg1 arg2 harg2 arg3 harg3 arg4 harg4 arg5 harg5 arg6 harg6 arg7 harg7 arg8 harg8 arg9 harg9 k0_h1 X _ le_rfl p).1 hp
    rw [tripL_k0_t2_eq] at hp
    have hk : k.val < 32 := by have := k.isLt; have := t2_trips; omega
    have hrow : View.ld (arg2.view.read (Elt F) X) (Rect.unit (s := S32x128) (k0_off3 k) S1x128.size (k0_off3_inb i k k0_h1)) = gRow (arg2.view.read (Elt F) X) ⟨k.val, hk⟩ := by
      refine funext fun j => ?_
      refine ld_eq_ix2 (Val := Elt F) _ _ _ _ j _ _ ?_ ?_
      · refine ((congrArg (· + (j 0).val) (congrFun (k0_off3_eq k) 0)).trans ?_).symm
        show k.val + (j 0).val = k.val; have : (j 0).val < 1 := (j 0).isLt; omega
      · exact ((congrArg (· + (j 1).val) (congrFun (k0_off3_eq k) 1)).trans (Nat.zero_add _)).symm
    rw [hrow] at hp
    simp only [List.mem_cons, List.not_mem_nil, or_false] at hp
    rcases hp with rfl | rfl | rfl | rfl
    · have e0 := rectUnit_val (s := S1024x128) (k0_off4 k 24#32) S8x128.size (k0_off4_inb i k k0_h1 3) x 0
      have e1 := rectUnit_val (s := S1024x128) (k0_off4 k 24#32) S8x128.size (k0_off4_inb i k k0_h1 3) x 1
      have eo : k0_off4 k 24#32 = ![32 * k.val + 8 * 3, 0] := k0_off4_eq k 3
      refine (patOf_at _ ⟨k.val, hk⟩ 3 x _ (e0.trans ?_) (e1.trans ?_)).symm
      · exact congrArg (· + (x 0).val) (congrFun eo 0)
      · exact (congrArg (· + (x 1).val) (congrFun eo 1)).trans (Nat.zero_add _)
    · have e0 := rectUnit_val (s := S1024x128) (k0_off4 k 16#32) S8x128.size (k0_off4_inb i k k0_h1 2) x 0
      have e1 := rectUnit_val (s := S1024x128) (k0_off4 k 16#32) S8x128.size (k0_off4_inb i k k0_h1 2) x 1
      have eo : k0_off4 k 16#32 = ![32 * k.val + 8 * 2, 0] := k0_off4_eq k 2
      refine (patOf_at _ ⟨k.val, hk⟩ 2 x _ (e0.trans ?_) (e1.trans ?_)).symm
      · exact congrArg (· + (x 0).val) (congrFun eo 0)
      · exact (congrArg (· + (x 1).val) (congrFun eo 1)).trans (Nat.zero_add _)
    · have e0 := rectUnit_val (s := S1024x128) (k0_off4 k 8#32) S8x128.size (k0_off4_inb i k k0_h1 1) x 0
      have e1 := rectUnit_val (s := S1024x128) (k0_off4 k 8#32) S8x128.size (k0_off4_inb i k k0_h1 1) x 1
      have eo : k0_off4 k 8#32 = ![32 * k.val + 8 * 1, 0] := k0_off4_eq k 1
      refine (patOf_at _ ⟨k.val, hk⟩ 1 x _ (e0.trans ?_) (e1.trans ?_)).symm
      · exact congrArg (· + (x 0).val) (congrFun eo 0)
      · exact (congrArg (· + (x 1).val) (congrFun eo 1)).trans (Nat.zero_add _)
    · have e0 := rectUnit_val (s := S1024x128) (k0_off4 k 0#32) S8x128.size (k0_off4_inb i k k0_h1 0) x 0
      have e1 := rectUnit_val (s := S1024x128) (k0_off4 k 0#32) S8x128.size (k0_off4_inb i k k0_h1 0) x 1
      have eo : k0_off4 k 0#32 = ![32 * k.val + 8 * 0, 0] := k0_off4_eq k 0
      refine (patOf_at _ ⟨k.val, hk⟩ 0 x _ (e0.trans ?_) (e1.trans ?_)).symm
      · exact congrArg (· + (x 0).val) (congrFun eo 0)
      · exact (congrArg (· + (x 1).val) (congrFun eo 1)).trans (Nat.zero_add _)

  · have hy : (y 0).val < 1024 := (y 0).isLt
    have hy1 : (y 1).val < 128 := (y 1).isLt
    have hk : (y 0).val / 32 < k0_t2_loop.trips := by rw [t2_trips]; omega
    have hw : (y 0).val / 8 % 4 = 0 ∨ (y 0).val / 8 % 4 = 1 ∨ (y 0).val / 8 % 4 = 2 ∨ (y 0).val / 8 % 4 = 3 := by omega
    rcases hw with hw | hw | hw | hw
    · refine ⟨_, (mem_pb_k0_t2 (F := F) c i arg1 harg1 arg2 harg2 arg3 harg3 arg4 harg4 arg5 harg5 arg6 harg6 arg7 harg7 arg8 harg8 arg9 harg9 k0_h1 X _ le_rfl _).2 ⟨⟨_, hk⟩, hk, by rw [tripL_k0_t2_eq]; exact List.mem_cons_of_mem _ (List.mem_cons_of_mem _ (List.mem_cons_of_mem _ (List.mem_cons_self)))⟩, ?_⟩
      have eo : k0_off4 ⟨(y 0).val / 32, hk⟩ 0#32 = ![32 * ((y 0).val / 32) + 8 * 0, 0] := k0_off4_eq ⟨_, hk⟩ 0
      refine mem_set_unit_of (inb := k0_off4_inb i _ k0_h1 0) (fun a => ?_)
      rw [eo]
      match a with
      | ⟨0, _⟩ => exact (show 32 * ((y 0).val / 32) + 8 * 0 ≤ (y 0).val ∧ (y 0).val < 32 * ((y 0).val / 32) + 8 * 0 + 8 by omega)
      | ⟨1, _⟩ => exact (show 0 ≤ (y 1).val ∧ (y 1).val < 0 + 128 by omega)
    · refine ⟨_, (mem_pb_k0_t2 (F := F) c i arg1 harg1 arg2 harg2 arg3 harg3 arg4 harg4 arg5 harg5 arg6 harg6 arg7 harg7 arg8 harg8 arg9 harg9 k0_h1 X _ le_rfl _).2 ⟨⟨_, hk⟩, hk, by rw [tripL_k0_t2_eq]; exact List.mem_cons_of_mem _ (List.mem_cons_of_mem _ (List.mem_cons_self))⟩, ?_⟩
      have eo : k0_off4 ⟨(y 0).val / 32, hk⟩ 8#32 = ![32 * ((y 0).val / 32) + 8 * 1, 0] := k0_off4_eq ⟨_, hk⟩ 1
      refine mem_set_unit_of (inb := k0_off4_inb i _ k0_h1 1) (fun a => ?_)
      rw [eo]
      match a with
      | ⟨0, _⟩ => exact (show 32 * ((y 0).val / 32) + 8 * 1 ≤ (y 0).val ∧ (y 0).val < 32 * ((y 0).val / 32) + 8 * 1 + 8 by omega)
      | ⟨1, _⟩ => exact (show 0 ≤ (y 1).val ∧ (y 1).val < 0 + 128 by omega)
    · refine ⟨_, (mem_pb_k0_t2 (F := F) c i arg1 harg1 arg2 harg2 arg3 harg3 arg4 harg4 arg5 harg5 arg6 harg6 arg7 harg7 arg8 harg8 arg9 harg9 k0_h1 X _ le_rfl _).2 ⟨⟨_, hk⟩, hk, by rw [tripL_k0_t2_eq]; exact List.mem_cons_of_mem _ (List.mem_cons_self)⟩, ?_⟩
      have eo : k0_off4 ⟨(y 0).val / 32, hk⟩ 16#32 = ![32 * ((y 0).val / 32) + 8 * 2, 0] := k0_off4_eq ⟨_, hk⟩ 2
      refine mem_set_unit_of (inb := k0_off4_inb i _ k0_h1 2) (fun a => ?_)
      rw [eo]
      match a with
      | ⟨0, _⟩ => exact (show 32 * ((y 0).val / 32) + 8 * 2 ≤ (y 0).val ∧ (y 0).val < 32 * ((y 0).val / 32) + 8 * 2 + 8 by omega)
      | ⟨1, _⟩ => exact (show 0 ≤ (y 1).val ∧ (y 1).val < 0 + 128 by omega)
    · refine ⟨_, (mem_pb_k0_t2 (F := F) c i arg1 harg1 arg2 harg2 arg3 harg3 arg4 harg4 arg5 harg5 arg6 harg6 arg7 harg7 arg8 harg8 arg9 harg9 k0_h1 X _ le_rfl _).2 ⟨⟨_, hk⟩, hk, by rw [tripL_k0_t2_eq]; exact List.mem_cons_self⟩, ?_⟩
      have eo : k0_off4 ⟨(y 0).val / 32, hk⟩ 24#32 = ![32 * ((y 0).val / 32) + 8 * 3, 0] := k0_off4_eq ⟨_, hk⟩ 3
      refine mem_set_unit_of (inb := k0_off4_inb i _ k0_h1 3) (fun a => ?_)
      rw [eo]
      match a with
      | ⟨0, _⟩ => exact (show 32 * ((y 0).val / 32) + 8 * 3 ≤ (y 0).val ∧ (y 0).val < 32 * ((y 0).val / 32) + 8 * 3 + 8 by omega)
      | ⟨1, _⟩ => exact (show 0 ≤ (y 1).val ∧ (y 1).val < 0 + 128 by omega)

/-- Where a table trip reads a block of packed zero points. -/
theorem k0_off5_closed : ∀ k : Fin k0_t3_loop.trips, k0_off5 k = ![0, 128 * (k.val / 8)] := by decide +kernel
/-- Where a table trip reads a block of packed zero points. -/
theorem k0_off6_closed : ∀ k : Fin k0_t3_loop.trips, k0_off6 k = ![8, 128 * (k.val / 8)] := by decide +kernel
/-- Where a table trip reads a block of packed zero points. -/
theorem k0_off7_closed : ∀ k : Fin k0_t3_loop.trips, k0_off7 k = ![16, 128 * (k.val / 8)] := by decide +kernel
/-- Where a table trip reads a block of packed zero points. -/
theorem k0_off8_closed : ∀ k : Fin k0_t3_loop.trips, k0_off8 k = ![24, 128 * (k.val / 8)] := by decide +kernel
/-- Which eighth of a block of packed zero points a table trip takes. -/
theorem t3_part : ∀ k : Fin k0_t3_loop.trips, Scalar.andi (Scalar.addi 0#32 (Scalar.muli (Scf.iv 0#32 1#32 k) 1#32)) 7#32 = BitVec.ofNat 32 (k.val % 8) := by decide +kernel

/-- After the loop over the chunks of columns the buffer holds the table of zero points. -/
theorem read_pb_k0_t3 (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole) (X : BufTy.Contents (Elt F) arg5.view.ty) (f : BufTy.Contents (Elt F) arg9.view.ty) (n : ℕ) (hn : n = k0_t3_loop.trips) :
    arg9.view.read (Elt F) (arg9.view.writes (Elt F) f (pb_k0_t3 (F := F) Variants.none c none i arg1 harg1 arg2 harg2 arg3 harg3 arg4 harg4 arg5 harg5 arg6 harg6 arg7 harg7 arg8 harg8 arg9 harg9 (iota .tc S8x128 32 [1] iota_S8x128_d1_w32) X n)) = tabOf (F := F) (arg5.view.read (Elt F) X) := by
  subst hn
  funext y
  refine View.read_writes_apply_of_pieces _ f (tabOf (F := F) (arg5.view.read (Elt F) X)) _ ?_ y ?_
  · intro p hp x
    obtain ⟨k, -, hp⟩ := (mem_pb_k0_t3 (F := F) c i arg1 harg1 arg2 harg2 arg3 harg3 arg4 harg4 arg5 harg5 arg6 harg6 arg7 harg7 arg8 harg8 arg9 harg9 X _ le_rfl p).1 hp
    rw [tripL_k0_t3_eq] at hp
    rw [List.mem_singleton] at hp; subst hp
    have hk : k.val < 16 := by have := k.isLt; have := t3_trips; omega
    have e0 := rectUnit_val (s := S128x128) (k0_off9 k) S8x128.size (k0_off9_inb k) x 0
    have e1 := rectUnit_val (s := S128x128) (k0_off9 k) S8x128.size (k0_off9_inb k) x 1
    refine Eq.trans ?_ (tabOf_at _ ⟨k.val, hk⟩ ⟨k.val / 8, by omega⟩ rfl x _ (e0.trans ?_) (e1.trans ?_)).symm
    · have hp3 := t3_part k
      have q0 : View.ld (arg5.view.read (Elt F) X) (Rect.unit (s := S32x256) (k0_off5 k) S8x128.size (k0_off5_inb k)) = qzBlk (arg5.view.read (Elt F) X) 0 ⟨k.val / 8, by omega⟩ := by
        refine funext fun j => ?_
        refine ld_eq_ix2 (Val := Elt F) _ _ _ _ j _ _ ?_ ?_
        · exact (congrArg (· + (j 0).val) (congrFun (k0_off5_closed k) 0)).symm
        · exact (congrArg (· + (j 1).val) (congrFun (k0_off5_closed k) 1)).symm
      have q1 : View.ld (arg5.view.read (Elt F) X) (Rect.unit (s := S32x256) (k0_off6 k) S8x128.size (k0_off6_inb k)) = qzBlk (arg5.view.read (Elt F) X) 1 ⟨k.val / 8, by omega⟩ := by
        refine funext fun j => ?_
        refine ld_eq_ix2 (Val := Elt F) _ _ _ _ j _ _ ?_ ?_
        · exact (congrArg (· + (j 0).val) (congrFun (k0_off6_closed k) 0)).symm
        · exact (congrArg (· + (j 1).val) (congrFun (k0_off6_closed k) 1)).symm
      have q2 : View.ld (arg5.view.read (Elt F) X) (Rect.unit (s := S32x256) (k0_off7 k) S8x128.size (k0_off7_inb k)) = qzBlk (arg5.view.read (Elt F) X) 2 ⟨k.val / 8, by omega⟩ := by
        refine funext fun j => ?_
        refine ld_eq_ix2 (Val := Elt F) _ _ _ _ j _ _ ?_ ?_
        · exact (congrArg (· + (j 0).val) (congrFun (k0_off7_closed k) 0)).symm
        · exact (congrArg (· + (j 1).val) (congrFun (k0_off7_closed k) 1)).symm
      have q3 : View.ld (arg5.view.read (Elt F) X) (Rect.unit (s := S32x256) (k0_off8 k) S8x128.size (k0_off8_inb k)) = qzBlk (arg5.view.read (Elt F) X) 3 ⟨k.val / 8, by omega⟩ := by
        refine funext fun j => ?_
        refine ld_eq_ix2 (Val := Elt F) _ _ _ _ j _ _ ?_ ?_
        · exact (congrArg (· + (j 0).val) (congrFun (k0_off8_closed k) 0)).symm
        · exact (congrArg (· + (j 1).val) (congrFun (k0_off8_closed k) 1)).symm
      rw [q0, q1, q2, q3, hp3]
    · exact congrArg (· + (x 0).val) (congrFun (k0_off9_eq k) 0)
    · exact (congrArg (· + (x 1).val) (congrFun (k0_off9_eq k) 1)).trans (Nat.zero_add _)
  · have hy : (y 0).val < 128 := (y 0).isLt
    have hy1 : (y 1).val < 128 := (y 1).isLt
    have hk : (y 0).val / 8 < k0_t3_loop.trips := by rw [t3_trips]; omega
    refine ⟨_, (mem_pb_k0_t3 (F := F) c i arg1 harg1 arg2 harg2 arg3 harg3 arg4 harg4 arg5 harg5 arg6 harg6 arg7 harg7 arg8 harg8 arg9 harg9 X _ le_rfl _).2 ⟨⟨_, hk⟩, hk, by rw [tripL_k0_t3_eq]; exact List.mem_singleton.2 rfl⟩, ?_⟩
    refine mem_set_unit_of (inb := k0_off9_inb _) (fun a => ?_)
    rw [k0_off9_eq]
    match a with
    | ⟨0, _⟩ => exact (show 8 * ((y 0).val / 8) ≤ (y 0).val ∧ (y 0).val < 8 * ((y 0).val / 8) + 8 by omega)
    | ⟨1, _⟩ => exact (show 0 ≤ (y 1).val ∧ (y 1).val < 0 + 128 by omega)

end Cert.Proof.KI

end
-- ==== Proof.Run.lean ====
/-
  THE RUN of the body: the state of the matrix unit after each trip of the loop over the blocks of contracted
  rows, what the body leaves in the result block and in the three scratch buffers, and the body's triple.
-/
module

public import proofs.«01_k».proof.Proof.Step
public import proofs.«01_k».proof.Proof.Prep
public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import Idealize.ShloMosaic.Lib.Mxu.Lemmas
public import Idealize.ShloMosaic.Lib.Mxu.Walk

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## The matrix unit's state -/

/-- The state of the matrix unit before trip `k`. -/
def mxuAt (x3 : Vec F S512x2048 .i32) (x4 : Vec F S32x2048 .bf16) (x7 : Vec F S4096x128 .bf16) (x8 : Vec F S1024x128 .i32) (x9 : Vec F S128x128 .i32) : ℕ → Mxu F
  | 0 => Mxu.init
  | k + 1 => if h : k < k0_t4_loop.trips then kStep x3 x4 x7 x8 x9 ⟨k, h⟩ (mxuAt x3 x4 x7 x8 x9 k) else mxuAt x3 x4 x7 x8 x9 k

/-- The matrix unit's state after one more trip. -/
theorem mxuAt_succ (x3 : Vec F S512x2048 .i32) (x4 : Vec F S32x2048 .bf16) (x7 : Vec F S4096x128 .bf16) (x8 : Vec F S1024x128 .i32) (x9 : Vec F S128x128 .i32) (k : Fin k0_t4_loop.trips) :
    mxuAt x3 x4 x7 x8 x9 (k.val + 1) = kStep x3 x4 x7 x8 x9 k (mxuAt x3 x4 x7 x8 x9 k.val) := by
  rw [mxuAt, dif_pos k.isLt]

/-- No weights staged, and nothing in the second unit's result buffer. -/
def Quiet (s : Mxu F) : Prop := (∀ q r, s.reg q r = none) ∧ ∀ R, s.live 1 R = false

/-- Nothing is pending in the matrix unit before the first trip. -/
theorem quiet_init : Quiet (Mxu.init : Mxu F) := ⟨fun q r => Mxu.reg_init .., fun R => Mxu.live_init ..⟩

/-- Weights staged and used at once leave nothing staged. -/
theorem quiet_pass (s : Mxu F) (hs : Quiet s) (r : Fin 2) (A : ℕ) (w : FVec F S256x256 .bf16) (lhs : FVec F S128x256 .bf16) (h : Mxu.Fits A 128) :
    Quiet ((s.pushed 0 r false w).accLhs 0 r A lhs h) := by
  refine ⟨fun q' r' => ?_, fun R => ?_⟩
  · by_cases hne : q' = 0 ∧ r' = r
    · obtain ⟨rfl, rfl⟩ := hne
      exact Mxu.reg_accLhs ..
    · rw [Mxu.reg_accLhs_ne _ _ _ _ _ _ _ _ hne, Mxu.reg_pushed_ne _ _ _ _ _ _ _ hne]
      exact hs.1 q' r'
  · rw [Mxu.live_accLhs, if_neg (fun hh => absurd hh.1 (by decide)), Mxu.live_pushed]
    exact hs.2 R

/-- A trip leaves nothing pending. -/
theorem quiet_kStep (x3 : Vec F S512x2048 .i32) (x4 : Vec F S32x2048 .bf16) (x7 : Vec F S4096x128 .bf16) (x8 : Vec F S1024x128 .i32) (x9 : Vec F S128x128 .i32) (k : Fin k0_t4_loop.trips) (s : Mxu F) (hs : Quiet s) : Quiet (kStep x3 x4 x7 x8 x9 k s) := by
  unfold kStep
  repeat' (first | exact hs | apply quiet_pass)

/-- Nothing is pending between trips. -/
theorem quiet_mxuAt (x3 : Vec F S512x2048 .i32) (x4 : Vec F S32x2048 .bf16) (x7 : Vec F S4096x128 .bf16) (x8 : Vec F S1024x128 .i32) (x9 : Vec F S128x128 .i32) : ∀ n, Quiet (mxuAt x3 x4 x7 x8 x9 n)
  | 0 => quiet_init
  | n + 1 => by
    rw [mxuAt]; split
    · exact quiet_kStep x3 x4 x7 x8 x9 _ _ (quiet_mxuAt x3 x4 x7 x8 x9 n)
    · exact quiet_mxuAt x3 x4 x7 x8 x9 n

/-- The eight results read out in turn leave the unit as it began. -/
theorem drained_pops (s : Mxu F) (hs : Quiet s) :
    ((((((((s.pop 0 0 128 fits_0_128).pop 0 32 128 fits_32_128).pop 0 64 128 fits_64_128).pop 0 96 128 fits_96_128).pop 0 128 128 fits_128_128).pop 0 160 128 fits_160_128).pop 0 192 128 fits_192_128).pop 0 224 128 fits_224_128).Drained := by
  refine ⟨fun q r => ?_, fun q R => ?_⟩
  · simp only [Mxu.reg_pop, hs.1 q r, Option.isNone_none]
  · simp only [Mxu.live_pop]
    have hR : R.val < 1024 := R.isLt
    have hq : q = 0 ∨ q = 1 := by omega
    rcases hq with rfl | rfl
    · split_ifs <;> first | rfl | (exfalso; simp only [true_and] at *; omega)
    · simp only [hs.2 R, ite_self]

/-! ## The loop over the blocks of contracted rows -/

set_option warn.classDefReducibility false in
/-- The loop: before trip `k` the unit is at `mxuAt k`; the buffers are only read. -/
@[sl_loop] def loopInv_k0_t4 (c : Dev nD) (i : grid0.Coords) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole)
    (f3 : BufTy.Contents (Elt F) arg3.view.ty) (f4 : BufTy.Contents (Elt F) arg4.view.ty) (f7 : BufTy.Contents (Elt F) arg7.view.ty) (f8 : BufTy.Contents (Elt F) arg8.view.ty) (f9 : BufTy.Contents (Elt F) arg9.view.ty) :
    LoopInvTy_k0_t4 (F := F) Unit ℕ (UR sig nD τ) ℕ Variants.none c none Set.univ i arg1 harg1 arg2 harg2 arg3 harg3 arg4 harg4 arg5 harg5 arg6 harg6 arg7 harg7 arg8 harg8 arg9 harg9 (Mxu.init : Mxu F) where
  inv k s := iprop(Trip4 (F := F) c arg3 arg4 arg7 arg8 arg9 f3 f4 f7 f8 f9 ∗ ⌜s = mxuAt (arg3.view.read (Elt F) f3) (arg4.view.read (Elt F) f4) (arg7.view.read (Elt F) f7) (arg8.view.read (Elt F) f8) (arg9.view.read (Elt F) f9) k⌝)
  step k acc := by
    iintro ⟨HT, %h⟩
    subst h
    have hq := quiet_mxuAt (arg3.view.read (Elt F) f3) (arg4.view.read (Elt F) f4) (arg7.view.read (Elt F) f7) (arg8.view.read (Elt F) f8) (arg9.view.read (Elt F) f9) k.val
    iapply (wp_wand_r Idealize.ShloMosaic.frame (wpE (defs₀ (F := F)) Variants.none (c : Thread nD τ) none) Set.univ)
    isplitl [HT]
    · iapply ((trip4 c i arg1 harg1 arg2 harg2 arg3 harg3 arg4 harg4 arg5 harg5 arg6 harg6 arg7 harg7 arg8 harg8 arg9 harg9 f3 f4 f7 f8 f9 k _ (hq.1 0 0) (hq.1 0 1)).2)
      iexact HT
    · iintro %s' ⟨%hs', HT⟩
      isplitl [HT]; · iexact HT
      ipureintro
      rw [hs', trip4_val, mxuAt_succ]

/-! ## What the body leaves in the result block -/

abbrev rOut0 : Rect S128x2048 := Rect.unit (s := S128x2048) ![0, 0] S128x256.size inb_S128x2048_S128x256_0_0
abbrev rOut1 : Rect S128x2048 := Rect.unit (s := S128x2048) ![0, 256] S128x256.size inb_S128x2048_S128x256_0_256
abbrev rOut2 : Rect S128x2048 := Rect.unit (s := S128x2048) ![0, 512] S128x256.size inb_S128x2048_S128x256_0_512
abbrev rOut3 : Rect S128x2048 := Rect.unit (s := S128x2048) ![0, 768] S128x256.size inb_S128x2048_S128x256_0_768
abbrev rOut4 : Rect S128x2048 := Rect.unit (s := S128x2048) ![0, 1024] S128x256.size inb_S128x2048_S128x256_0_1024
abbrev rOut5 : Rect S128x2048 := Rect.unit (s := S128x2048) ![0, 1280] S128x256.size inb_S128x2048_S128x256_0_1280
abbrev rOut6 : Rect S128x2048 := Rect.unit (s := S128x2048) ![0, 1536] S128x256.size inb_S128x2048_S128x256_0_1536
abbrev rOut7 : Rect S128x2048 := Rect.unit (s := S128x2048) ![0, 1792] S128x256.size inb_S128x2048_S128x256_0_1792

/-- The eight stores of the result block, last first: the eight results read out in turn. -/
def outPieces (s : Mxu F) : List (View.Piece (Elt F) S128x2048 .bf16) :=
  [⟨rOut7, k0_pay3 ((((((((s.pop 0 0 128 fits_0_128).pop 0 32 128 fits_32_128).pop 0 64 128 fits_64_128).pop 0 96 128 fits_96_128).pop 0 128 128 fits_128_128).pop 0 160 128 fits_160_128).pop 0 192 128 fits_192_128).read 0 224 fits_224_128)⟩,
   ⟨rOut6, k0_pay2 (((((((s.pop 0 0 128 fits_0_128).pop 0 32 128 fits_32_128).pop 0 64 128 fits_64_128).pop 0 96 128 fits_96_128).pop 0 128 128 fits_128_128).pop 0 160 128 fits_160_128).read 0 192 fits_192_128)⟩,
   ⟨rOut5, k0_pay1 ((((((s.pop 0 0 128 fits_0_128).pop 0 32 128 fits_32_128).pop 0 64 128 fits_64_128).pop 0 96 128 fits_96_128).pop 0 128 128 fits_128_128).read 0 160 fits_160_128)⟩,
   ⟨rOut4, k0_pay585 (((((s.pop 0 0 128 fits_0_128).pop 0 32 128 fits_32_128).pop 0 64 128 fits_64_128).pop 0 96 128 fits_96_128).read 0 128 fits_128_128)⟩,
   ⟨rOut3, k0_pay584 ((((s.pop 0 0 128 fits_0_128).pop 0 32 128 fits_32_128).pop 0 64 128 fits_64_128).read 0 96 fits_96_128)⟩,
   ⟨rOut2, k0_pay583 (((s.pop 0 0 128 fits_0_128).pop 0 32 128 fits_32_128).read 0 64 fits_64_128)⟩,
   ⟨rOut1, k0_pay582 ((s.pop 0 0 128 fits_0_128).read 0 32 fits_32_128)⟩,
   ⟨rOut0, k0_pay581 (s.read 0 0 fits_0_128)⟩]

/-- The eight tiles cover the result block. -/
theorem cover_out (s : Mxu F) (y : S128x2048.Idx) : ∃ pc ∈ outPieces s, y ∈ pc.1.set :=
  View.cover_of_tiled (outPieces s) S128x256.size (by rfl) y

/-- The result block from what the buffers hold. -/
def outOf (x3 : Vec F S512x2048 .i32) (x4 : Vec F S32x2048 .bf16) (x7 : Vec F S4096x128 .bf16) (x8 : Vec F S1024x128 .i32) (x9 : Vec F S128x128 .i32) : Vec F S128x2048 .bf16 :=
  View.canon (outPieces (mxuAt x3 x4 x7 x8 x9 k0_t4_loop.trips))

/-! ## The body's triple -/

/-- The body at the first point: it fills the rearranged `x` and the patterns, then computes the block. -/
theorem sound_first (c : Dev nD) (i : grid0.Coords) (hc : k0_cond1 i = 1#1) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole)
    (x1 : Vec F S128x4096 .bf16) (x2 : Vec F S32x128 .i32) (x3 : Vec F S512x2048 .i32) (x4 : Vec F S32x2048 .bf16) (x5 : Vec F S32x256 .i32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outOf x3 x4 (xsOf x1) (patOf (F := F) x2) (tabOf (F := F) x5)) ∗ owns (c : Thread nD τ) arg7 fullShare (xsOf x1) ∗ owns (c : Thread nD τ) arg8 fullShare (patOf (F := F) x2) ∗ (∃ d, owns (c : Thread nD τ) arg9 fullShare d)) -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    have e := View.read_writes_eq_canon (Val := Elt F) arg6.view f6 _ (cover_out (mxuAt (arg3.view.read (Elt F) f3) (arg4.view.read (Elt F) f4) (arg7.view.read (Elt F) (arg7.view.writes (Elt F) f7 (pb_k0_t1 (F := F) Variants.none c none i arg1 harg1 arg2 harg2 arg3 harg3 arg4 harg4 arg5 harg5 arg6 harg6 arg7 harg7 arg8 harg8 arg9 harg9 hc f1 k0_t1_loop.trips))) (arg8.view.read (Elt F) (arg8.view.writes (Elt F) f8 (pb_k0_t2 (F := F) Variants.none c none i arg1 harg1 arg2 harg2 arg3 harg3 arg4 harg4 arg5 harg5 arg6 harg6 arg7 harg7 arg8 harg8 arg9 harg9 hc (iota .tc S8x128 32 [0] iota_S8x128_d0_w32) f2 k0_t2_loop.trips))) (arg9.view.read (Elt F) (arg9.view.writes (Elt F) f9 (pb_k0_t3 (F := F) Variants.none c none i arg1 harg1 arg2 harg2 arg3 harg3 arg4 harg4 arg5 harg5 arg6 harg6 arg7 harg7 arg8 harg8 arg9 harg9 (iota .tc S8x128 32 [1] iota_S8x128_d1_w32) f5 k0_t3_loop.trips))) k0_t4_loop.trips))
    refine Eq.trans e ?_
    unfold outOf
    rw [read_pb_k0_t1 (F := F) c i arg1 harg1 arg2 harg2 arg3 harg3 arg4 harg4 arg5 harg5 arg6 harg6 arg7 harg7 arg8 harg8 arg9 harg9 hc f1 f7 _ rfl, read_pb_k0_t2 (F := F) c i arg1 harg1 arg2 harg2 arg3 harg3 arg4 harg4 arg5 harg5 arg6 harg6 arg7 harg7 arg8 harg8 arg9 harg9 hc f2 f8 _ rfl, read_pb_k0_t3 (F := F) c i arg1 harg1 arg2 harg2 arg3 harg3 arg4 harg4 arg5 harg5 arg6 harg6 arg7 harg7 arg8 harg8 arg9 harg9 f5 f9 _ rfl]
  isplitl [H7]
  · iexists _; isplitr
    swap; · iexact H7
    ipureintro
    exact read_pb_k0_t1 (F := F) c i arg1 harg1 arg2 harg2 arg3 harg3 arg4 harg4 arg5 harg5 arg6 harg6 arg7 harg7 arg8 harg8 arg9 harg9 hc f1 f7 _ rfl
  isplitl [H8]
  · iexists _; isplitr
    swap; · iexact H8
    ipureintro
    exact read_pb_k0_t2 (F := F) c i arg1 harg1 arg2 harg2 arg3 harg3 arg4 harg4 arg5 harg5 arg6 harg6 arg7 harg7 arg8 harg8 arg9 harg9 hc f2 f8 _ rfl
  iexists _, _; isplitr
  swap; · iexact H9
  ipureintro; rfl

/-- The body at a later point: it finds the rearranged `x` and the patterns, and computes the block. -/
theorem sound_later (c : Dev nD) (i : grid0.Coords) (hc : ¬ k0_cond1 i = 1#1) (arg1 : Memref sig .tc .vmem S128x4096 .bf16) (harg1 : arg1.IsWhole) (arg2 : Memref sig .tc .vmem S32x128 .i32) (harg2 : arg2.IsWhole) (arg3 : Memref sig .tc .vmem S512x2048 .i32) (harg3 : arg3.IsWhole) (arg4 : Memref sig .tc .vmem S32x2048 .bf16) (harg4 : arg4.IsWhole) (arg5 : Memref sig .tc .vmem S32x256 .i32) (harg5 : arg5.IsWhole) (arg6 : Memref sig .tc .vmem S128x2048 .bf16) (harg6 : arg6.IsWhole) (arg7 : Memref sig .tc .vmem S4096x128 .bf16) (harg7 : arg7.IsWhole) (arg8 : Memref sig .tc .vmem S1024x128 .i32) (harg8 : arg8.IsWhole) (arg9 : Memref sig .tc .vmem S128x128 .i32) (harg9 : arg9.IsWhole)
    (x1 : Vec F S128x4096 .bf16) (x2 : Vec F S32x128 .i32) (x3 : Vec F S512x2048 .i32) (x4 : Vec F S32x2048 .bf16) (x5 : Vec F S32x256 .i32) (x7 : Vec F S4096x128 .bf16) (x8 : Vec F S1024x128 .i32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare x7 ∗ owns (c : Thread nD τ) arg8 fullShare x8 ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outOf x3 x4 x7 x8 (tabOf (F := F) x5)) ∗ owns (c : Thread nD τ) arg7 fullShare x7 ∗ owns (c : Thread nD τ) arg8 fullShare x8 ∗ (∃ d, owns (c : Thread nD τ) arg9 fullShare d)) -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, Hk⟩
  subst hf1 hf2 hf3 hf4 hf5 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    have e := View.read_writes_eq_canon (Val := Elt F) arg6.view f6 _ (cover_out (mxuAt (arg3.view.read (Elt F) f3) (arg4.view.read (Elt F) f4) (arg7.view.read (Elt F) f7) (arg8.view.read (Elt F) f8) (arg9.view.read (Elt F) (arg9.view.writes (Elt F) f9 (pb_k0_t3 (F := F) Variants.none c none i arg1 harg1 arg2 harg2 arg3 harg3 arg4 harg4 arg5 harg5 arg6 harg6 arg7 harg7 arg8 harg8 arg9 harg9 (iota .tc S8x128 32 [1] iota_S8x128_d1_w32) f5 k0_t3_loop.trips))) k0_t4_loop.trips))
    refine Eq.trans e ?_
    unfold outOf
    rw [read_pb_k0_t3 (F := F) c i arg1 harg1 arg2 harg2 arg3 harg3 arg4 harg4 arg5 harg5 arg6 harg6 arg7 harg7 arg8 harg8 arg9 harg9 f5 f9 _ rfl]
  isplitl [H7]
  · iexists f7; isplitr; · ipureintro; rfl
    iexact H7
  isplitl [H8]
  · iexists f8; isplitr; · ipureintro; rfl
    iexact H8
  iexists _, _; isplitr
  swap; · iexact H9
  ipureintro; rfl

end Cert.Proof.KI

end
-- ==== Proof.Launch.lean ====
/-
  THE LAUNCH: the body at every point of the grid, the rearranged `x` and the stored patterns carried from the first
  point to the later ones, and the run of the whole program.
-/
module

public import proofs.«01_k».proof.Proof.Run
public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import Idealize.ShloMosaic.Lib.Mxu.Lemmas
public import Idealize.ShloMosaic.Lib.Mxu.Walk

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The one block of `x`. -/
def xIn (c : Dev nD) : Vec F S128x4096 .bf16 := iblk m c 0 ⟨0, by decide⟩
/-- The one block of group indices. -/
def gIn (c : Dev nD) : Vec F S32x128 .i32 := iblk m c 1 ⟨0, by decide⟩

/-- The input's block is the same at every point. -/
theorem iblk0_eq (c : Dev nD) (t : Fin cfg0.N) : iblk m c 0 t = xIn m c := rfl
/-- The groups' block is the same at every point. -/
theorem iblk1_eq (c : Dev nD) (t : Fin cfg0.N) : iblk m c 1 t = gIn m c := rfl

/-- The result block at point `t`. -/
def resBlk (c : Dev nD) (t : Fin cfg0.N) : Vec F S128x2048 .bf16 :=
  outOf (iblk m c 2 t) (iblk m c 3 t) (xsOf (xIn m c)) (patOf (F := F) (gIn m c)) (tabOf (F := F) (iblk m c 4 t))

/-- What the scratch buffers hold after the first point: the rearranged `x`, the stored patterns, and some table. -/
def kept (c : Dev nD) : sProp 𝕄 :=
  iprop((((c : Thread nD τ).loc cc0_scratch0) ↦{fullShare} (xsOf (xIn m c) : Vec F S4096x128 .bf16))
    ∗ (((c : Thread nD τ).loc cc0_scratch1) ↦{fullShare} (patOf (F := F) (gIn m c) : Vec F S1024x128 .i32))
    ∗ (∃ f : Buf (Elt F) ((c : Thread nD τ).loc cc0_scratch2), ((c : Thread nD τ).loc cc0_scratch2) ↦{fullShare} f)
    ∗ ∃ r, prngReg c r)

/-- The proof data: each input's buffer is left at its block, the result's at `resBlk`; before the first point the
    scratch buffers hold anything, after it what `kept` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => resBlk m c t
  Φ t := if t.val = 0 then Pipeline.ΦA spec0 c else kept m c
  q _ := fullShare
  owed _ := 0

/-- What the scratch buffers hold between points. -/
theorem Phi_eq (c : Dev nD) (t : Fin (cfg0.N + 1)) : (dats m 0 c).Φ t = if t.val = 0 then Pipeline.ΦA spec0 c else kept m c := by
  dsimp only [dats]

/-- The arrays start as the region finds them. -/
theorem A_eq (c : Dev nD) (w : Fin cfg0.W) : (dats m 0 c).A w = V m c (Pipeline.arrRef spec0 w) := by
  dsimp only [dats]

/-- What window 0 holds after a point. -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = iblk m c 4 t := by dsimp only [dats]
/-- What window 5 holds after a point. -/
theorem after0_5 (c : Dev nD) (t : Fin cfg0.N) : (dats m 0 c).after 5 t = resBlk m c t := by dsimp only [dats]

/-- What window 0 holds before a point: its block. -/
theorem before0_0 (c : Dev nD) (t : Fin cfg0.N) (d) : (dats m 0 c).before 0 t d = iblk m c 0 t :=
  before0_0_of m (dats m 0 c) (A_eq m c 0) (after0_0 m c) t d
/-- What window 1 holds before a point: its block. -/
theorem before0_1 (c : Dev nD) (t : Fin cfg0.N) (d) : (dats m 0 c).before 1 t d = iblk m c 1 t :=
  before0_1_of m (dats m 0 c) (A_eq m c 1) (after0_1 m c) t d
/-- What window 2 holds before a point: its block. -/
theorem before0_2 (c : Dev nD) (t : Fin cfg0.N) (d) : (dats m 0 c).before 2 t d = iblk m c 2 t :=
  before0_2_of m (dats m 0 c) (A_eq m c 2) (after0_2 m c) t d
/-- What window 3 holds before a point: its block. -/
theorem before0_3 (c : Dev nD) (t : Fin cfg0.N) (d) : (dats m 0 c).before 3 t d = iblk m c 3 t :=
  before0_3_of m (dats m 0 c) (A_eq m c 3) (after0_3 m c) t d
/-- What window 4 holds before a point: its block. -/
theorem before0_4 (c : Dev nD) (t : Fin cfg0.N) (d) : (dats m 0 c).before 4 t d = iblk m c 4 t :=
  before0_4_of m (dats m 0 c) (A_eq m c 4) (after0_4 m c) t d

/-- The body's condition holds at the first point only. -/
theorem cond_iff : ∀ t : Fin cfg0.N, k0_cond1 (grid0.coords t) = 1#1 ↔ t.val = 0 := by decide +kernel

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at the first point. -/
theorem sound_body_first (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = Pipeline.ΦA spec0 c from (Phi_eq m c _).trans (if_pos h0),
    show (dats m 0 c).Φ t.succ = kept m c from (Phi_eq m c _).trans (if_neg (by simp)),
    show (dats m 0 c).owesAt () t.succ = (dats m 0 c).owesAt () t.castSucc from rfl,
    after0_0, after0_1, after0_2, after0_3, after0_4, after0_5]
  unfold Pipeline.ΦA
  rw [scopedRest0_eq]
  unfold kept
  iintro ⟨⟨⟨⟨%f7, H7⟩, ⟨%f8, H8⟩, ⟨%f9, H9⟩⟩, Hr⟩, Ho, ⟨%d0, H0⟩, ⟨%d1, H1⟩, ⟨%d2, H2⟩, ⟨%d3, H3⟩, ⟨%d4, H4⟩, ⟨%d5, H5⟩⟩
  iapply (sound_first c (grid0.coords t) ((cond_iff t).2 h0) _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H7]; · iexists f7; rw [owns_whole (c : Thread nD τ) cc0_scratch0 fullShare f7]; iexact H7
  isplitl [H8]; · iexists f8; rw [owns_whole (c : Thread nD τ) cc0_scratch1 fullShare f8]; iexact H8
  isplitl [H9]; · iexists f9; rw [owns_whole (c : Thread nD τ) cc0_scratch2 fullShare f9]; iexact H9
  iintro ⟨H0, H1, H2, H3, H4, H5, H7, H8, ⟨%g9, H9⟩⟩
  isplitl [H7 H8 H9 Hr]
  · isplitl [H7]; · rw [← owns_whole (c : Thread nD τ) cc0_scratch0 fullShare]; iexact H7
    isplitl [H8]; · rw [← owns_whole (c : Thread nD τ) cc0_scratch1 fullShare]; iexact H8
    isplitl [H9]; · iexists g9; rw [← owns_whole (c : Thread nD τ) cc0_scratch2 fullShare]; iexact H9
    iexact Hr
  isplitl [Ho]; · iexact Ho
  isplitl [H0]; · iexact H0
  isplitl [H1]; · iexact H1
  isplitl [H2]; · iexact H2
  isplitl [H3]; · iexact H3
  isplitl [H4]; · iexact H4
  iexact H5

/-- The body at a later point. -/
theorem sound_body_later (c : Dev nD) (t : Fin cfg0.N) (h0 : ¬ t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = kept m c from (Phi_eq m c _).trans (if_neg h0),
    show (dats m 0 c).Φ t.succ = kept m c from (Phi_eq m c _).trans (if_neg (by simp)),
    show (dats m 0 c).owesAt () t.succ = (dats m 0 c).owesAt () t.castSucc from rfl,
    after0_0, after0_1, after0_2, after0_3, after0_4, after0_5]
  unfold kept
  iintro ⟨⟨H7, H8, ⟨%f9, H9⟩, Hr⟩, Ho, ⟨%d0, H0⟩, ⟨%d1, H1⟩, ⟨%d2, H2⟩, ⟨%d3, H3⟩, ⟨%d4, H4⟩, ⟨%d5, H5⟩⟩
  iapply (sound_later c (grid0.coords t) (fun h => h0 ((cond_iff t).1 h)) _ _ _ _ _ _ _ _ _ _ _ _ _ _ _ _ _ _ (iblk m c 0 t) (iblk m c 1 t) (iblk m c 2 t) (iblk m c 3 t) (iblk m c 4 t) (xsOf (xIn m c)) (patOf (F := F) (gIn m c)) _)
  isplitl [H0]; · iexact H0
  isplitl [H1]; · iexact H1
  isplitl [H2]; · iexact H2
  isplitl [H3]; · iexact H3
  isplitl [H4]; · iexact H4
  isplitl [H5]; · iexists _; iexact H5
  isplitl [H7]; · rw [owns_whole (c : Thread nD τ) cc0_scratch0 fullShare]; iexact H7
  isplitl [H8]; · rw [owns_whole (c : Thread nD τ) cc0_scratch1 fullShare]; iexact H8
  isplitl [H9]; · iexists f9; rw [owns_whole (c : Thread nD τ) cc0_scratch2 fullShare f9]; iexact H9
  iintro ⟨H0, H1, H2, H3, H4, H5, H7, H8, ⟨%g9, H9⟩⟩
  isplitl [H7 H8 H9 Hr]
  · isplitl [H7]; · rw [← owns_whole (c : Thread nD τ) cc0_scratch0 fullShare]; iexact H7
    isplitl [H8]; · rw [← owns_whole (c : Thread nD τ) cc0_scratch1 fullShare]; iexact H8
    isplitl [H9]; · iexists g9; rw [← owns_whole (c : Thread nD τ) cc0_scratch2 fullShare]; iexact H9
    iexact Hr
  isplitl [Ho]; · iexact Ho
  isplitl [H0]; · iexact H0
  isplitl [H1]; · iexact H1
  isplitl [H2]; · iexact H2
  isplitl [H3]; · iexact H3
  isplitl [H4]; · iexact H4
  iexact H5

/-- The body at any point. -/
theorem sound_body (c : Dev nD) (t : Fin cfg0.N) :
    bodyPre m c t ⊢ wp frame (wpE (defs₀ (F := F)) Variants.none c none) Set.univ (bodyAt0 t) (fun _ => bodyPost m c t) :=
  if h0 : t.val = 0 then sound_body_first m c t h0 else sound_body_later m c t h0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Entering: the scratch buffers hold anything. -/
theorem phi_in (c : Dev nD) : Pipeline.ΦA spec0 c ⊢ (dats m 0 c).Φ 0 := by
  rw [show (dats m 0 c).Φ 0 = Pipeline.ΦA spec0 c from (Phi_eq m c _).trans (if_pos rfl)]

/-- Leaving: what they hold is forgotten. -/
theorem phi_out (c : Dev nD) : (dats m 0 c).Φ (Fin.last cfg0.N) ⊢ Pipeline.ΦA spec0 c := by
  rw [show (dats m 0 c).Φ (Fin.last cfg0.N) = kept m c from (Phi_eq m c _).trans (if_neg (by decide))]
  unfold Pipeline.ΦA
  rw [scopedRest0_eq]
  unfold kept
  iintro ⟨H7, H8, H9, Hr⟩
  isplitl [H7 H8 H9]
  · isplitl [H7]; · iexists _; iexact H7
    isplitl [H8]; · iexists _; iexact H8
    iexact H9
  iexact Hr

set_option backward.isDefEq.respectTransparency.types false in
/-- The launch, and every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- Every execution terminates, and ends with every array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: every execution terminates with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.KI

end
-- ==== Proof.Words.lean ====
/-
  WORDS AND BYTES: 32-bit words read as four bytes or eight nibbles, and the few facts of their arithmetic the
  kernel relies on. Nothing here is about a particular array.
-/
module

public import proofs.«01_k».proof.Proof.Gen.KernelIdeal.Skeleton
public import Idealize.ShloMosaic.Lib.BitcastFour
public import Idealize.ShloMosaic.Lib.BitcastPair
public import Idealize.ShloMosaic.Lib.ValueIdx

@[expose] public section

set_option maxRecDepth 16384

noncomputable section

namespace Cert.Proof.KI

open Idealize.ShloMosaic Idealize.ShloMosaic.ValueIdx

/-- Byte `b` of a word. -/
def byteOf (w : BitVec 32) (b : ℕ) : BitVec 8 := w.extractLsb' (8 * b) 8

/-- Nibble `j` of a word, as a number. -/
def nib (w : BitVec 32) (j : ℕ) : ℕ := w.toNat / 2 ^ (4 * j) % 16

/-- A four-bit field is below 16. -/
theorem nib_lt (w : BitVec 32) (j : ℕ) : nib w j < 16 := Nat.mod_lt _ (by decide)

/-- A byte of a word as a number. -/
theorem byteOf_toNat (w : BitVec 32) (b : ℕ) : (byteOf w b).toNat = w.toNat / 2 ^ (8 * b) % 256 := by
  rw [byteOf, BitVec.extractLsb'_toNat, Nat.shiftRight_eq_div_pow]

/-- A word array read as bytes: row `4 p + b` is byte `b` of row `p`. -/
theorem bitcast_bytes {R r n : ℕ} (x : (⟨2, ![r, n]⟩ : Shape).Idx → BitVec 32)
    (h : (⟨2, ![r, n]⟩ : Shape).Bitcasts 32 ⟨2, ![R, n]⟩ 8) (a : Fin R) (l : Fin n) (p : Fin r) (b : ℕ) (hb : b < 4)
    (hp : a.val = 4 * p.val + b) :
    bitcast ⟨2, ![R, n]⟩ 8 x h (ix2 a l) = byteOf (x (ix2 p l)) b := by
  apply BitVec.eq_of_getLsbD_eq
  intro i hi
  rw [bitcast_getLsbD x h _ i hi (by decide), byteOf, BitVec.getLsbD_extractLsb']
  have hrow : (⟨2, ![R, n]⟩ : Shape).row (ix2 a l) = a.val := rfl
  have e1 : ((⟨2, ![R, n]⟩ : Shape).row (ix2 a l) * 8 + i) % 32 = 8 * b + i := by rw [hrow]; omega
  have e2 : ((⟨2, ![R, n]⟩ : Shape).row (ix2 a l) * 8 + i) / 32 = p.val := by rw [hrow]; omega
  rw [e1, decide_eq_true hi, Bool.true_and]
  congr 2
  funext c
  fin_cases c
  · exact Fin.ext e2
  · rfl

/-- Bytes read as words: byte `b` of row `p` is row `4 p + b`. -/
theorem byteOf_bitcast {R r n : ℕ} (x : (⟨2, ![R, n]⟩ : Shape).Idx → BitVec 8)
    (h : (⟨2, ![R, n]⟩ : Shape).Bitcasts 8 ⟨2, ![r, n]⟩ 32) (a : Fin R) (l : Fin n) (p : Fin r) (b : ℕ) (hb : b < 4)
    (hp : a.val = 4 * p.val + b) :
    byteOf (bitcast ⟨2, ![r, n]⟩ 32 x h (ix2 p l)) b = x (ix2 a l) := by
  apply BitVec.eq_of_getLsbD_eq
  intro i hi
  rw [byteOf, BitVec.getLsbD_extractLsb', decide_eq_true hi, Bool.true_and,
    bitcast_8_32_getLsbD_ix2 x h p l (8 * b + i) (by omega) a (by omega)]
  congr 1
  omega

/-- Bytes at most 15 and at most 128 add without a carry from byte to byte. -/
theorem byteOf_add (x y : BitVec 32) (hx : ∀ b < 4, (byteOf x b).toNat ≤ 15) (hy : ∀ b < 4, (byteOf y b).toNat ≤ 128)
    (b : ℕ) (hb : b < 4) : byteOf (x + y) b = byteOf x b + byteOf y b := by
  apply BitVec.eq_of_toNat_eq
  have hx0 := hx 0 (by omega); have hx1 := hx 1 (by omega); have hx2 := hx 2 (by omega); have hx3 := hx 3 (by omega)
  have hy0 := hy 0 (by omega); have hy1 := hy 1 (by omega); have hy2 := hy 2 (by omega); have hy3 := hy 3 (by omega)
  rw [BitVec.toNat_add]
  simp only [byteOf_toNat, BitVec.toNat_add] at *
  have h1 := x.isLt; have h2 := y.isLt
  have hc : b = 0 ∨ b = 1 ∨ b = 2 ∨ b = 3 := by omega
  rcases hc with rfl | rfl | rfl | rfl <;> norm_num at * <;> omega

/-- Exclusive or acts byte by byte. -/
theorem byteOf_xor (x y : BitVec 32) (b : ℕ) : byteOf (x ^^^ y) b = byteOf x b ^^^ byteOf y b := by
  apply BitVec.eq_of_getLsbD_eq
  intro i hi
  simp [byteOf, BitVec.getLsbD_extractLsb', hi]

/-- And acts byte by byte. -/
theorem byteOf_and (x y : BitVec 32) (b : ℕ) : byteOf (x &&& y) b = byteOf x b &&& byteOf y b := by
  apply BitVec.eq_of_getLsbD_eq
  intro i hi
  simp [byteOf, BitVec.getLsbD_extractLsb', hi]

/-- Masking four bits is the remainder by 16. -/
theorem and_15_toNat (x : BitVec 8) : (x &&& 15#8).toNat = x.toNat % 16 := by
  rw [BitVec.toNat_and]; exact Nat.and_two_pow_sub_one_eq_mod _ 4

/-- The even nibbles: byte `b` of the masked word is nibble `2 b`. -/
theorem even_byte (q : BitVec 32) (b : ℕ) (hb : b < 4) : (byteOf (q &&& 252645135#32) b).toNat = nib q (2 * b) := by
  have hm : byteOf 252645135#32 b = 15#8 := by
    have hc : b = 0 ∨ b = 1 ∨ b = 2 ∨ b = 3 := by omega
    rcases hc with rfl | rfl | rfl | rfl <;> rfl
  rw [byteOf_and, hm, and_15_toNat, byteOf_toNat, nib]
  have hc : b = 0 ∨ b = 1 ∨ b = 2 ∨ b = 3 := by omega
  rcases hc with rfl | rfl | rfl | rfl <;> norm_num <;> omega

/-- The odd nibbles: byte `b` of the shifted and masked word is nibble `2 b + 1`. -/
theorem odd_byte (q : BitVec 32) (b : ℕ) (hb : b < 4) :
    (byteOf ((q >>> 4) &&& 252645135#32) b).toNat = nib q (2 * b + 1) := by
  rw [even_byte _ b hb, nib, nib, BitVec.toNat_ushiftRight, Nat.shiftRight_eq_div_pow, Nat.div_div_eq_div_mul, ← pow_add]
  congr 3; omega

/-- A shift by `4 j` and a mask is nibble `j`. -/
theorem shr_and (q : BitVec 32) (j : ℕ) (hj : j < 8) : (q >>> (4 * j) &&& 15#32).toNat = nib q j := by
  rw [BitVec.toNat_and, BitVec.toNat_ushiftRight, Nat.shiftRight_eq_div_pow]
  exact Nat.and_two_pow_sub_one_eq_mod _ 4

/-- Under the mask a signed shift is an unsigned one. -/
theorem sshr_and (q : BitVec 32) (j : ℕ) (hj : j < 8) : (q.sshiftRight (4 * j) &&& 15#32).toNat = nib q j := by
  rw [← shr_and q j hj]
  congr 1
  apply BitVec.eq_of_getLsbD_eq
  intro i hi
  rw [BitVec.getLsbD_and, BitVec.getLsbD_and, BitVec.getLsbD_sshiftRight, BitVec.getLsbD_ushiftRight]
  by_cases h4 : i < 4
  · have h1 : 4 * j + i < 32 := by omega
    have h2 : ¬ 32 ≤ i := by omega
    simp [h1, h2]
  · have : (15#32 : BitVec 32).getLsbD i = false := by interval_cases i <;> first | omega | rfl
    rw [this]; simp

/-- A code plus (128 minus a zero point), its top bit flipped, is the signed difference. -/
theorem diff_byte (x y : BitVec 8) (c z : ℕ) (hc : c < 16) (hz : z < 16) (hx : x.toNat = c) (hy : y.toNat = 128 - z) :
    ((x + y) ^^^ 128#8).toInt = (c : ℤ) - z := by
  have e : ∀ c z : Fin 16, ((BitVec.ofNat 8 c.val + BitVec.ofNat 8 (128 - z.val)) ^^^ 128#8).toInt = (c.val : ℤ) - z.val := by
    decide +kernel
  have ex : x = BitVec.ofNat 8 c := by rw [← hx, BitVec.ofNat_toNat, BitVec.setWidth_eq]
  have ey : y = BitVec.ofNat 8 (128 - z) := by rw [← hy, BitVec.ofNat_toNat, BitVec.setWidth_eq]
  rw [ex, ey]
  exact e ⟨c, hc⟩ ⟨z, hz⟩

/-- Four bytes as one number: the word whose value is their sum in base 256 has them as its bytes. -/
theorem byteOf_base (w : BitVec 32) (a0 a1 a2 a3 : ℕ) (h0 : a0 < 256) (h1 : a1 < 256) (h2 : a2 < 256) (h3 : a3 < 256)
    (hw : w.toNat = a0 + 256 * a1 + 65536 * a2 + 16777216 * a3) (b : ℕ) (hb : b < 4) :
    (byteOf w b).toNat = if b = 0 then a0 else if b = 1 then a1 else if b = 2 then a2 else a3 := by
  rw [byteOf_toNat, hw]
  clear hw
  have hc : b = 0 ∨ b = 1 ∨ b = 2 ∨ b = 3 := by omega
  rcases hc with rfl | rfl | rfl | rfl <;> norm_num <;> omega

/-- A shift that loses no bit multiplies. -/
theorem shl_toNat (x : BitVec 32) (n a : ℕ) (hx : x.toNat < a) (ha : a * 2 ^ n ≤ 2 ^ 32) : (x <<< n).toNat = x.toNat * 2 ^ n := by
  rw [BitVec.toNat_shiftLeft, Nat.shiftLeft_eq]
  exact Nat.mod_eq_of_lt (lt_of_lt_of_le (Nat.mul_lt_mul_of_pos_right hx (by positivity)) ha)

/-- Four small numbers packed by adding, subtracted from 128 in every byte. -/
theorem pack_bytes (K z0 z1 z2 z3 : BitVec 32) (hK : K.toNat = 2155905152)
    (h0 : z0.toNat < 16) (h1 : z1.toNat < 16) (h2 : z2.toNat < 16) (h3 : z3.toNat < 16)
    (b : ℕ) (hb : b < 4) :
    (byteOf (K - ((((0#32 + z0 <<< 0) + z1 <<< 8) + z2 <<< 16) + z3 <<< 24)) b).toNat
      = 128 - (if b = 0 then z0 else if b = 1 then z1 else if b = 2 then z2 else z3).toNat := by
  have e0 := shl_toNat z0 0 16 h0 (by norm_num)
  have e1 := shl_toNat z1 8 16 h1 (by norm_num)
  have e2 := shl_toNat z2 16 16 h2 (by norm_num)
  have e3 := shl_toNat z3 24 16 h3 (by norm_num)
  have hs : ((((0#32 + z0 <<< 0) + z1 <<< 8) + z2 <<< 16) + z3 <<< 24).toNat
      = z0.toNat + 256 * z1.toNat + 65536 * z2.toNat + 16777216 * z3.toNat := by
    rw [BitVec.toNat_add, BitVec.toNat_add, BitVec.toNat_add, BitVec.zero_add, e0, e1, e2, e3]
    omega
  have hd : (K - ((((0#32 + z0 <<< 0) + z1 <<< 8) + z2 <<< 16) + z3 <<< 24)).toNat
      = (128 - z0.toNat) + 256 * (128 - z1.toNat) + 65536 * (128 - z2.toNat) + 16777216 * (128 - z3.toNat) := by
    rw [BitVec.toNat_sub, hs, hK]
    omega
  rw [byteOf_base _ _ _ _ _ (by omega) (by omega) (by omega) (by omega) hd b hb]
  split_ifs <;> rfl

/-- Or of numbers with no common bit is their sum. -/
theorem or_add (x y : BitVec 32) (n : ℕ) (hx : x.toNat < 2 ^ n) (hy : (y <<< n).toNat = y.toNat * 2 ^ n) :
    (x ||| y <<< n).toNat = x.toNat + y.toNat * 2 ^ n := by
  rw [BitVec.toNat_or, hy, Nat.or_comm, Nat.mul_comm, ← Nat.two_pow_add_eq_or_of_lt hx, Nat.add_comm]

/-- Four bytes put side by side. -/
theorem or_bytes (x0 x1 x2 x3 : BitVec 32) (h0 : x0.toNat < 256) (h1 : x1.toNat < 256) (h2 : x2.toNat < 256) (h3 : x3.toNat < 256)
    (b : ℕ) (hb : b < 4) :
    (byteOf (((x0 <<< 0 ||| x1 <<< 8) ||| x2 <<< 16) ||| x3 <<< 24) b).toNat
      = (if b = 0 then x0 else if b = 1 then x1 else if b = 2 then x2 else x3).toNat := by
  have e0 := shl_toNat x0 0 256 h0 (by norm_num)
  have e1 := shl_toNat x1 8 256 h1 (by norm_num)
  have e2 := shl_toNat x2 16 256 h2 (by norm_num)
  have e3 := shl_toNat x3 24 256 h3 (by norm_num)
  rw [pow_zero, Nat.mul_one] at e0
  have f1 := or_add (x0 <<< 0) x1 8 (by rw [e0]; exact h0) e1
  have f2 := or_add (x0 <<< 0 ||| x1 <<< 8) x2 16 (by rw [f1, e0]; norm_num; omega) e2
  have f3 := or_add ((x0 <<< 0 ||| x1 <<< 8) ||| x2 <<< 16) x3 24 (by rw [f2, f1, e0]; norm_num; omega) e3
  rw [byteOf_base _ x0.toNat x1.toNat x2.toNat x3.toNat h0 h1 h2 h3 (by rw [f3, f2, f1, e0]; omega) b hb]
  split_ifs <;> rfl

end Cert.Proof.KI
-- ==== Proof.PrepValue.lean ====
/-
  THE SCRATCH BUFFERS, ENTRY BY ENTRY: which entry of `x` an entry of the rearranged `x` is, which group a byte of a
  stored pattern names, and which zero point a byte of the table holds.
-/
module

public import proofs.«01_k».proof.Proof.Prep
public import proofs.«01_k».proof.Proof.Words
public import Idealize.ShloMosaic.Lib.Pipeline.Value
public import Idealize.ShloMosaic.Lib.ValueLayout

@[expose] public section

set_option maxRecDepth 16384

noncomputable section

namespace Cert.Proof.KI

open Cert.KernelIdeal Cert.KernelIdeal.Gen
open Idealize.ShloMosaic Idealize.ShloMosaic.ValueIdx

variable {F : FTy → Type} [FloatOps F]

/-! ## Gathers along one axis of a matrix -/

/-- A gather along columns, read at an index. -/
theorem gather_cols {α : Type} {R n : ℕ} (x : (⟨2, ![R, n]⟩ : Shape).Idx → α) (idx : IVec (⟨2, ![R, n]⟩ : Shape) 32) (a : Fin R) (l m : Fin n)
    (hm : (idx (ix2 a l)).toNat % n = m.val) : dynamicGather 1 x idx (ix2 a l) = x (ix2 a m) := by
  unfold dynamicGather
  congr 1
  funext c
  fin_cases c
  · rfl
  · exact Fin.ext hm

/-- A gather along rows, read at an index. -/
theorem gather_rows {α : Type} {R n : ℕ} (x : (⟨2, ![R, n]⟩ : Shape).Idx → α) (idx : IVec (⟨2, ![R, n]⟩ : Shape) 32) (a b : Fin R) (l : Fin n)
    (hb : (idx (ix2 a l)).toNat % R = b.val) : dynamicGather 0 x idx (ix2 a l) = x (ix2 b l) := by
  unfold dynamicGather
  congr 1
  funext c
  fin_cases c
  · exact Fin.ext hb
  · rfl

/-! ## The rearranged `x` -/

/-- The column of a block of 128 columns of `x` that lane `l` of the rearranged block holds. -/
def srcCol (l : ℕ) : ℕ := 64 * (l / 64) + 8 * (l % 32 / 4) + 2 * (l % 4) + l % 64 / 32

/-- The source column is within its block. -/
theorem srcCol_lt (l : ℕ) (hl : l < 128) : srcCol l < 128 := by unfold srcCol; omega

/-- The word the kernel computes for it. -/
def srcWord (w : BitVec 32) : BitVec 32 :=
  IntOp.addi (IntOp.addi (IntOp.addi (IntOp.subi w (IntOp.andi w 63#32)) (IntOp.muli 8#32 (IntOp.shrsi .vector (IntOp.andi (IntOp.andi w 63#32) 31#32) 2#32)))
    (IntOp.muli 2#32 (IntOp.andi (IntOp.andi (IntOp.andi w 63#32) 31#32) 3#32))) (IntOp.shrsi .vector (IntOp.andi w 63#32) 5#32)

/-- The index word of a lane is its source column. -/
theorem srcWord_eq : ∀ l : Fin 128, (srcWord (BitVec.ofNat 32 l.val)).toNat % 128 = srcCol l.val := by decide +kernel

/-- The rearranged input at an index. -/
theorem xsOf_apply (x1 : Vec Ideal S128x4096 .bf16) (y : Fin 4096) (l : Fin 128) :
    xsOf x1 (ix2 y l) = x1 (ix2 (⟨y.val % 128, Nat.mod_lt _ (by decide)⟩ : Fin 128)
      (⟨128 * (y.val / 128) + srcCol l.val, by have := srcCol_lt l.val l.isLt; have := y.isLt; omega⟩ : Fin 4096)) := by
  show k0_pay574 (F := Ideal) (xBlk x1 ⟨y.val / 128, _⟩) (ix2 (⟨y.val % 128, _⟩ : Fin 128) l) = _
  unfold k0_pay574
  simp only [shapeCast_self, shapeCast_shapeCast]
  rw [truncf_apply]
  rw [gather_cols _ _ _ l (⟨srcCol l.val, srcCol_lt l.val l.isLt⟩ : Fin 128)]
  · rfl
  · refine Eq.trans ?_ (srcWord_eq l)
    have hi : iota .tc S128x128 32 [1] iota_S128x128_d1_w32 (ix2 (⟨y.val % 128, Nat.mod_lt _ (by decide)⟩ : Fin 128) l) = BitVec.ofNat 32 l.val :=
      iota_single_apply _ _ _ _ _ _
    rw [← hi]
    rfl

/-! ## The stored patterns -/

/-- The pattern of a group. -/
def pz (g : ℕ) : ℕ := 4 * (g % 8) + g / 8

/-- The pattern's word arithmetic, checked for every group. -/
theorem pz_word : ∀ g : Fin 32, (IntOp.addi (IntOp.muli 4#32 (IntOp.andi (BitVec.ofNat 32 g.val) 7#32)) (IntOp.shrsi .vector (BitVec.ofNat 32 g.val) 3#32)).toNat = pz g.val := by
  decide +kernel

/-- The pattern of a group word in range. -/
theorem pz_of_word (w : BitVec 32) (hw : w.toNat < 32) : (IntOp.addi (IntOp.muli 4#32 (IntOp.andi w 7#32)) (IntOp.shrsi .vector w 3#32)).toNat = pz w.toNat := by
  have e : w = BitVec.ofNat 32 w.toNat := by rw [BitVec.ofNat_toNat, BitVec.setWidth_eq]
  have := pz_word ⟨w.toNat, hw⟩
  rw [← e] at this
  exact this

/-- A pattern is below 32. -/
theorem pz_lt (g : ℕ) (hg : g < 32) : pz g < 32 := by unfold pz; omega

/-- A row's patterns, the same on every sublane. -/
theorem pay4_apply (row : Vec F S1x128 .i32) (s : Fin 8) (l : Fin 128) (hrow : (row (ix2 (0 : Fin 1) l)).toNat < 32) :
    (k0_pay4 (F := F) row (ix2 s l)).toNat = pz (row (ix2 (0 : Fin 1) l)).toNat := by
  rw [← pz_of_word _ hrow]
  unfold k0_pay4
  simp only [shapeCast_self]
  have hb (v : IVec S1x128 32) : broadcastTo S8x128 v broadcasts_S1x128_S8x128 (ix2 s l) = v (ix2 (0 : Fin 1) l) :=
    broadcastTo_1b_ab_apply v _ s l
  rw [hb]
  rfl

/-- The gather's index word of a pattern byte. -/
theorem patIdx : ∀ (u e : Fin 2) (b : Fin 4) (s : Fin 8),
    (IntOp.addi (IntOp.addi (IntOp.addi (BitVec.ofNat 32 (64 * u.val)) (IntOp.muli 8#32 (BitVec.ofNat 32 s.val))) (BitVec.ofNat 32 (2 * b.val))) (BitVec.ofNat 32 e.val)).toNat % 128
      = 64 * u.val + 8 * s.val + 2 * b.val + e.val := by decide +kernel

/-- One unshifted byte of a window. -/
def patLow (row : Vec F S1x128 .i32) (p b e : BitVec 32) : IVec S8x128 32 :=
  dynamicGather 1 (k0_pay4 (F := F) row) (shapeCast S8x128 (shapeCast S8x128x1
    (addi (addi (addi (broadcast S8x128 p) (muli (broadcast S8x128 8#32) (iota .tc S8x128 32 [0] iota_S8x128_d0_w32))) (broadcast S8x128 b)) (broadcast S8x128 e))
    shapeCasts_S8x128_S8x128x1) shapeCasts_S8x128x1_S8x128)

/-- One gathered byte of a pattern. -/
theorem patLow_apply (row : Vec F S1x128 .i32) (u e : Fin 2) (b : Fin 4) (s : Fin 8) (l : Fin 128) (hrow : ∀ l, (row (ix2 (0 : Fin 1) l)).toNat < 32) :
    (patLow (F := F) row (BitVec.ofNat 32 (64 * u.val)) (BitVec.ofNat 32 (2 * b.val)) (BitVec.ofNat 32 e.val) (ix2 s l)).toNat
      = pz (row (ix2 (0 : Fin 1) (⟨64 * u.val + 8 * s.val + 2 * b.val + e.val, by omega⟩ : Fin 128))).toNat := by
  unfold patLow
  rw [shapeCast_shapeCast, gather_cols _ _ _ l (⟨64 * u.val + 8 * s.val + 2 * b.val + e.val, by omega⟩ : Fin 128)]
  · exact pay4_apply row s _ (hrow _)
  · refine Eq.trans ?_ (patIdx u e b s)
    have hi : iota .tc S8x128 32 [0] iota_S8x128_d0_w32 (ix2 s l) = BitVec.ofNat 32 s.val := iota_single_apply _ _ _ _ _ _
    rw [← hi]
    rfl

/-- A byte of a window's stored pattern. -/
theorem patWin_byte (row : Vec F S1x128 .i32) (u e : Fin 2) (s : Fin 8) (l : Fin 128) (hrow : ∀ l, (row (ix2 (0 : Fin 1) l)).toNat < 32) (b : Fin 4) :
    (byteOf (patWin (F := F) row (BitVec.ofNat 32 (64 * u.val)) (BitVec.ofNat 32 e.val) (ix2 s l)) b.val).toNat
      = pz (row (ix2 (0 : Fin 1) (⟨64 * u.val + 8 * s.val + 2 * b.val + e.val, by omega⟩ : Fin 128))).toNat := by
  have h (b : Fin 4) := patLow_apply row u e b s l hrow
  have hlt (b : Fin 4) : (patLow (F := F) row (BitVec.ofNat 32 (64 * u.val)) (BitVec.ofNat 32 (2 * b.val)) (BitVec.ofNat 32 e.val) (ix2 s l)).toNat < 256 := by
    rw [h b]; exact lt_trans (pz_lt _ (hrow _)) (by decide)
  unfold patWin
  rw [shapeCast_self]
  show (byteOf (((patLow (F := F) row (BitVec.ofNat 32 (64 * u.val)) (BitVec.ofNat 32 (2 * (0 : Fin 4).val)) (BitVec.ofNat 32 e.val) (ix2 s l) <<< 0
      ||| patLow (F := F) row (BitVec.ofNat 32 (64 * u.val)) (BitVec.ofNat 32 (2 * (1 : Fin 4).val)) (BitVec.ofNat 32 e.val) (ix2 s l) <<< 8)
      ||| patLow (F := F) row (BitVec.ofNat 32 (64 * u.val)) (BitVec.ofNat 32 (2 * (2 : Fin 4).val)) (BitVec.ofNat 32 e.val) (ix2 s l) <<< 16)
      ||| patLow (F := F) row (BitVec.ofNat 32 (64 * u.val)) (BitVec.ofNat 32 (2 * (3 : Fin 4).val)) (BitVec.ofNat 32 e.val) (ix2 s l) <<< 24) b.val).toNat = _
  rw [or_bytes _ _ _ _ (hlt 0) (hlt 1) (hlt 2) (hlt 3) b.val b.isLt]
  have hb := h b
  fin_cases b <;> exact hb

/-- Row `32 i + 8 (2 u + e) + s` of the stored patterns: its byte `b` names the group of column `64 u + 8 s + 2 b + e`
    of row `i` of the group indices. -/
theorem patOf_byte (x2 : Vec F S32x128 .i32) (hx : ∀ a b, (x2 (ix2 a b)).toNat < 32) (i : Fin 32) (u e : Fin 2) (s : Fin 8) (l : Fin 128) (b : Fin 4)
    (y : S1024x128.Idx) (h0 : (y 0).val = 32 * i.val + 8 * (2 * u.val + e.val) + s.val) (h1 : (y 1).val = l.val) :
    (byteOf (patOf (F := F) x2 y) b.val).toNat
      = pz (x2 (ix2 i (⟨64 * u.val + 8 * s.val + 2 * b.val + e.val, by omega⟩ : Fin 128))).toNat := by
  have e1 := patOf_at (F := F) x2 i (⟨2 * u.val + e.val, by omega⟩ : Fin 4) (ix2 s l) y h0 h1
  have hu : (2 * u.val + e.val) / 2 = u.val := by omega
  have he : (2 * u.val + e.val) % 2 = e.val := by omega
  rw [e1]
  simp only [hu, he]
  exact patWin_byte (gRow x2 i) u e s l (fun l => hx i l) b

/-! ## The table of zero points -/

/-- The gather's index word of a zero point. -/
theorem zpIdx : ∀ (a : Fin 8) (l : Fin 128),
    (IntOp.addi (Scalar.muli 16#32 (BitVec.ofNat 32 a.val)) (IntOp.shrsi .vector (BitVec.ofNat 32 l.val) 3#32)).toNat % 128 = 16 * a.val + l.val / 8 := by
  decide +kernel

/-- The shift amount of a zero point. -/
theorem zpShift : ∀ l : Fin 128, IntOp.muli 4#32 (IntOp.andi (BitVec.ofNat 32 l.val) 7#32) = BitVec.ofNat 32 (4 * (l.val % 8)) := by decide +kernel

/-- A shifted and masked word is its four-bit field. -/
theorem shrui_nib (q : BitVec 32) (j : Fin 8) : (IntOp.andi (IntOp.shrui .vector q (BitVec.ofNat 32 (4 * j.val))) 15#32).toNat = nib q j.val := by
  rw [← shr_and q j.val j.isLt]
  fin_cases j <;> rfl

/-- One unshifted byte of the table. -/
def zpLow (q : Vec F S8x128 .i32) (a : BitVec 32) : IVec S8x128 32 :=
  andi (shrui (dynamicGather 1 q (shapeCast S8x128 (shapeCast S8x128x1 (zpSrc a) shapeCasts_S8x128_S8x128x1) shapeCasts_S8x128x1_S8x128)) k0_pay576)
    (broadcast S8x128 15#32)

/-- One zero point of the table. -/
theorem zpLow_apply (q : Vec F S8x128 .i32) (a : Fin 8) (s : Fin 8) (l : Fin 128) :
    (zpLow (F := F) q (BitVec.ofNat 32 a.val) (ix2 s l)).toNat
      = nib (q (ix2 s (⟨16 * a.val + l.val / 8, by omega⟩ : Fin 128))) (l.val % 8) := by
  have hi : iota .tc S8x128 32 [1] iota_S8x128_d1_w32 (ix2 s l) = BitVec.ofNat 32 l.val := iota_single_apply _ _ _ _ _ _
  have hg : dynamicGather 1 q (shapeCast S8x128 (shapeCast S8x128x1 (zpSrc (BitVec.ofNat 32 a.val)) shapeCasts_S8x128_S8x128x1) shapeCasts_S8x128x1_S8x128) (ix2 s l)
      = q (ix2 s (⟨16 * a.val + l.val / 8, by omega⟩ : Fin 128)) := by
    rw [shapeCast_shapeCast]
    refine gather_cols _ _ _ l _ ?_
    refine Eq.trans ?_ (zpIdx a l)
    rw [← hi]
    rfl
  have hs : k0_pay576 (ix2 s l) = BitVec.ofNat 32 (4 * (l.val % 8)) := by
    rw [← zpShift l, ← hi]
    rfl
  show (IntOp.andi (IntOp.shrui .vector (dynamicGather 1 q _ (ix2 s l)) (k0_pay576 (ix2 s l))) 15#32).toNat = _
  rw [hg, hs]
  exact shrui_nib _ ⟨l.val % 8, Nat.mod_lt _ (by decide)⟩

/-- A byte of one chunk of the table. -/
theorem zpTab_byte (q : Fin 4 → Vec F S8x128 .i32) (a : Fin 8) (s : Fin 8) (l : Fin 128) (b : Fin 4) :
    (byteOf (zpTab (F := F) (q 0) (q 1) (q 2) (q 3) (BitVec.ofNat 32 a.val) (ix2 s l)) b.val).toNat
      = 128 - nib (q b (ix2 s (⟨16 * a.val + l.val / 8, by omega⟩ : Fin 128))) (l.val % 8) := by
  have h (b : Fin 4) := zpLow_apply (q b) a s l
  have hlt (b : Fin 4) : (zpLow (F := F) (q b) (BitVec.ofNat 32 a.val) (ix2 s l)).toNat < 16 := by
    rw [h b]; exact nib_lt _ _
  unfold zpTab
  rw [shapeCast_self]
  show (byteOf (2155905152#32 - ((((0#32 + zpLow (F := F) (q 0) (BitVec.ofNat 32 a.val) (ix2 s l) <<< 0)
      + zpLow (F := F) (q 1) (BitVec.ofNat 32 a.val) (ix2 s l) <<< 8)
      + zpLow (F := F) (q 2) (BitVec.ofNat 32 a.val) (ix2 s l) <<< 16)
      + zpLow (F := F) (q 3) (BitVec.ofNat 32 a.val) (ix2 s l) <<< 24)) b.val).toNat = _
  rw [pack_bytes _ _ _ _ _ (by decide) (hlt 0) (hlt 1) (hlt 2) (hlt 3) b.val b.isLt]
  have hb := h b
  fin_cases b <;> exact congrArg (128 - ·) hb

/-- Row `8 c + s` of the table, lane `l`: its byte `b` is 128 minus the zero point of group `8 b + s` at column
    `128 c + l` of the block. -/
theorem tabOf_byte (x5 : Vec F S32x256 .i32) (c : Fin 16) (s : Fin 8) (l : Fin 128) (b : Fin 4)
    (y : S128x128.Idx) (h0 : (y 0).val = 8 * c.val + s.val) (h1 : (y 1).val = l.val) :
    (byteOf (tabOf (F := F) x5 y) b.val).toNat
      = 128 - nib (x5 (ix2 (⟨8 * b.val + s.val, by omega⟩ : Fin 32) (⟨16 * c.val + l.val / 8, by omega⟩ : Fin 256))) (l.val % 8) := by
  have e1 := tabOf_at (F := F) x5 c (⟨c.val / 8, by omega⟩ : Fin 2) rfl (ix2 s l) y h0 h1
  rw [e1, zpTab_byte (fun b => qzBlk x5 b ⟨c.val / 8, by omega⟩) (⟨c.val % 8, by omega⟩ : Fin 8) s l b]
  have e2 : qzBlk x5 b (⟨c.val / 8, by omega⟩ : Fin 2) (ix2 s (⟨16 * (c.val % 8) + l.val / 8, by omega⟩ : Fin 128))
      = x5 (ix2 (⟨8 * b.val + s.val, by omega⟩ : Fin 32) (⟨16 * c.val + l.val / 8, by omega⟩ : Fin 256)) := by
    refine congrArg x5 ?_
    refine congrArg (ix2 _) (Fin.ext ?_)
    show 128 * (c.val / 8) + (16 * (c.val % 8) + l.val / 8) = 16 * c.val + l.val / 8
    omega
  rw [e2]

end Cert.Proof.KI
-- ==== Proof.ChunkValue.lean ====
/-
  THE WEIGHTS OF A CHUNK, ENTRY BY ENTRY, over the reals: code minus zero point, times the scale, each of the group
  the stored pattern names.
-/
module

public import proofs.«01_k».proof.Proof.Step
public import proofs.«01_k».proof.Proof.PrepValue

@[expose] public section

set_option maxRecDepth 16384

noncomputable section

namespace Cert.Proof.KI

open Cert.KernelIdeal Cert.KernelIdeal.Gen
open Idealize.ShloMosaic Idealize.ShloMosaic.ValueIdx

/-- What a window's stored pattern says: row `r` is of group `G r`. -/
def Names (p : IVec S8x128 32) (G : Fin 32 → Fin 32) : Prop :=
  ∀ (r : Fin 32) (l : Fin 128), (byteOf (p (ix2 (⟨r.val / 4, by omega⟩ : Fin 8) l)) (r.val % 4)).toNat = pz (G r).val

/-- What a chunk of the table holds: the zero points `Z`, per group and lane. -/
def Zeros (z : IVec S8x128 32) (Z : Fin 32 → Fin 128 → ℕ) : Prop :=
  ∀ (s : Fin 8) (l : Fin 128) (b : Fin 4), (byteOf (z (ix2 s l)) b.val).toNat = 128 - Z (⟨8 * b.val + s.val, by omega⟩) l

/-- What a window's words of codes hold: the code of each row. -/
def Codes (c : IVec S8x128 32) (C : Fin 32 → Fin 128 → ℕ) : Prop :=
  ∀ (r : Fin 32) (l : Fin 128), (byteOf (c (ix2 (⟨r.val / 4, by omega⟩ : Fin 8) l)) (r.val % 4)).toNat = C r l

/-! ## The group of a row -/

/-- A group's pattern fits a byte, so sign-extending it changes nothing. -/
theorem patRows_word : ∀ g : Fin 32, (BitVec.ofNat 8 (pz g.val)).signExtend 32 = BitVec.ofNat 32 (pz g.val) := by decide +kernel

/-- The word arithmetic that takes a pattern back to its group, checked for every group. -/
theorem patGroup_word : ∀ g : Fin 32,
    IntOp.addi (IntOp.muli 8#32 (IntOp.andi (BitVec.ofNat 32 (pz g.val)) 3#32)) (IntOp.shrsi .vector (BitVec.ofNat 32 (pz g.val)) 2#32) = BitVec.ofNat 32 g.val := by
  decide +kernel

/-- A group's pattern is a row of the zero-point table. -/
theorem pz_mod : ∀ g : Fin 32, (BitVec.ofNat 32 (pz g.val)).toNat % 32 = pz g.val := by decide +kernel

/-- The rows of a pattern that names groups. -/
theorem patRows_apply (p : IVec S8x128 32) (G : Fin 32 → Fin 32) (hp : Names p G) (r : Fin 32) (l : Fin 128) :
    patRows p (ix2 r l) = BitVec.ofNat 32 (pz (G r).val) := by
  rw [← patRows_word]
  have h : bitcast S32x128 8 p bitcasts_S8x128_w32_S32x128_w8 (ix2 r l) = BitVec.ofNat 8 (pz (G r).val) := by
    rw [← hp r l, BitVec.ofNat_toNat, BitVec.setWidth_eq]
    exact bitcast_bytes p _ r l (⟨r.val / 4, by omega⟩ : Fin 8) (r.val % 4) (by omega) (by show r.val = 4 * (r.val / 4) + r.val % 4; omega)
  rw [← h]
  rfl

/-- The scale's row worked out from a pattern is the group. -/
theorem patGroup_apply (p : IVec S8x128 32) (G : Fin 32 → Fin 32) (hp : Names p G) (r : Fin 32) (l : Fin 128) :
    patGroup p (ix2 r l) = BitVec.ofNat 32 (G r).val := by
  rw [← patGroup_word, ← patRows_apply p G hp r l]
  rfl

/-! ## The scale of a row -/

/-- The test for the low half of the scale rows. -/
theorem scale_low : ∀ g : Fin 32, IntOp.cmpi .slt (BitVec.ofNat 32 g.val) 16#32 = if g.val < 16 then 1#1 else 0#1 := by decide +kernel

/-- The row within a half of the scale rows. -/
theorem scale_idx : ∀ g : Fin 32, (IntOp.andi (BitVec.ofNat 32 g.val) 15#32).toNat % 16 = g.val % 16 := by decide +kernel

/-- The gathered and selected scale is the scale of the group. -/
theorem scaleRows_apply (s0 s1 : FVec Ideal S16x128 .bf16) (S : Fin 32 → Fin 128 → EReal)
    (h0 : ∀ (a : Fin 16) (l : Fin 128), s0 (ix2 a l) = S ⟨a.val, by omega⟩ l) (h1 : ∀ (a : Fin 16) (l : Fin 128), s1 (ix2 a l) = S ⟨16 + a.val, by omega⟩ l)
    (g : IVec S16x128 32) (a : Fin 16) (l : Fin 128) (G : Fin 32) (hg : g (ix2 a l) = BitVec.ofNat 32 G.val) :
    scaleRows s0 s1 g (ix2 a l) = S G l := by
  unfold scaleRows
  rw [shapeCast_shapeCast, select_apply]
  have hi : ((andi g (broadcast S16x128 15#32)) (ix2 a l)).toNat % 16 = (⟨G.val % 16, by omega⟩ : Fin 16).val := by
    refine Eq.trans ?_ (scale_idx G)
    rw [← hg]; rfl
  have hc : cmpi .slt g (broadcast S16x128 16#32) (ix2 a l) = if G.val < 16 then 1#1 else 0#1 := by
    rw [← scale_low G, ← hg]; rfl
  rw [hc, gather_rows s0 _ a _ l hi, gather_rows s1 _ a _ l hi, h0, h1]
  by_cases hG : G.val < 16
  · rw [if_pos hG, select_one]
    congr 1
    exact Fin.ext (by show G.val % 16 = G.val; omega)
  · rw [if_neg hG, select_zero]
    congr 1
    exact Fin.ext (by show 16 + G.val % 16 = G.val; omega)

/-! ## Code minus zero point -/

/-- The difference of a code and a zero point, as a real number. -/
def diffVal (c z : ℕ) : EReal := (((c : ℤ) - (z : ℤ) : ℤ) : ℝ)

/-- The byte arithmetic yields the code less the zero point. -/
theorem diffRows_apply (codes z p : IVec S8x128 32) (G : Fin 32 → Fin 32) (Z C : Fin 32 → Fin 128 → ℕ) (hp : Names p G) (hz : Zeros z Z) (hc : Codes codes C)
    (hZ : ∀ g l, Z g l < 16) (hC : ∀ r l, C r l < 16) (r : Fin 32) (l : Fin 128) :
    diffRows (F := Ideal) codes z p (ix2 r l) = diffVal (C r l) (Z (G r) l) := by
  -- the gathered byte of each row
  have hg (r : Fin 32) : dynamicGather 0 (bitcast S32x128 8 z bitcasts_S8x128_w32_S32x128_w8) (patRows p) (ix2 r l) = BitVec.ofNat 8 (128 - Z (G r) l) := by
    have hpz := pz_lt (G r).val (G r).isLt
    rw [gather_rows _ _ r (⟨pz (G r).val, hpz⟩ : Fin 32) l (by rw [patRows_apply p G hp r l]; exact pz_mod (G r)),
      bitcast_bytes z _ _ l (⟨(G r).val % 8, by omega⟩ : Fin 8) ((G r).val / 8) (by omega) rfl]
    have e := hz (⟨(G r).val % 8, by omega⟩ : Fin 8) l (⟨(G r).val / 8, by omega⟩ : Fin 4)
    have e2 : (⟨8 * ((G r).val / 8) + (G r).val % 8, by omega⟩ : Fin 32) = G r := Fin.ext (by show 8 * ((G r).val / 8) + (G r).val % 8 = (G r).val; omega)
    rw [e2] at e
    rw [← e, BitVec.ofNat_toNat, BitVec.setWidth_eq]
  have hgw (b : ℕ) (hb : b < 4) (s : Fin 8) : byteOf (bitcast S8x128 32 (dynamicGather 0 (bitcast S32x128 8 z bitcasts_S8x128_w32_S32x128_w8) (patRows p)) bitcasts_S32x128_w8_S8x128_w32 (ix2 s l)) b
      = BitVec.ofNat 8 (128 - Z (G ⟨4 * s.val + b, by omega⟩) l) := by
    rw [← hg]
    exact byteOf_bitcast _ _ (⟨4 * s.val + b, by omega⟩ : Fin 32) l s b hb rfl
  unfold diffRows
  rw [shapeCast_shapeCast, sitofp_apply]
  rw [bitcast_bytes _ _ r l (⟨r.val / 4, by omega⟩ : Fin 8) (r.val % 4) (by omega) (by show r.val = 4 * (r.val / 4) + r.val % 4; omega)]
  show (((byteOf ((codes (ix2 (⟨r.val / 4, by omega⟩ : Fin 8) l) + bitcast S8x128 32 (dynamicGather 0 (bitcast S32x128 8 z bitcasts_S8x128_w32_S32x128_w8) (patRows p)) bitcasts_S32x128_w8_S8x128_w32 (ix2 (⟨r.val / 4, by omega⟩ : Fin 8) l)) ^^^ 2155905152#32) (r.val % 4)).toInt : ℝ) : EReal) = _
  have hm : byteOf 2155905152#32 (r.val % 4) = 128#8 := by
    have hc : r.val % 4 = 0 ∨ r.val % 4 = 1 ∨ r.val % 4 = 2 ∨ r.val % 4 = 3 := by omega
    rcases hc with h | h | h | h <;> rw [h] <;> rfl
  have hrow (b : ℕ) (hb : b < 4) : (byteOf (codes (ix2 (⟨r.val / 4, by omega⟩ : Fin 8) l)) b).toNat ≤ 15 := by
    have e := hc ⟨4 * (r.val / 4) + b, by omega⟩ l
    have e1 : (⟨(4 * (r.val / 4) + b) / 4, by omega⟩ : Fin 8) = ⟨r.val / 4, by omega⟩ := Fin.ext (by show (4 * (r.val / 4) + b) / 4 = r.val / 4; omega)
    have e2 : (4 * (r.val / 4) + b) % 4 = b := by omega
    simp only [e1, e2] at e
    rw [e]
    have := hC ⟨4 * (r.val / 4) + b, by omega⟩ l
    omega
  rw [byteOf_xor, byteOf_add _ _ hrow (fun b hb => by rw [hgw b hb]; simp only [BitVec.toNat_ofNat]; omega) _ (by omega), hm, hgw _ (by omega)]
  have er : (⟨4 * (r.val / 4) + r.val % 4, by omega⟩ : Fin 32) = r := Fin.ext (by show 4 * (r.val / 4) + r.val % 4 = r.val; omega)
  rw [er, diff_byte _ _ (C r l) (Z (G r) l) (hC r l) (hZ _ l) (hc r l) (by rw [BitVec.toNat_ofNat]; omega)]
  rfl

/-! ## The weights of a window -/

/-- The first sixteen rows of a window's weights. -/
theorem wHi_apply (codes z p : IVec S8x128 32) (s0 s1 : FVec Ideal S16x128 .bf16) (G : Fin 32 → Fin 32) (Z C : Fin 32 → Fin 128 → ℕ) (S : Fin 32 → Fin 128 → EReal)
    (hp : Names p G) (hz : Zeros z Z) (hc : Codes codes C) (hZ : ∀ g l, Z g l < 16) (hC : ∀ r l, C r l < 16)
    (h0 : ∀ (a : Fin 16) (l : Fin 128), s0 (ix2 a l) = S ⟨a.val, by omega⟩ l) (h1 : ∀ (a : Fin 16) (l : Fin 128), s1 (ix2 a l) = S ⟨16 + a.val, by omega⟩ l)
    (a : Fin 16) (l : Fin 128) (r : Fin 32) (hr : r.val = a.val) :
    wHi codes z p s0 s1 (ix2 a l) = diffVal (C r l) (Z (G r) l) * S (G r) l := by
  have ei : (fun b => (⟨(![0, 0] : Fin 2 → ℕ) b + (ix2 a l b).val, Nat.lt_of_lt_of_le (Nat.add_lt_add_left (ix2 a l b).isLt _) (slices_S32x128_o0_0_S16x128.2 b)⟩ : Fin (S32x128.size b))) = ix2 r l := by
    funext b
    fin_cases b
    · exact Fin.ext (by show 0 + a.val = r.val; omega)
    · exact Fin.ext (by show 0 + l.val = l.val; omega)
  have e1 : extractStridedSlice S16x128 ![0, 0] (diffRows (F := Ideal) codes z p) slices_S32x128_o0_0_S16x128 (ix2 a l) = diffRows (F := Ideal) codes z p (ix2 r l) :=
    congrArg (diffRows (F := Ideal) codes z p) ei
  have e2 : patGroupHi p (ix2 a l) = patGroup p (ix2 r l) := congrArg (patGroup p) ei
  unfold wHi
  rw [mulf_apply, e1, diffRows_apply codes z p G Z C hp hz hc hZ hC r l, scaleRows_apply s0 s1 S h0 h1 _ a l (G r) (by rw [e2, patGroup_apply p G hp r l])]

/-- The last sixteen rows of a window's weights. -/
theorem wLo_apply (codes z p : IVec S8x128 32) (s0 s1 : FVec Ideal S16x128 .bf16) (G : Fin 32 → Fin 32) (Z C : Fin 32 → Fin 128 → ℕ) (S : Fin 32 → Fin 128 → EReal)
    (hp : Names p G) (hz : Zeros z Z) (hc : Codes codes C) (hZ : ∀ g l, Z g l < 16) (hC : ∀ r l, C r l < 16)
    (h0 : ∀ (a : Fin 16) (l : Fin 128), s0 (ix2 a l) = S ⟨a.val, by omega⟩ l) (h1 : ∀ (a : Fin 16) (l : Fin 128), s1 (ix2 a l) = S ⟨16 + a.val, by omega⟩ l)
    (a : Fin 16) (l : Fin 128) (r : Fin 32) (hr : r.val = 16 + a.val) :
    wLo codes z p s0 s1 (ix2 a l) = diffVal (C r l) (Z (G r) l) * S (G r) l := by
  have ei : (fun b => (⟨(![16, 0] : Fin 2 → ℕ) b + (ix2 a l b).val, Nat.lt_of_lt_of_le (Nat.add_lt_add_left (ix2 a l b).isLt _) (slices_S32x128_o16_0_S16x128.2 b)⟩ : Fin (S32x128.size b))) = ix2 r l := by
    funext b
    fin_cases b
    · exact Fin.ext (by show 16 + a.val = r.val; omega)
    · exact Fin.ext (by show 0 + l.val = l.val; omega)
  have e1 : extractStridedSlice S16x128 ![16, 0] (diffRows (F := Ideal) codes z p) slices_S32x128_o16_0_S16x128 (ix2 a l) = diffRows (F := Ideal) codes z p (ix2 r l) :=
    congrArg (diffRows (F := Ideal) codes z p) ei
  have e2 : patGroupLo p (ix2 a l) = patGroup p (ix2 r l) := congrArg (patGroup p) ei
  unfold wLo
  rw [mulf_apply, e1, diffRows_apply codes z p G Z C hp hz hc hZ hC r l, scaleRows_apply s0 s1 S h0 h1 _ a l (G r) (by rw [e2, patGroup_apply p G hp r l])]

/-! ## The weights of a chunk -/

/-- The words of codes of window `w`. -/
def winCodes (q : Fin 4 → IVec S8x128 32) (w : ℕ) : IVec S8x128 32 :=
  if w % 2 = 0 then evenCodes (q (Fin.ofNat 4 (w / 2))) else oddCodes (q (Fin.ofNat 4 (w / 2)))

/-- The `n`-th sixteen rows. -/
def pieceW (z : IVec S8x128 32) (s0 s1 : FVec Ideal S16x128 .bf16) (q : Fin 4 → IVec S8x128 32) (p : Fin 8 → IVec S8x128 32) (n : Fin 16) : FVec Ideal S16x128 .bf16 :=
  if n.val % 2 = 0 then wHi (winCodes q (n.val / 2)) z (p (Fin.ofNat 8 (n.val / 2))) s0 s1 else wLo (winCodes q (n.val / 2)) z (p (Fin.ofNat 8 (n.val / 2))) s0 s1

/-- The masked words hold the codes of a window, one to a byte. -/
theorem winCodes_codes (q : Fin 4 → IVec S8x128 32) (w : Fin 8) :
    Codes (winCodes q w.val) (fun r l => nib (q ⟨w.val / 2, by omega⟩ (ix2 (⟨r.val / 4, by omega⟩ : Fin 8) l)) (2 * (r.val % 4) + w.val % 2)) := by
  intro r l
  have ew : Fin.ofNat 4 (w.val / 2) = (⟨w.val / 2, by omega⟩ : Fin 4) := Fin.ext (Nat.mod_eq_of_lt (by omega))
  unfold winCodes
  rw [ew]
  by_cases h : w.val % 2 = 0
  · rw [if_pos h]
    simp only [h, Nat.add_zero]
    exact even_byte _ _ (by omega)
  · have h1 : w.val % 2 = 1 := by omega
    rw [if_neg h]
    simp only [h1]
    exact odd_byte _ _ (by omega)

/-- A chunk's weights: code less zero point, times scale. -/
theorem chunkW_apply (z : IVec S8x128 32) (s0 s1 : FVec Ideal S16x128 .bf16) (q : Fin 4 → IVec S8x128 32) (p : Fin 8 → IVec S8x128 32)
    (G : Fin 8 → Fin 32 → Fin 32) (Z : Fin 32 → Fin 128 → ℕ) (S : Fin 32 → Fin 128 → EReal)
    (hp : ∀ w, Names (p w) (G w)) (hz : Zeros z Z) (hZ : ∀ g l, Z g l < 16)
    (h0 : ∀ (a : Fin 16) (l : Fin 128), s0 (ix2 a l) = S ⟨a.val, by omega⟩ l) (h1 : ∀ (a : Fin 16) (l : Fin 128), s1 (ix2 a l) = S ⟨16 + a.val, by omega⟩ l)
    (w : Fin 8) (r : Fin 32) (l : Fin 128) :
    chunkW z s0 s1 (q 0) (q 1) (q 2) (q 3) (p 0) (p 1) (p 2) (p 3) (p 4) (p 5) (p 6) (p 7) (ix2 (⟨32 * w.val + r.val, by omega⟩ : Fin 256) l)
      = diffVal (nib (q ⟨w.val / 2, by omega⟩ (ix2 (⟨r.val / 4, by omega⟩ : Fin 8) l)) (2 * (r.val % 4) + w.val % 2)) (Z (G w r) l) * S (G w r) l := by
  have e : chunkW z s0 s1 (q 0) (q 1) (q 2) (q 3) (p 0) (p 1) (p 2) (p 3) (p 4) (p 5) (p 6) (p 7)
      = concatenate S256x128 0 (List.ofFn fun n : Fin 16 => (⟨S16x128, pieceW z s0 s1 q p n⟩ : (s : Shape) × (s.Idx → Ideal .bf16))) concatenates_S16x128_S16x128_S16x128_S16x128_S16x128_S16x128_S16x128_S16x128_S16x128_S16x128_S16x128_S16x128_S16x128_S16x128_S16x128_S16x128_S256x128_d0 := rfl
  have ew : Fin.ofNat 8 w.val = w := Fin.ext (Nat.mod_eq_of_lt w.isLt)
  rw [e]
  by_cases hr : r.val < 16
  · rw [concatenate_ofFn_apply (t := S256x128) (s₁ := S16x128) 0 (pieceW z s0 s1 q p) concatenates_S16x128_S16x128_S16x128_S16x128_S16x128_S16x128_S16x128_S16x128_S16x128_S16x128_S16x128_S16x128_S16x128_S16x128_S16x128_S16x128_S256x128_d0 rfl 16 rfl (ix2 (⟨32 * w.val + r.val, by omega⟩ : Fin 256) l)
      (⟨2 * w.val, by omega⟩ : Fin 16) (by show (32 * w.val + r.val) / 16 = 2 * w.val; omega)
      (ix2 (⟨r.val, hr⟩ : Fin 16) l) (by show r.val = (32 * w.val + r.val) % 16; omega)
      (fun b hb => by fin_cases b; · exact absurd rfl hb
                      · rfl)]
    have hm : 2 * w.val % 2 = 0 := by omega
    have hd : 2 * w.val / 2 = w.val := by omega
    unfold pieceW
    simp only [hm, hd, ew, if_pos]
    exact wHi_apply _ z (p w) s0 s1 (G w) Z _ S (hp w) hz (winCodes_codes q w) hZ (fun _ _ => nib_lt _ _) h0 h1 (⟨r.val, hr⟩ : Fin 16) l r rfl
  · rw [concatenate_ofFn_apply (t := S256x128) (s₁ := S16x128) 0 (pieceW z s0 s1 q p) concatenates_S16x128_S16x128_S16x128_S16x128_S16x128_S16x128_S16x128_S16x128_S16x128_S16x128_S16x128_S16x128_S16x128_S16x128_S16x128_S16x128_S256x128_d0 rfl 16 rfl (ix2 (⟨32 * w.val + r.val, by omega⟩ : Fin 256) l)
      (⟨2 * w.val + 1, by omega⟩ : Fin 16) (by show (32 * w.val + r.val) / 16 = 2 * w.val + 1; omega)
      (ix2 (⟨r.val - 16, by omega⟩ : Fin 16) l) (by show r.val - 16 = (32 * w.val + r.val) % 16; omega)
      (fun b hb => by fin_cases b; · exact absurd rfl hb
                      · rfl)]
    have hm : ¬ (2 * w.val + 1) % 2 = 0 := by omega
    have hd : (2 * w.val + 1) / 2 = w.val := by omega
    unfold pieceW
    rw [if_neg hm]
    simp only [hd, ew]
    exact wLo_apply _ z (p w) s0 s1 (G w) Z _ S (hp w) hz (winCodes_codes q w) hZ (fun _ _ => nib_lt _ _) h0 h1 (⟨r.val - 16, by omega⟩ : Fin 16) l r (by show r.val = 16 + (r.val - 16); omega)

end Cert.Proof.KI
-- ==== Proof.TileValue.lean ====
/-
  THE TILES OF WEIGHTS AND THE LEFT OPERAND of a trip, entry by entry, as functions of the launch's inputs: both list
  the contracted positions of a block of 256 in one order.
-/
module

public import proofs.«01_k».proof.Proof.ChunkValue

@[expose] public section

set_option maxRecDepth 16384

noncomputable section

namespace Cert.Proof.KI

open Cert.KernelIdeal Cert.KernelIdeal.Gen
open Idealize.ShloMosaic Idealize.ShloMosaic.ValueIdx

/-- The group of contracted position `κ`. -/
def grp (x2 : Vec Ideal S32x128 .i32) (κ : Fin 4096) : Fin 32 :=
  ⟨(x2 (ix2 (⟨κ.val / 128, by omega⟩ : Fin 32) (⟨κ.val % 128, by omega⟩ : Fin 128))).toNat % 32, Nat.mod_lt _ (by decide)⟩

/-- The weight at contracted position `κ` and column `n`. -/
def wt (x2 : Vec Ideal S32x128 .i32) (x3 : Vec Ideal S512x2048 .i32) (x4 : Vec Ideal S32x2048 .bf16) (x5 : Vec Ideal S32x256 .i32) (κ : Fin 4096) (n : Fin 2048) : EReal :=
  diffVal (nib (x3 (ix2 (⟨κ.val / 8, by omega⟩ : Fin 512) n)) (κ.val % 8)) (nib (x5 (ix2 (grp x2 κ) (⟨n.val / 8, by omega⟩ : Fin 256))) (n.val % 8))
    * x4 (ix2 (grp x2 κ) n)

/-- The contracted position that row `R` of block `k` stands for. -/
def kIdx (k : Fin 16) (R : Fin 256) : Fin 4096 := ⟨256 * k.val + 128 * (R.val / 128) + srcCol (R.val % 128), by have := srcCol_lt (R.val % 128) (by omega); omega⟩

/-- The contracted position by window and row. -/
theorem kIdx_row (k : Fin 16) (w : Fin 8) (r : Fin 32) :
    (kIdx k (⟨32 * w.val + r.val, by omega⟩ : Fin 256)).val = 256 * k.val + 64 * (w.val / 2) + 8 * (r.val / 4) + 2 * (r.val % 4) + w.val % 2 := by
  show 256 * k.val + 128 * ((32 * w.val + r.val) / 128) + srcCol ((32 * w.val + r.val) % 128) = _
  unfold srcCol
  omega

/-- The trip of a block. -/
def blkOf (k : Fin k0_t4_loop.trips) : Fin 16 := ⟨k.val, lt_of_lt_of_eq k.isLt t4_trips⟩

/-! ## The left operand -/

/-- The left operand of a trip is the input at the contraction's positions. -/
theorem lhsAt_apply (x1 : Vec Ideal S128x4096 .bf16) (k : Fin k0_t4_loop.trips) (i : Fin 128) (R : Fin 256) :
    lhsAt (xsOf x1) k (ix2 i R) = x1 (ix2 i (kIdx (blkOf k) R)) := by
  have hk : k.val < 16 := (blkOf k).isLt
  have piece (t : Fin 2) (off : Fin 2 → ℕ) (inb) (h0 : off 0 = 256 * k.val + 128 * t.val) (h1 : off 1 = 0) (l : Fin 128) (hl : R.val = 128 * t.val + l.val) :
      View.ld (xsOf x1) (Rect.unit (s := S4096x128) off S128x128.size inb) (ix2 i l) = x1 (ix2 i (kIdx (blkOf k) R)) := by
    refine (ld_eq_ix2 _ off _ inb (ix2 i l) (⟨256 * k.val + 128 * t.val + i.val, by omega⟩ : Fin 4096) l (by rw [h0]; rfl) (by rw [h1]; exact (Nat.zero_add _).symm)).trans ?_
    rw [xsOf_apply]
    refine congrArg x1 (congr (congrArg ix2 (Fin.ext ?_)) (Fin.ext ?_))
    · show (256 * k.val + 128 * t.val + i.val) % 128 = i.val
      omega
    · show 128 * ((256 * k.val + 128 * t.val + i.val) / 128) + srcCol l.val = 256 * k.val + 128 * (R.val / 128) + srcCol (R.val % 128)
      have e1 : R.val % 128 = l.val := by omega
      rw [e1]
      omega
  unfold lhsAt
  have e := concatenate_ofFn_apply (t := S128x256) (s₁ := S128x128) 1
    (fun n : Fin 2 => if n.val = 0 then View.ld (xsOf x1) (Rect.unit (s := S4096x128) (k0_off10 k 0#32) S128x128.size (k0_off10_inb k 0))
      else View.ld (xsOf x1) (Rect.unit (s := S4096x128) (k0_off10 k 128#32) S128x128.size (k0_off10_inb k 1)))
    concatenates_S128x128_S128x128_S128x256_d1 rfl 128 rfl (ix2 i R) (⟨R.val / 128, by omega⟩ : Fin 2) rfl (ix2 i (⟨R.val % 128, by omega⟩ : Fin 128)) rfl
    (fun b hb => by fin_cases b; · rfl
                    · exact absurd rfl hb)
  refine Eq.trans e ?_
  by_cases hR : R.val / 128 = 0
  · simp only [hR, if_true]
    exact piece 0 _ _ (congrFun (k0_off10_eq k 0) 0) (congrFun (k0_off10_eq k 0) 1) _ (by show R.val = 128 * 0 + R.val % 128; omega)
  · simp only [hR, if_false]
    exact piece 1 _ _ (congrFun (k0_off10_eq k 1) 0) (congrFun (k0_off10_eq k 1) 1) _ (by show R.val = 128 * 1 + R.val % 128; omega)

/-! ## The weights of a chunk -/

/-- The weights of chunk `c`, given that each operand is the slice of its array the chunk reads. -/
theorem chunk_wt (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin 16) (c : Fin 16)
    (z : IVec S8x128 32) (s0 s1 : FVec Ideal S16x128 .bf16) (q : Fin 4 → IVec S8x128 32) (p : Fin 8 → IVec S8x128 32)
    (hz : ∀ (s : Fin 8) (l : Fin 128), z (ix2 s l) = tabOf (F := Ideal) x5 (ix2 (⟨8 * c.val + s.val, by omega⟩ : Fin 128) l))
    (h0 : ∀ (a : Fin 16) (l : Fin 128), s0 (ix2 a l) = x4 (ix2 (⟨a.val, by omega⟩ : Fin 32) (⟨128 * c.val + l.val, by omega⟩ : Fin 2048)))
    (h1 : ∀ (a : Fin 16) (l : Fin 128), s1 (ix2 a l) = x4 (ix2 (⟨16 + a.val, by omega⟩ : Fin 32) (⟨128 * c.val + l.val, by omega⟩ : Fin 2048)))
    (hq : ∀ (i : Fin 4) (s : Fin 8) (l : Fin 128), q i (ix2 s l) = x3 (ix2 (⟨32 * k.val + 8 * i.val + s.val, by omega⟩ : Fin 512) (⟨128 * c.val + l.val, by omega⟩ : Fin 2048)))
    (hp : ∀ (w : Fin 8) (s : Fin 8) (l : Fin 128), p w (ix2 s l) = patOf (F := Ideal) x2 (ix2 (⟨64 * k.val + 8 * w.val + s.val, by omega⟩ : Fin 1024) l))
    (R : Fin 256) (l : Fin 128) :
    chunkW z s0 s1 (q 0) (q 1) (q 2) (q 3) (p 0) (p 1) (p 2) (p 3) (p 4) (p 5) (p 6) (p 7) (ix2 R l)
      = wt x2 x3 x4 x5 (kIdx k R) (⟨128 * c.val + l.val, by omega⟩ : Fin 2048) := by
  -- the window and the row of the window
  obtain ⟨w, r, hR⟩ : ∃ (w : Fin 8) (r : Fin 32), R = (⟨32 * w.val + r.val, by omega⟩ : Fin 256) :=
    ⟨⟨R.val / 32, by omega⟩, ⟨R.val % 32, by omega⟩, Fin.ext (by show R.val = 32 * (R.val / 32) + R.val % 32; omega)⟩
  subst hR
  have hZ := chunkW_apply z s0 s1 q p (fun w r => grp x2 (kIdx k (⟨32 * w.val + r.val, by omega⟩ : Fin 256)))
    (fun g l => nib (x5 (ix2 g (⟨16 * c.val + l.val / 8, by omega⟩ : Fin 256))) (l.val % 8))
    (fun g l => x4 (ix2 g (⟨128 * c.val + l.val, by omega⟩ : Fin 2048)))
    (fun w r l => by
      have hw : 2 * (w.val % 4 / 2) + w.val % 2 = w.val % 4 := by omega
      have e := patOf_byte (F := Ideal) x2 hx (⟨2 * k.val + w.val / 4, by omega⟩ : Fin 32) (⟨w.val % 4 / 2, by omega⟩ : Fin 2) (⟨w.val % 2, by omega⟩ : Fin 2)
        (⟨r.val / 4, by omega⟩ : Fin 8) l (⟨r.val % 4, by omega⟩ : Fin 4) (ix2 (⟨64 * k.val + 8 * w.val + r.val / 4, by omega⟩ : Fin 1024) l)
        (by show 64 * k.val + 8 * w.val + r.val / 4 = 32 * (2 * k.val + w.val / 4) + 8 * (2 * (w.val % 4 / 2) + w.val % 2) + r.val / 4; omega) rfl
      rw [hp w (⟨r.val / 4, by omega⟩ : Fin 8) l]
      refine Eq.trans e (congrArg pz ?_)
      have hr := kIdx_row k w r
      have eg : ∀ κ : Fin 4096, κ.val = 256 * k.val + 64 * (w.val / 2) + 8 * (r.val / 4) + 2 * (r.val % 4) + w.val % 2 →
          (x2 (ix2 (⟨2 * k.val + w.val / 4, by omega⟩ : Fin 32) (⟨64 * (w.val % 4 / 2) + 8 * (r.val / 4) + 2 * (r.val % 4) + w.val % 2, by omega⟩ : Fin 128))).toNat = (grp x2 κ).val := by
        intro κ hκ
        show _ = (x2 _).toNat % 32
        rw [Nat.mod_eq_of_lt (hx _ _)]
        refine congrArg BitVec.toNat (congrArg x2 (congr (congrArg ix2 (Fin.ext ?_)) (Fin.ext ?_)))
        · show 2 * k.val + w.val / 4 = κ.val / 128
          omega
        · show 64 * (w.val % 4 / 2) + 8 * (r.val / 4) + 2 * (r.val % 4) + w.val % 2 = κ.val % 128
          omega
      exact eg _ hr)
    (fun s l b => by
      rw [hz s l]
      exact tabOf_byte (F := Ideal) x5 c s l b _ rfl rfl)
    (fun g l => nib_lt _ _) h0 h1 w r l
  refine Eq.trans hZ ?_
  have hr := kIdx_row k w r
  unfold wt
  generalize kIdx k (⟨32 * w.val + r.val, by omega⟩ : Fin 256) = κ at hr ⊢
  have e3 : (128 * c.val + l.val) % 8 = l.val % 8 := by omega
  have e4 : κ.val % 8 = 2 * (r.val % 4) + w.val % 2 := by omega
  refine congrArg (· * x4 (ix2 (grp x2 κ) (⟨128 * c.val + l.val, by omega⟩ : Fin 2048))) (congr (congrArg diffVal ?_) ?_)
  · rw [hq, e4]
    refine congrArg (fun v => nib (x3 v) _) (congrArg (fun a => ix2 a _) (Fin.ext ?_))
    show 32 * k.val + 8 * (w.val / 2) + r.val / 4 = κ.val / 8
    omega
  · show nib _ (l.val % 8) = nib _ ((128 * c.val + l.val) % 8)
    rw [e3]
    refine congrArg (fun v => nib (x5 v) _) (congrArg (ix2 _) (Fin.ext ?_))
    show 16 * c.val + l.val / 8 = (128 * c.val + l.val) / 8
    omega

/-- A load of a block of rows and columns. -/
theorem ld_at {Val : EltTy → Type} {e : EltTy} {N0 N1 n0 n1 : ℕ} (X : (⟨2, ![N0, N1]⟩ : Shape).Idx → Val e) (off : Fin 2 → ℕ)
    (inb : ∀ a, off a + (⟨2, ![n0, n1]⟩ : Shape).size a ≤ (⟨2, ![N0, N1]⟩ : Shape).size a)
    (o0 o1 : ℕ) (h0 : off 0 = o0) (h1 : off 1 = o1) (s : Fin n0) (l : Fin n1) (a : Fin N0) (b : Fin N1) (ha : a.val = o0 + s.val) (hb : b.val = o1 + l.val) :
    View.ld X (Rect.unit (s := ⟨2, ![N0, N1]⟩) off (⟨2, ![n0, n1]⟩ : Shape).size inb) (ix2 s l) = X (ix2 a b) :=
  ld_eq_ix2 X off _ inb (ix2 s l) a b (by rw [h0]; exact ha) (by rw [h1]; exact hb)

/-- The stored patterns a trip reads. -/
def patAt (x8 : Vec Ideal S1024x128 .i32) (k : Fin k0_t4_loop.trips) : Fin 8 → IVec S8x128 32 :=
  ![patAt0 (F := Ideal) x8 k, patAt1 (F := Ideal) x8 k, patAt2 (F := Ideal) x8 k, patAt3 (F := Ideal) x8 k, patAt4 (F := Ideal) x8 k, patAt5 (F := Ideal) x8 k, patAt6 (F := Ideal) x8 k, patAt7 (F := Ideal) x8 k]

/-- A trip's pattern is the stored one. -/
theorem patAt_apply (x8 : Vec Ideal S1024x128 .i32) (k : Fin k0_t4_loop.trips) (w s : Fin 8) (l : Fin 128) :
    patAt x8 k w (ix2 s l) = x8 (ix2 (⟨64 * (blkOf k).val + 8 * w.val + s.val, by omega⟩ : Fin 1024) l) := by
  have hk : k.val < 16 := (blkOf k).isLt
  have h0 := congrFun (k0_off11_eq k w) 0
  have h1 := congrFun (k0_off11_eq k w) 1
  fin_cases w <;> exact ld_at x8 _ _ _ _ h0 h1 s l _ _ rfl (Nat.zero_add _).symm

/-! The weights each trip builds, chunk by chunk. -/

/-- Chunk 0 of a contraction block holds the weights of its 128 columns. -/
theorem chunkAt0_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R : Fin 256) (l : Fin 128) :
    chunkAt0 x3 x4 (patOf (F := Ideal) x2) (tabOf (F := Ideal) x5) k (ix2 R l) = wt x2 x3 x4 x5 (kIdx (blkOf k) R) (⟨0 + l.val, by omega⟩ : Fin 2048) := by
  have hk : k.val < 16 := (blkOf k).isLt
  have hq (i : Fin 4) (s : Fin 8) (l : Fin 128) : (![View.ld x3 (Rect.unit (s := S512x2048) (k0_off12 k 0#32) S8x128.size (k0_off12_inb k 0)), View.ld x3 (Rect.unit (s := S512x2048) (k0_off12 k 8#32) S8x128.size (k0_off12_inb k 1)),
      View.ld x3 (Rect.unit (s := S512x2048) (k0_off12 k 16#32) S8x128.size (k0_off12_inb k 2)), View.ld x3 (Rect.unit (s := S512x2048) (k0_off12 k 24#32) S8x128.size (k0_off12_inb k 3))] : Fin 4 → IVec S8x128 32) i (ix2 s l)
      = x3 (ix2 (⟨32 * (blkOf k).val + 8 * i.val + s.val, by omega⟩ : Fin 512) (⟨128 * 0 + l.val, by omega⟩ : Fin 2048)) := by
    have h0 := congrFun (k0_off12_eq k i) 0
    have h1 := congrFun (k0_off12_eq k i) 1
    fin_cases i <;> exact ld_at x3 _ _ _ _ h0 h1 s l _ _ rfl rfl
  exact chunk_wt x2 x3 x4 x5 hx (blkOf k) (⟨0, by decide⟩ : Fin 16) _ _ _ _ (patAt (patOf (F := Ideal) x2) k)
    (fun s l => ld_at (n0 := 8) (n1 := 128) (tabOf (F := Ideal) x5) ![0, 0] _ 0 0 rfl rfl s l (⟨0 + s.val, by omega⟩ : Fin 128) l rfl (Nat.zero_add _).symm)
    (fun a l => ld_at (n0 := 16) (n1 := 128) x4 ![0, 0] _ 0 0 rfl rfl a l (⟨a.val, by omega⟩ : Fin 32) (⟨0 + l.val, by omega⟩ : Fin 2048) (Nat.zero_add _).symm rfl)
    (fun a l => ld_at (n0 := 16) (n1 := 128) x4 ![16, 0] _ 16 0 rfl rfl a l (⟨16 + a.val, by omega⟩ : Fin 32) (⟨0 + l.val, by omega⟩ : Fin 2048) rfl rfl)
    hq (fun w s l => patAt_apply (patOf (F := Ideal) x2) k w s l) R l

/-- Chunk 1 of a contraction block holds the weights of its 128 columns. -/
theorem chunkAt1_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R : Fin 256) (l : Fin 128) :
    chunkAt1 x3 x4 (patOf (F := Ideal) x2) (tabOf (F := Ideal) x5) k (ix2 R l) = wt x2 x3 x4 x5 (kIdx (blkOf k) R) (⟨128 + l.val, by omega⟩ : Fin 2048) := by
  have hk : k.val < 16 := (blkOf k).isLt
  have hq (i : Fin 4) (s : Fin 8) (l : Fin 128) : (![View.ld x3 (Rect.unit (s := S512x2048) (k0_off13 k 0#32) S8x128.size (k0_off13_inb k 0)), View.ld x3 (Rect.unit (s := S512x2048) (k0_off13 k 8#32) S8x128.size (k0_off13_inb k 1)),
      View.ld x3 (Rect.unit (s := S512x2048) (k0_off13 k 16#32) S8x128.size (k0_off13_inb k 2)), View.ld x3 (Rect.unit (s := S512x2048) (k0_off13 k 24#32) S8x128.size (k0_off13_inb k 3))] : Fin 4 → IVec S8x128 32) i (ix2 s l)
      = x3 (ix2 (⟨32 * (blkOf k).val + 8 * i.val + s.val, by omega⟩ : Fin 512) (⟨128 * 1 + l.val, by omega⟩ : Fin 2048)) := by
    have h0 := congrFun (k0_off13_eq k i) 0
    have h1 := congrFun (k0_off13_eq k i) 1
    fin_cases i <;> exact ld_at x3 _ _ _ _ h0 h1 s l _ _ rfl rfl
  exact chunk_wt x2 x3 x4 x5 hx (blkOf k) (⟨1, by decide⟩ : Fin 16) _ _ _ _ (patAt (patOf (F := Ideal) x2) k)
    (fun s l => ld_at (n0 := 8) (n1 := 128) (tabOf (F := Ideal) x5) ![8, 0] _ 8 0 rfl rfl s l (⟨8 + s.val, by omega⟩ : Fin 128) l rfl (Nat.zero_add _).symm)
    (fun a l => ld_at (n0 := 16) (n1 := 128) x4 ![0, 128] _ 0 128 rfl rfl a l (⟨a.val, by omega⟩ : Fin 32) (⟨128 + l.val, by omega⟩ : Fin 2048) (Nat.zero_add _).symm rfl)
    (fun a l => ld_at (n0 := 16) (n1 := 128) x4 ![16, 128] _ 16 128 rfl rfl a l (⟨16 + a.val, by omega⟩ : Fin 32) (⟨128 + l.val, by omega⟩ : Fin 2048) rfl rfl)
    hq (fun w s l => patAt_apply (patOf (F := Ideal) x2) k w s l) R l

/-- Chunk 2 of a contraction block holds the weights of its 128 columns. -/
theorem chunkAt2_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R : Fin 256) (l : Fin 128) :
    chunkAt2 x3 x4 (patOf (F := Ideal) x2) (tabOf (F := Ideal) x5) k (ix2 R l) = wt x2 x3 x4 x5 (kIdx (blkOf k) R) (⟨256 + l.val, by omega⟩ : Fin 2048) := by
  have hk : k.val < 16 := (blkOf k).isLt
  have hq (i : Fin 4) (s : Fin 8) (l : Fin 128) : (![View.ld x3 (Rect.unit (s := S512x2048) (k0_off14 k 0#32) S8x128.size (k0_off14_inb k 0)), View.ld x3 (Rect.unit (s := S512x2048) (k0_off14 k 8#32) S8x128.size (k0_off14_inb k 1)),
      View.ld x3 (Rect.unit (s := S512x2048) (k0_off14 k 16#32) S8x128.size (k0_off14_inb k 2)), View.ld x3 (Rect.unit (s := S512x2048) (k0_off14 k 24#32) S8x128.size (k0_off14_inb k 3))] : Fin 4 → IVec S8x128 32) i (ix2 s l)
      = x3 (ix2 (⟨32 * (blkOf k).val + 8 * i.val + s.val, by omega⟩ : Fin 512) (⟨128 * 2 + l.val, by omega⟩ : Fin 2048)) := by
    have h0 := congrFun (k0_off14_eq k i) 0
    have h1 := congrFun (k0_off14_eq k i) 1
    fin_cases i <;> exact ld_at x3 _ _ _ _ h0 h1 s l _ _ rfl rfl
  exact chunk_wt x2 x3 x4 x5 hx (blkOf k) (⟨2, by decide⟩ : Fin 16) _ _ _ _ (patAt (patOf (F := Ideal) x2) k)
    (fun s l => ld_at (n0 := 8) (n1 := 128) (tabOf (F := Ideal) x5) ![16, 0] _ 16 0 rfl rfl s l (⟨16 + s.val, by omega⟩ : Fin 128) l rfl (Nat.zero_add _).symm)
    (fun a l => ld_at (n0 := 16) (n1 := 128) x4 ![0, 256] _ 0 256 rfl rfl a l (⟨a.val, by omega⟩ : Fin 32) (⟨256 + l.val, by omega⟩ : Fin 2048) (Nat.zero_add _).symm rfl)
    (fun a l => ld_at (n0 := 16) (n1 := 128) x4 ![16, 256] _ 16 256 rfl rfl a l (⟨16 + a.val, by omega⟩ : Fin 32) (⟨256 + l.val, by omega⟩ : Fin 2048) rfl rfl)
    hq (fun w s l => patAt_apply (patOf (F := Ideal) x2) k w s l) R l

/-- Chunk 3 of a contraction block holds the weights of its 128 columns. -/
theorem chunkAt3_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R : Fin 256) (l : Fin 128) :
    chunkAt3 x3 x4 (patOf (F := Ideal) x2) (tabOf (F := Ideal) x5) k (ix2 R l) = wt x2 x3 x4 x5 (kIdx (blkOf k) R) (⟨384 + l.val, by omega⟩ : Fin 2048) := by
  have hk : k.val < 16 := (blkOf k).isLt
  have hq (i : Fin 4) (s : Fin 8) (l : Fin 128) : (![View.ld x3 (Rect.unit (s := S512x2048) (k0_off15 k 0#32) S8x128.size (k0_off15_inb k 0)), View.ld x3 (Rect.unit (s := S512x2048) (k0_off15 k 8#32) S8x128.size (k0_off15_inb k 1)),
      View.ld x3 (Rect.unit (s := S512x2048) (k0_off15 k 16#32) S8x128.size (k0_off15_inb k 2)), View.ld x3 (Rect.unit (s := S512x2048) (k0_off15 k 24#32) S8x128.size (k0_off15_inb k 3))] : Fin 4 → IVec S8x128 32) i (ix2 s l)
      = x3 (ix2 (⟨32 * (blkOf k).val + 8 * i.val + s.val, by omega⟩ : Fin 512) (⟨128 * 3 + l.val, by omega⟩ : Fin 2048)) := by
    have h0 := congrFun (k0_off15_eq k i) 0
    have h1 := congrFun (k0_off15_eq k i) 1
    fin_cases i <;> exact ld_at x3 _ _ _ _ h0 h1 s l _ _ rfl rfl
  exact chunk_wt x2 x3 x4 x5 hx (blkOf k) (⟨3, by decide⟩ : Fin 16) _ _ _ _ (patAt (patOf (F := Ideal) x2) k)
    (fun s l => ld_at (n0 := 8) (n1 := 128) (tabOf (F := Ideal) x5) ![24, 0] _ 24 0 rfl rfl s l (⟨24 + s.val, by omega⟩ : Fin 128) l rfl (Nat.zero_add _).symm)
    (fun a l => ld_at (n0 := 16) (n1 := 128) x4 ![0, 384] _ 0 384 rfl rfl a l (⟨a.val, by omega⟩ : Fin 32) (⟨384 + l.val, by omega⟩ : Fin 2048) (Nat.zero_add _).symm rfl)
    (fun a l => ld_at (n0 := 16) (n1 := 128) x4 ![16, 384] _ 16 384 rfl rfl a l (⟨16 + a.val, by omega⟩ : Fin 32) (⟨384 + l.val, by omega⟩ : Fin 2048) rfl rfl)
    hq (fun w s l => patAt_apply (patOf (F := Ideal) x2) k w s l) R l

/-- Chunk 4 of a contraction block holds the weights of its 128 columns. -/
theorem chunkAt4_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R : Fin 256) (l : Fin 128) :
    chunkAt4 x3 x4 (patOf (F := Ideal) x2) (tabOf (F := Ideal) x5) k (ix2 R l) = wt x2 x3 x4 x5 (kIdx (blkOf k) R) (⟨512 + l.val, by omega⟩ : Fin 2048) := by
  have hk : k.val < 16 := (blkOf k).isLt
  have hq (i : Fin 4) (s : Fin 8) (l : Fin 128) : (![View.ld x3 (Rect.unit (s := S512x2048) (k0_off16 k 0#32) S8x128.size (k0_off16_inb k 0)), View.ld x3 (Rect.unit (s := S512x2048) (k0_off16 k 8#32) S8x128.size (k0_off16_inb k 1)),
      View.ld x3 (Rect.unit (s := S512x2048) (k0_off16 k 16#32) S8x128.size (k0_off16_inb k 2)), View.ld x3 (Rect.unit (s := S512x2048) (k0_off16 k 24#32) S8x128.size (k0_off16_inb k 3))] : Fin 4 → IVec S8x128 32) i (ix2 s l)
      = x3 (ix2 (⟨32 * (blkOf k).val + 8 * i.val + s.val, by omega⟩ : Fin 512) (⟨128 * 4 + l.val, by omega⟩ : Fin 2048)) := by
    have h0 := congrFun (k0_off16_eq k i) 0
    have h1 := congrFun (k0_off16_eq k i) 1
    fin_cases i <;> exact ld_at x3 _ _ _ _ h0 h1 s l _ _ rfl rfl
  exact chunk_wt x2 x3 x4 x5 hx (blkOf k) (⟨4, by decide⟩ : Fin 16) _ _ _ _ (patAt (patOf (F := Ideal) x2) k)
    (fun s l => ld_at (n0 := 8) (n1 := 128) (tabOf (F := Ideal) x5) ![32, 0] _ 32 0 rfl rfl s l (⟨32 + s.val, by omega⟩ : Fin 128) l rfl (Nat.zero_add _).symm)
    (fun a l => ld_at (n0 := 16) (n1 := 128) x4 ![0, 512] _ 0 512 rfl rfl a l (⟨a.val, by omega⟩ : Fin 32) (⟨512 + l.val, by omega⟩ : Fin 2048) (Nat.zero_add _).symm rfl)
    (fun a l => ld_at (n0 := 16) (n1 := 128) x4 ![16, 512] _ 16 512 rfl rfl a l (⟨16 + a.val, by omega⟩ : Fin 32) (⟨512 + l.val, by omega⟩ : Fin 2048) rfl rfl)
    hq (fun w s l => patAt_apply (patOf (F := Ideal) x2) k w s l) R l

/-- Chunk 5 of a contraction block holds the weights of its 128 columns. -/
theorem chunkAt5_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R : Fin 256) (l : Fin 128) :
    chunkAt5 x3 x4 (patOf (F := Ideal) x2) (tabOf (F := Ideal) x5) k (ix2 R l) = wt x2 x3 x4 x5 (kIdx (blkOf k) R) (⟨640 + l.val, by omega⟩ : Fin 2048) := by
  have hk : k.val < 16 := (blkOf k).isLt
  have hq (i : Fin 4) (s : Fin 8) (l : Fin 128) : (![View.ld x3 (Rect.unit (s := S512x2048) (k0_off17 k 0#32) S8x128.size (k0_off17_inb k 0)), View.ld x3 (Rect.unit (s := S512x2048) (k0_off17 k 8#32) S8x128.size (k0_off17_inb k 1)),
      View.ld x3 (Rect.unit (s := S512x2048) (k0_off17 k 16#32) S8x128.size (k0_off17_inb k 2)), View.ld x3 (Rect.unit (s := S512x2048) (k0_off17 k 24#32) S8x128.size (k0_off17_inb k 3))] : Fin 4 → IVec S8x128 32) i (ix2 s l)
      = x3 (ix2 (⟨32 * (blkOf k).val + 8 * i.val + s.val, by omega⟩ : Fin 512) (⟨128 * 5 + l.val, by omega⟩ : Fin 2048)) := by
    have h0 := congrFun (k0_off17_eq k i) 0
    have h1 := congrFun (k0_off17_eq k i) 1
    fin_cases i <;> exact ld_at x3 _ _ _ _ h0 h1 s l _ _ rfl rfl
  exact chunk_wt x2 x3 x4 x5 hx (blkOf k) (⟨5, by decide⟩ : Fin 16) _ _ _ _ (patAt (patOf (F := Ideal) x2) k)
    (fun s l => ld_at (n0 := 8) (n1 := 128) (tabOf (F := Ideal) x5) ![40, 0] _ 40 0 rfl rfl s l (⟨40 + s.val, by omega⟩ : Fin 128) l rfl (Nat.zero_add _).symm)
    (fun a l => ld_at (n0 := 16) (n1 := 128) x4 ![0, 640] _ 0 640 rfl rfl a l (⟨a.val, by omega⟩ : Fin 32) (⟨640 + l.val, by omega⟩ : Fin 2048) (Nat.zero_add _).symm rfl)
    (fun a l => ld_at (n0 := 16) (n1 := 128) x4 ![16, 640] _ 16 640 rfl rfl a l (⟨16 + a.val, by omega⟩ : Fin 32) (⟨640 + l.val, by omega⟩ : Fin 2048) rfl rfl)
    hq (fun w s l => patAt_apply (patOf (F := Ideal) x2) k w s l) R l

/-- Chunk 6 of a contraction block holds the weights of its 128 columns. -/
theorem chunkAt6_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R : Fin 256) (l : Fin 128) :
    chunkAt6 x3 x4 (patOf (F := Ideal) x2) (tabOf (F := Ideal) x5) k (ix2 R l) = wt x2 x3 x4 x5 (kIdx (blkOf k) R) (⟨768 + l.val, by omega⟩ : Fin 2048) := by
  have hk : k.val < 16 := (blkOf k).isLt
  have hq (i : Fin 4) (s : Fin 8) (l : Fin 128) : (![View.ld x3 (Rect.unit (s := S512x2048) (k0_off18 k 0#32) S8x128.size (k0_off18_inb k 0)), View.ld x3 (Rect.unit (s := S512x2048) (k0_off18 k 8#32) S8x128.size (k0_off18_inb k 1)),
      View.ld x3 (Rect.unit (s := S512x2048) (k0_off18 k 16#32) S8x128.size (k0_off18_inb k 2)), View.ld x3 (Rect.unit (s := S512x2048) (k0_off18 k 24#32) S8x128.size (k0_off18_inb k 3))] : Fin 4 → IVec S8x128 32) i (ix2 s l)
      = x3 (ix2 (⟨32 * (blkOf k).val + 8 * i.val + s.val, by omega⟩ : Fin 512) (⟨128 * 6 + l.val, by omega⟩ : Fin 2048)) := by
    have h0 := congrFun (k0_off18_eq k i) 0
    have h1 := congrFun (k0_off18_eq k i) 1
    fin_cases i <;> exact ld_at x3 _ _ _ _ h0 h1 s l _ _ rfl rfl
  exact chunk_wt x2 x3 x4 x5 hx (blkOf k) (⟨6, by decide⟩ : Fin 16) _ _ _ _ (patAt (patOf (F := Ideal) x2) k)
    (fun s l => ld_at (n0 := 8) (n1 := 128) (tabOf (F := Ideal) x5) ![48, 0] _ 48 0 rfl rfl s l (⟨48 + s.val, by omega⟩ : Fin 128) l rfl (Nat.zero_add _).symm)
    (fun a l => ld_at (n0 := 16) (n1 := 128) x4 ![0, 768] _ 0 768 rfl rfl a l (⟨a.val, by omega⟩ : Fin 32) (⟨768 + l.val, by omega⟩ : Fin 2048) (Nat.zero_add _).symm rfl)
    (fun a l => ld_at (n0 := 16) (n1 := 128) x4 ![16, 768] _ 16 768 rfl rfl a l (⟨16 + a.val, by omega⟩ : Fin 32) (⟨768 + l.val, by omega⟩ : Fin 2048) rfl rfl)
    hq (fun w s l => patAt_apply (patOf (F := Ideal) x2) k w s l) R l

/-- Chunk 7 of a contraction block holds the weights of its 128 columns. -/
theorem chunkAt7_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R : Fin 256) (l : Fin 128) :
    chunkAt7 x3 x4 (patOf (F := Ideal) x2) (tabOf (F := Ideal) x5) k (ix2 R l) = wt x2 x3 x4 x5 (kIdx (blkOf k) R) (⟨896 + l.val, by omega⟩ : Fin 2048) := by
  have hk : k.val < 16 := (blkOf k).isLt
  have hq (i : Fin 4) (s : Fin 8) (l : Fin 128) : (![View.ld x3 (Rect.unit (s := S512x2048) (k0_off19 k 0#32) S8x128.size (k0_off19_inb k 0)), View.ld x3 (Rect.unit (s := S512x2048) (k0_off19 k 8#32) S8x128.size (k0_off19_inb k 1)),
      View.ld x3 (Rect.unit (s := S512x2048) (k0_off19 k 16#32) S8x128.size (k0_off19_inb k 2)), View.ld x3 (Rect.unit (s := S512x2048) (k0_off19 k 24#32) S8x128.size (k0_off19_inb k 3))] : Fin 4 → IVec S8x128 32) i (ix2 s l)
      = x3 (ix2 (⟨32 * (blkOf k).val + 8 * i.val + s.val, by omega⟩ : Fin 512) (⟨128 * 7 + l.val, by omega⟩ : Fin 2048)) := by
    have h0 := congrFun (k0_off19_eq k i) 0
    have h1 := congrFun (k0_off19_eq k i) 1
    fin_cases i <;> exact ld_at x3 _ _ _ _ h0 h1 s l _ _ rfl rfl
  exact chunk_wt x2 x3 x4 x5 hx (blkOf k) (⟨7, by decide⟩ : Fin 16) _ _ _ _ (patAt (patOf (F := Ideal) x2) k)
    (fun s l => ld_at (n0 := 8) (n1 := 128) (tabOf (F := Ideal) x5) ![56, 0] _ 56 0 rfl rfl s l (⟨56 + s.val, by omega⟩ : Fin 128) l rfl (Nat.zero_add _).symm)
    (fun a l => ld_at (n0 := 16) (n1 := 128) x4 ![0, 896] _ 0 896 rfl rfl a l (⟨a.val, by omega⟩ : Fin 32) (⟨896 + l.val, by omega⟩ : Fin 2048) (Nat.zero_add _).symm rfl)
    (fun a l => ld_at (n0 := 16) (n1 := 128) x4 ![16, 896] _ 16 896 rfl rfl a l (⟨16 + a.val, by omega⟩ : Fin 32) (⟨896 + l.val, by omega⟩ : Fin 2048) rfl rfl)
    hq (fun w s l => patAt_apply (patOf (F := Ideal) x2) k w s l) R l

/-- Chunk 8 of a contraction block holds the weights of its 128 columns. -/
theorem chunkAt8_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R : Fin 256) (l : Fin 128) :
    chunkAt8 x3 x4 (patOf (F := Ideal) x2) (tabOf (F := Ideal) x5) k (ix2 R l) = wt x2 x3 x4 x5 (kIdx (blkOf k) R) (⟨1024 + l.val, by omega⟩ : Fin 2048) := by
  have hk : k.val < 16 := (blkOf k).isLt
  have hq (i : Fin 4) (s : Fin 8) (l : Fin 128) : (![View.ld x3 (Rect.unit (s := S512x2048) (k0_off20 k 0#32) S8x128.size (k0_off20_inb k 0)), View.ld x3 (Rect.unit (s := S512x2048) (k0_off20 k 8#32) S8x128.size (k0_off20_inb k 1)),
      View.ld x3 (Rect.unit (s := S512x2048) (k0_off20 k 16#32) S8x128.size (k0_off20_inb k 2)), View.ld x3 (Rect.unit (s := S512x2048) (k0_off20 k 24#32) S8x128.size (k0_off20_inb k 3))] : Fin 4 → IVec S8x128 32) i (ix2 s l)
      = x3 (ix2 (⟨32 * (blkOf k).val + 8 * i.val + s.val, by omega⟩ : Fin 512) (⟨128 * 8 + l.val, by omega⟩ : Fin 2048)) := by
    have h0 := congrFun (k0_off20_eq k i) 0
    have h1 := congrFun (k0_off20_eq k i) 1
    fin_cases i <;> exact ld_at x3 _ _ _ _ h0 h1 s l _ _ rfl rfl
  exact chunk_wt x2 x3 x4 x5 hx (blkOf k) (⟨8, by decide⟩ : Fin 16) _ _ _ _ (patAt (patOf (F := Ideal) x2) k)
    (fun s l => ld_at (n0 := 8) (n1 := 128) (tabOf (F := Ideal) x5) ![64, 0] _ 64 0 rfl rfl s l (⟨64 + s.val, by omega⟩ : Fin 128) l rfl (Nat.zero_add _).symm)
    (fun a l => ld_at (n0 := 16) (n1 := 128) x4 ![0, 1024] _ 0 1024 rfl rfl a l (⟨a.val, by omega⟩ : Fin 32) (⟨1024 + l.val, by omega⟩ : Fin 2048) (Nat.zero_add _).symm rfl)
    (fun a l => ld_at (n0 := 16) (n1 := 128) x4 ![16, 1024] _ 16 1024 rfl rfl a l (⟨16 + a.val, by omega⟩ : Fin 32) (⟨1024 + l.val, by omega⟩ : Fin 2048) rfl rfl)
    hq (fun w s l => patAt_apply (patOf (F := Ideal) x2) k w s l) R l

/-- Chunk 9 of a contraction block holds the weights of its 128 columns. -/
theorem chunkAt9_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R : Fin 256) (l : Fin 128) :
    chunkAt9 x3 x4 (patOf (F := Ideal) x2) (tabOf (F := Ideal) x5) k (ix2 R l) = wt x2 x3 x4 x5 (kIdx (blkOf k) R) (⟨1152 + l.val, by omega⟩ : Fin 2048) := by
  have hk : k.val < 16 := (blkOf k).isLt
  have hq (i : Fin 4) (s : Fin 8) (l : Fin 128) : (![View.ld x3 (Rect.unit (s := S512x2048) (k0_off21 k 0#32) S8x128.size (k0_off21_inb k 0)), View.ld x3 (Rect.unit (s := S512x2048) (k0_off21 k 8#32) S8x128.size (k0_off21_inb k 1)),
      View.ld x3 (Rect.unit (s := S512x2048) (k0_off21 k 16#32) S8x128.size (k0_off21_inb k 2)), View.ld x3 (Rect.unit (s := S512x2048) (k0_off21 k 24#32) S8x128.size (k0_off21_inb k 3))] : Fin 4 → IVec S8x128 32) i (ix2 s l)
      = x3 (ix2 (⟨32 * (blkOf k).val + 8 * i.val + s.val, by omega⟩ : Fin 512) (⟨128 * 9 + l.val, by omega⟩ : Fin 2048)) := by
    have h0 := congrFun (k0_off21_eq k i) 0
    have h1 := congrFun (k0_off21_eq k i) 1
    fin_cases i <;> exact ld_at x3 _ _ _ _ h0 h1 s l _ _ rfl rfl
  exact chunk_wt x2 x3 x4 x5 hx (blkOf k) (⟨9, by decide⟩ : Fin 16) _ _ _ _ (patAt (patOf (F := Ideal) x2) k)
    (fun s l => ld_at (n0 := 8) (n1 := 128) (tabOf (F := Ideal) x5) ![72, 0] _ 72 0 rfl rfl s l (⟨72 + s.val, by omega⟩ : Fin 128) l rfl (Nat.zero_add _).symm)
    (fun a l => ld_at (n0 := 16) (n1 := 128) x4 ![0, 1152] _ 0 1152 rfl rfl a l (⟨a.val, by omega⟩ : Fin 32) (⟨1152 + l.val, by omega⟩ : Fin 2048) (Nat.zero_add _).symm rfl)
    (fun a l => ld_at (n0 := 16) (n1 := 128) x4 ![16, 1152] _ 16 1152 rfl rfl a l (⟨16 + a.val, by omega⟩ : Fin 32) (⟨1152 + l.val, by omega⟩ : Fin 2048) rfl rfl)
    hq (fun w s l => patAt_apply (patOf (F := Ideal) x2) k w s l) R l

/-- Chunk 10 of a contraction block holds the weights of its 128 columns. -/
theorem chunkAt10_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R : Fin 256) (l : Fin 128) :
    chunkAt10 x3 x4 (patOf (F := Ideal) x2) (tabOf (F := Ideal) x5) k (ix2 R l) = wt x2 x3 x4 x5 (kIdx (blkOf k) R) (⟨1280 + l.val, by omega⟩ : Fin 2048) := by
  have hk : k.val < 16 := (blkOf k).isLt
  have hq (i : Fin 4) (s : Fin 8) (l : Fin 128) : (![View.ld x3 (Rect.unit (s := S512x2048) (k0_off22 k 0#32) S8x128.size (k0_off22_inb k 0)), View.ld x3 (Rect.unit (s := S512x2048) (k0_off22 k 8#32) S8x128.size (k0_off22_inb k 1)),
      View.ld x3 (Rect.unit (s := S512x2048) (k0_off22 k 16#32) S8x128.size (k0_off22_inb k 2)), View.ld x3 (Rect.unit (s := S512x2048) (k0_off22 k 24#32) S8x128.size (k0_off22_inb k 3))] : Fin 4 → IVec S8x128 32) i (ix2 s l)
      = x3 (ix2 (⟨32 * (blkOf k).val + 8 * i.val + s.val, by omega⟩ : Fin 512) (⟨128 * 10 + l.val, by omega⟩ : Fin 2048)) := by
    have h0 := congrFun (k0_off22_eq k i) 0
    have h1 := congrFun (k0_off22_eq k i) 1
    fin_cases i <;> exact ld_at x3 _ _ _ _ h0 h1 s l _ _ rfl rfl
  exact chunk_wt x2 x3 x4 x5 hx (blkOf k) (⟨10, by decide⟩ : Fin 16) _ _ _ _ (patAt (patOf (F := Ideal) x2) k)
    (fun s l => ld_at (n0 := 8) (n1 := 128) (tabOf (F := Ideal) x5) ![80, 0] _ 80 0 rfl rfl s l (⟨80 + s.val, by omega⟩ : Fin 128) l rfl (Nat.zero_add _).symm)
    (fun a l => ld_at (n0 := 16) (n1 := 128) x4 ![0, 1280] _ 0 1280 rfl rfl a l (⟨a.val, by omega⟩ : Fin 32) (⟨1280 + l.val, by omega⟩ : Fin 2048) (Nat.zero_add _).symm rfl)
    (fun a l => ld_at (n0 := 16) (n1 := 128) x4 ![16, 1280] _ 16 1280 rfl rfl a l (⟨16 + a.val, by omega⟩ : Fin 32) (⟨1280 + l.val, by omega⟩ : Fin 2048) rfl rfl)
    hq (fun w s l => patAt_apply (patOf (F := Ideal) x2) k w s l) R l

/-- Chunk 11 of a contraction block holds the weights of its 128 columns. -/
theorem chunkAt11_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R : Fin 256) (l : Fin 128) :
    chunkAt11 x3 x4 (patOf (F := Ideal) x2) (tabOf (F := Ideal) x5) k (ix2 R l) = wt x2 x3 x4 x5 (kIdx (blkOf k) R) (⟨1408 + l.val, by omega⟩ : Fin 2048) := by
  have hk : k.val < 16 := (blkOf k).isLt
  have hq (i : Fin 4) (s : Fin 8) (l : Fin 128) : (![View.ld x3 (Rect.unit (s := S512x2048) (k0_off23 k 0#32) S8x128.size (k0_off23_inb k 0)), View.ld x3 (Rect.unit (s := S512x2048) (k0_off23 k 8#32) S8x128.size (k0_off23_inb k 1)),
      View.ld x3 (Rect.unit (s := S512x2048) (k0_off23 k 16#32) S8x128.size (k0_off23_inb k 2)), View.ld x3 (Rect.unit (s := S512x2048) (k0_off23 k 24#32) S8x128.size (k0_off23_inb k 3))] : Fin 4 → IVec S8x128 32) i (ix2 s l)
      = x3 (ix2 (⟨32 * (blkOf k).val + 8 * i.val + s.val, by omega⟩ : Fin 512) (⟨128 * 11 + l.val, by omega⟩ : Fin 2048)) := by
    have h0 := congrFun (k0_off23_eq k i) 0
    have h1 := congrFun (k0_off23_eq k i) 1
    fin_cases i <;> exact ld_at x3 _ _ _ _ h0 h1 s l _ _ rfl rfl
  exact chunk_wt x2 x3 x4 x5 hx (blkOf k) (⟨11, by decide⟩ : Fin 16) _ _ _ _ (patAt (patOf (F := Ideal) x2) k)
    (fun s l => ld_at (n0 := 8) (n1 := 128) (tabOf (F := Ideal) x5) ![88, 0] _ 88 0 rfl rfl s l (⟨88 + s.val, by omega⟩ : Fin 128) l rfl (Nat.zero_add _).symm)
    (fun a l => ld_at (n0 := 16) (n1 := 128) x4 ![0, 1408] _ 0 1408 rfl rfl a l (⟨a.val, by omega⟩ : Fin 32) (⟨1408 + l.val, by omega⟩ : Fin 2048) (Nat.zero_add _).symm rfl)
    (fun a l => ld_at (n0 := 16) (n1 := 128) x4 ![16, 1408] _ 16 1408 rfl rfl a l (⟨16 + a.val, by omega⟩ : Fin 32) (⟨1408 + l.val, by omega⟩ : Fin 2048) rfl rfl)
    hq (fun w s l => patAt_apply (patOf (F := Ideal) x2) k w s l) R l

/-- Chunk 12 of a contraction block holds the weights of its 128 columns. -/
theorem chunkAt12_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R : Fin 256) (l : Fin 128) :
    chunkAt12 x3 x4 (patOf (F := Ideal) x2) (tabOf (F := Ideal) x5) k (ix2 R l) = wt x2 x3 x4 x5 (kIdx (blkOf k) R) (⟨1536 + l.val, by omega⟩ : Fin 2048) := by
  have hk : k.val < 16 := (blkOf k).isLt
  have hq (i : Fin 4) (s : Fin 8) (l : Fin 128) : (![View.ld x3 (Rect.unit (s := S512x2048) (k0_off24 k 0#32) S8x128.size (k0_off24_inb k 0)), View.ld x3 (Rect.unit (s := S512x2048) (k0_off24 k 8#32) S8x128.size (k0_off24_inb k 1)),
      View.ld x3 (Rect.unit (s := S512x2048) (k0_off24 k 16#32) S8x128.size (k0_off24_inb k 2)), View.ld x3 (Rect.unit (s := S512x2048) (k0_off24 k 24#32) S8x128.size (k0_off24_inb k 3))] : Fin 4 → IVec S8x128 32) i (ix2 s l)
      = x3 (ix2 (⟨32 * (blkOf k).val + 8 * i.val + s.val, by omega⟩ : Fin 512) (⟨128 * 12 + l.val, by omega⟩ : Fin 2048)) := by
    have h0 := congrFun (k0_off24_eq k i) 0
    have h1 := congrFun (k0_off24_eq k i) 1
    fin_cases i <;> exact ld_at x3 _ _ _ _ h0 h1 s l _ _ rfl rfl
  exact chunk_wt x2 x3 x4 x5 hx (blkOf k) (⟨12, by decide⟩ : Fin 16) _ _ _ _ (patAt (patOf (F := Ideal) x2) k)
    (fun s l => ld_at (n0 := 8) (n1 := 128) (tabOf (F := Ideal) x5) ![96, 0] _ 96 0 rfl rfl s l (⟨96 + s.val, by omega⟩ : Fin 128) l rfl (Nat.zero_add _).symm)
    (fun a l => ld_at (n0 := 16) (n1 := 128) x4 ![0, 1536] _ 0 1536 rfl rfl a l (⟨a.val, by omega⟩ : Fin 32) (⟨1536 + l.val, by omega⟩ : Fin 2048) (Nat.zero_add _).symm rfl)
    (fun a l => ld_at (n0 := 16) (n1 := 128) x4 ![16, 1536] _ 16 1536 rfl rfl a l (⟨16 + a.val, by omega⟩ : Fin 32) (⟨1536 + l.val, by omega⟩ : Fin 2048) rfl rfl)
    hq (fun w s l => patAt_apply (patOf (F := Ideal) x2) k w s l) R l

/-- Chunk 13 of a contraction block holds the weights of its 128 columns. -/
theorem chunkAt13_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R : Fin 256) (l : Fin 128) :
    chunkAt13 x3 x4 (patOf (F := Ideal) x2) (tabOf (F := Ideal) x5) k (ix2 R l) = wt x2 x3 x4 x5 (kIdx (blkOf k) R) (⟨1664 + l.val, by omega⟩ : Fin 2048) := by
  have hk : k.val < 16 := (blkOf k).isLt
  have hq (i : Fin 4) (s : Fin 8) (l : Fin 128) : (![View.ld x3 (Rect.unit (s := S512x2048) (k0_off25 k 0#32) S8x128.size (k0_off25_inb k 0)), View.ld x3 (Rect.unit (s := S512x2048) (k0_off25 k 8#32) S8x128.size (k0_off25_inb k 1)),
      View.ld x3 (Rect.unit (s := S512x2048) (k0_off25 k 16#32) S8x128.size (k0_off25_inb k 2)), View.ld x3 (Rect.unit (s := S512x2048) (k0_off25 k 24#32) S8x128.size (k0_off25_inb k 3))] : Fin 4 → IVec S8x128 32) i (ix2 s l)
      = x3 (ix2 (⟨32 * (blkOf k).val + 8 * i.val + s.val, by omega⟩ : Fin 512) (⟨128 * 13 + l.val, by omega⟩ : Fin 2048)) := by
    have h0 := congrFun (k0_off25_eq k i) 0
    have h1 := congrFun (k0_off25_eq k i) 1
    fin_cases i <;> exact ld_at x3 _ _ _ _ h0 h1 s l _ _ rfl rfl
  exact chunk_wt x2 x3 x4 x5 hx (blkOf k) (⟨13, by decide⟩ : Fin 16) _ _ _ _ (patAt (patOf (F := Ideal) x2) k)
    (fun s l => ld_at (n0 := 8) (n1 := 128) (tabOf (F := Ideal) x5) ![104, 0] _ 104 0 rfl rfl s l (⟨104 + s.val, by omega⟩ : Fin 128) l rfl (Nat.zero_add _).symm)
    (fun a l => ld_at (n0 := 16) (n1 := 128) x4 ![0, 1664] _ 0 1664 rfl rfl a l (⟨a.val, by omega⟩ : Fin 32) (⟨1664 + l.val, by omega⟩ : Fin 2048) (Nat.zero_add _).symm rfl)
    (fun a l => ld_at (n0 := 16) (n1 := 128) x4 ![16, 1664] _ 16 1664 rfl rfl a l (⟨16 + a.val, by omega⟩ : Fin 32) (⟨1664 + l.val, by omega⟩ : Fin 2048) rfl rfl)
    hq (fun w s l => patAt_apply (patOf (F := Ideal) x2) k w s l) R l

/-- Chunk 14 of a contraction block holds the weights of its 128 columns. -/
theorem chunkAt14_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R : Fin 256) (l : Fin 128) :
    chunkAt14 x3 x4 (patOf (F := Ideal) x2) (tabOf (F := Ideal) x5) k (ix2 R l) = wt x2 x3 x4 x5 (kIdx (blkOf k) R) (⟨1792 + l.val, by omega⟩ : Fin 2048) := by
  have hk : k.val < 16 := (blkOf k).isLt
  have hq (i : Fin 4) (s : Fin 8) (l : Fin 128) : (![View.ld x3 (Rect.unit (s := S512x2048) (k0_off26 k 0#32) S8x128.size (k0_off26_inb k 0)), View.ld x3 (Rect.unit (s := S512x2048) (k0_off26 k 8#32) S8x128.size (k0_off26_inb k 1)),
      View.ld x3 (Rect.unit (s := S512x2048) (k0_off26 k 16#32) S8x128.size (k0_off26_inb k 2)), View.ld x3 (Rect.unit (s := S512x2048) (k0_off26 k 24#32) S8x128.size (k0_off26_inb k 3))] : Fin 4 → IVec S8x128 32) i (ix2 s l)
      = x3 (ix2 (⟨32 * (blkOf k).val + 8 * i.val + s.val, by omega⟩ : Fin 512) (⟨128 * 14 + l.val, by omega⟩ : Fin 2048)) := by
    have h0 := congrFun (k0_off26_eq k i) 0
    have h1 := congrFun (k0_off26_eq k i) 1
    fin_cases i <;> exact ld_at x3 _ _ _ _ h0 h1 s l _ _ rfl rfl
  exact chunk_wt x2 x3 x4 x5 hx (blkOf k) (⟨14, by decide⟩ : Fin 16) _ _ _ _ (patAt (patOf (F := Ideal) x2) k)
    (fun s l => ld_at (n0 := 8) (n1 := 128) (tabOf (F := Ideal) x5) ![112, 0] _ 112 0 rfl rfl s l (⟨112 + s.val, by omega⟩ : Fin 128) l rfl (Nat.zero_add _).symm)
    (fun a l => ld_at (n0 := 16) (n1 := 128) x4 ![0, 1792] _ 0 1792 rfl rfl a l (⟨a.val, by omega⟩ : Fin 32) (⟨1792 + l.val, by omega⟩ : Fin 2048) (Nat.zero_add _).symm rfl)
    (fun a l => ld_at (n0 := 16) (n1 := 128) x4 ![16, 1792] _ 16 1792 rfl rfl a l (⟨16 + a.val, by omega⟩ : Fin 32) (⟨1792 + l.val, by omega⟩ : Fin 2048) rfl rfl)
    hq (fun w s l => patAt_apply (patOf (F := Ideal) x2) k w s l) R l

/-- Chunk 15 of a contraction block holds the weights of its 128 columns. -/
theorem chunkAt15_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R : Fin 256) (l : Fin 128) :
    chunkAt15 x3 x4 (patOf (F := Ideal) x2) (tabOf (F := Ideal) x5) k (ix2 R l) = wt x2 x3 x4 x5 (kIdx (blkOf k) R) (⟨1920 + l.val, by omega⟩ : Fin 2048) := by
  have hk : k.val < 16 := (blkOf k).isLt
  have hq (i : Fin 4) (s : Fin 8) (l : Fin 128) : (![View.ld x3 (Rect.unit (s := S512x2048) (k0_off27 k 0#32) S8x128.size (k0_off27_inb k 0)), View.ld x3 (Rect.unit (s := S512x2048) (k0_off27 k 8#32) S8x128.size (k0_off27_inb k 1)),
      View.ld x3 (Rect.unit (s := S512x2048) (k0_off27 k 16#32) S8x128.size (k0_off27_inb k 2)), View.ld x3 (Rect.unit (s := S512x2048) (k0_off27 k 24#32) S8x128.size (k0_off27_inb k 3))] : Fin 4 → IVec S8x128 32) i (ix2 s l)
      = x3 (ix2 (⟨32 * (blkOf k).val + 8 * i.val + s.val, by omega⟩ : Fin 512) (⟨128 * 15 + l.val, by omega⟩ : Fin 2048)) := by
    have h0 := congrFun (k0_off27_eq k i) 0
    have h1 := congrFun (k0_off27_eq k i) 1
    fin_cases i <;> exact ld_at x3 _ _ _ _ h0 h1 s l _ _ rfl rfl
  exact chunk_wt x2 x3 x4 x5 hx (blkOf k) (⟨15, by decide⟩ : Fin 16) _ _ _ _ (patAt (patOf (F := Ideal) x2) k)
    (fun s l => ld_at (n0 := 8) (n1 := 128) (tabOf (F := Ideal) x5) ![120, 0] _ 120 0 rfl rfl s l (⟨120 + s.val, by omega⟩ : Fin 128) l rfl (Nat.zero_add _).symm)
    (fun a l => ld_at (n0 := 16) (n1 := 128) x4 ![0, 1920] _ 0 1920 rfl rfl a l (⟨a.val, by omega⟩ : Fin 32) (⟨1920 + l.val, by omega⟩ : Fin 2048) (Nat.zero_add _).symm rfl)
    (fun a l => ld_at (n0 := 16) (n1 := 128) x4 ![16, 1920] _ 16 1920 rfl rfl a l (⟨16 + a.val, by omega⟩ : Fin 32) (⟨1920 + l.val, by omega⟩ : Fin 2048) rfl rfl)
    hq (fun w s l => patAt_apply (patOf (F := Ideal) x2) k w s l) R l

/-! ## The tiles -/

/-- Two chunks side by side. -/
theorem tileW_apply (w0 w1 : FVec Ideal S256x128 .bf16) (f : Fin 256 → Fin 256 → EReal)
    (h0 : ∀ (R : Fin 256) (l : Fin 128), w0 (ix2 R l) = f R ⟨l.val, by omega⟩) (h1 : ∀ (R : Fin 256) (l : Fin 128), w1 (ix2 R l) = f R ⟨128 + l.val, by omega⟩)
    (R m : Fin 256) : tileW w0 w1 (ix2 R m) = f R m := by
  unfold tileW
  have e := concatenate_ofFn_apply (t := S256x256) (s₁ := S256x128) 1 (fun n : Fin 2 => if n.val = 0 then w0 else w1)
    concatenates_S256x128_S256x128_S256x256_d1 rfl 128 rfl (ix2 R m) (⟨m.val / 128, by omega⟩ : Fin 2) rfl (ix2 R (⟨m.val % 128, by omega⟩ : Fin 128)) rfl
    (fun b hb => by fin_cases b; · rfl
                    · exact absurd rfl hb)
  refine Eq.trans e ?_
  by_cases hm : m.val / 128 = 0
  · simp only [hm, if_true]
    rw [h0]
    exact congrArg (f R) (Fin.ext (by show m.val % 128 = m.val; omega))
  · simp only [hm, if_false]
    rw [h1]
    exact congrArg (f R) (Fin.ext (by show 128 + m.val % 128 = m.val; omega))

/-- Tile 0 of a contraction block holds the weights of its 256 columns. -/
theorem tileAt0_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R m : Fin 256) :
    tileAt0 x3 x4 (patOf (F := Ideal) x2) (tabOf (F := Ideal) x5) k (ix2 R m) = wt x2 x3 x4 x5 (kIdx (blkOf k) R) (⟨0 + m.val, by omega⟩ : Fin 2048) :=
  tileW_apply _ _ (fun R m => wt x2 x3 x4 x5 (kIdx (blkOf k) R) (⟨0 + m.val, by omega⟩ : Fin 2048))
    (fun R l => chunkAt0_apply x2 x3 x4 x5 hx k R l)
    (fun R l => (chunkAt1_apply x2 x3 x4 x5 hx k R l).trans (congrArg (wt x2 x3 x4 x5 _) (Fin.ext (by show 128 + l.val = 0 + (128 + l.val); omega)))) R m

/-- Tile 1 of a contraction block holds the weights of its 256 columns. -/
theorem tileAt1_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R m : Fin 256) :
    tileAt1 x3 x4 (patOf (F := Ideal) x2) (tabOf (F := Ideal) x5) k (ix2 R m) = wt x2 x3 x4 x5 (kIdx (blkOf k) R) (⟨256 + m.val, by omega⟩ : Fin 2048) :=
  tileW_apply _ _ (fun R m => wt x2 x3 x4 x5 (kIdx (blkOf k) R) (⟨256 + m.val, by omega⟩ : Fin 2048))
    (fun R l => chunkAt2_apply x2 x3 x4 x5 hx k R l)
    (fun R l => (chunkAt3_apply x2 x3 x4 x5 hx k R l).trans (congrArg (wt x2 x3 x4 x5 _) (Fin.ext (by show 384 + l.val = 256 + (128 + l.val); omega)))) R m

/-- Tile 2 of a contraction block holds the weights of its 256 columns. -/
theorem tileAt2_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R m : Fin 256) :
    tileAt2 x3 x4 (patOf (F := Ideal) x2) (tabOf (F := Ideal) x5) k (ix2 R m) = wt x2 x3 x4 x5 (kIdx (blkOf k) R) (⟨512 + m.val, by omega⟩ : Fin 2048) :=
  tileW_apply _ _ (fun R m => wt x2 x3 x4 x5 (kIdx (blkOf k) R) (⟨512 + m.val, by omega⟩ : Fin 2048))
    (fun R l => chunkAt4_apply x2 x3 x4 x5 hx k R l)
    (fun R l => (chunkAt5_apply x2 x3 x4 x5 hx k R l).trans (congrArg (wt x2 x3 x4 x5 _) (Fin.ext (by show 640 + l.val = 512 + (128 + l.val); omega)))) R m

/-- Tile 3 of a contraction block holds the weights of its 256 columns. -/
theorem tileAt3_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R m : Fin 256) :
    tileAt3 x3 x4 (patOf (F := Ideal) x2) (tabOf (F := Ideal) x5) k (ix2 R m) = wt x2 x3 x4 x5 (kIdx (blkOf k) R) (⟨768 + m.val, by omega⟩ : Fin 2048) :=
  tileW_apply _ _ (fun R m => wt x2 x3 x4 x5 (kIdx (blkOf k) R) (⟨768 + m.val, by omega⟩ : Fin 2048))
    (fun R l => chunkAt6_apply x2 x3 x4 x5 hx k R l)
    (fun R l => (chunkAt7_apply x2 x3 x4 x5 hx k R l).trans (congrArg (wt x2 x3 x4 x5 _) (Fin.ext (by show 896 + l.val = 768 + (128 + l.val); omega)))) R m

/-- Tile 4 of a contraction block holds the weights of its 256 columns. -/
theorem tileAt4_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R m : Fin 256) :
    tileAt4 x3 x4 (patOf (F := Ideal) x2) (tabOf (F := Ideal) x5) k (ix2 R m) = wt x2 x3 x4 x5 (kIdx (blkOf k) R) (⟨1024 + m.val, by omega⟩ : Fin 2048) :=
  tileW_apply _ _ (fun R m => wt x2 x3 x4 x5 (kIdx (blkOf k) R) (⟨1024 + m.val, by omega⟩ : Fin 2048))
    (fun R l => chunkAt8_apply x2 x3 x4 x5 hx k R l)
    (fun R l => (chunkAt9_apply x2 x3 x4 x5 hx k R l).trans (congrArg (wt x2 x3 x4 x5 _) (Fin.ext (by show 1152 + l.val = 1024 + (128 + l.val); omega)))) R m

/-- Tile 5 of a contraction block holds the weights of its 256 columns. -/
theorem tileAt5_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R m : Fin 256) :
    tileAt5 x3 x4 (patOf (F := Ideal) x2) (tabOf (F := Ideal) x5) k (ix2 R m) = wt x2 x3 x4 x5 (kIdx (blkOf k) R) (⟨1280 + m.val, by omega⟩ : Fin 2048) :=
  tileW_apply _ _ (fun R m => wt x2 x3 x4 x5 (kIdx (blkOf k) R) (⟨1280 + m.val, by omega⟩ : Fin 2048))
    (fun R l => chunkAt10_apply x2 x3 x4 x5 hx k R l)
    (fun R l => (chunkAt11_apply x2 x3 x4 x5 hx k R l).trans (congrArg (wt x2 x3 x4 x5 _) (Fin.ext (by show 1408 + l.val = 1280 + (128 + l.val); omega)))) R m

/-- Tile 6 of a contraction block holds the weights of its 256 columns. -/
theorem tileAt6_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R m : Fin 256) :
    tileAt6 x3 x4 (patOf (F := Ideal) x2) (tabOf (F := Ideal) x5) k (ix2 R m) = wt x2 x3 x4 x5 (kIdx (blkOf k) R) (⟨1536 + m.val, by omega⟩ : Fin 2048) :=
  tileW_apply _ _ (fun R m => wt x2 x3 x4 x5 (kIdx (blkOf k) R) (⟨1536 + m.val, by omega⟩ : Fin 2048))
    (fun R l => chunkAt12_apply x2 x3 x4 x5 hx k R l)
    (fun R l => (chunkAt13_apply x2 x3 x4 x5 hx k R l).trans (congrArg (wt x2 x3 x4 x5 _) (Fin.ext (by show 1664 + l.val = 1536 + (128 + l.val); omega)))) R m

/-- Tile 7 of a contraction block holds the weights of its 256 columns. -/
theorem tileAt7_apply (x2 : Vec Ideal S32x128 .i32) (x3 : Vec Ideal S512x2048 .i32) (x4 : Vec Ideal S32x2048 .bf16) (x5 : Vec Ideal S32x256 .i32)
    (hx : ∀ a b, (x2 (ix2 a b)).toNat < 32) (k : Fin k0_t4_loop.trips) (R m : Fin 256) :
    tileAt7 x3 x4 (patOf (F := Ideal) x2) (tabOf (F := Ideal) x5) k (ix2 R m) = wt x2 x3 x4 x5 (kIdx (blkOf k) R) (⟨1792 + m.val, by omega⟩ : Fin 2048) :=
  tileW_apply _ _ (fun R m => wt x2 x3 x4 x5 (kIdx (blkOf k) R) (⟨1792 + m.val, by omega⟩ : Fin 2048))
    (fun R l => chunkAt14_apply x2 x3 x4 x5 hx k R l)
    (fun R l => (chunkAt15_apply x2 x3 x4 x5 hx k R l).trans (congrArg (wt x2 x3 x4 x5 _) (Fin.ext (by show 1920 + l.val = 1792 + (128 + l.val); omega)))) R m

end Cert.Proof.KI
-- ==== Proof.AccValue.lean ====
/-
  WHAT THE RESULT BLOCK HOLDS: the sixteen trips' products added up are the sum over all contracted positions.
-/
module

public import proofs.«01_k».proof.Proof.TileValue
public import proofs.«01_k».proof.Proof.Run
public import Idealize.ShloMosaic.Lib.MatmulPlain

@[expose] public section

set_option maxRecDepth 16384

noncomputable section

namespace Cert.Proof.KI

open Cert.KernelIdeal Cert.KernelIdeal.Gen
open Idealize.ShloMosaic Idealize.ShloMosaic.ValueIdx

/-! ## One product -/

/-- A pass of the matrix unit over the reals. -/
theorem pass_apply (lhs : FVec Ideal S128x256 .bf16) (w : FVec Ideal S256x256 .bf16) (i : Fin 128) (m : Fin 256) :
    FloatOps.mxuPass (F := Ideal) (DotDims.plain 128 256 256) lhs w (ix2 i m) = ∑ R : Fin 256, lhs (ix2 i R) * w (ix2 R m) := by
  have e := Ideal.matmul_plain_apply (M := 128) (K := 256) (N := 256) none lhs w (fun _ => (0 : EReal)) i m
  rw [zero_add] at e
  rw [← e]
  exact (zero_add _).symm

/-- The rows of the result buffer at `A`: nothing yet, or the values `f`. -/
def Holds (s : Mxu Ideal) (A : ℕ) (h : Mxu.Fits A 128) : Option (Fin 128 → Fin 256 → EReal) → Prop
  | none => ∀ r : Fin 128, s.live 0 (Mxu.row h r) = false
  | some f => (∀ r : Fin 128, s.live 0 (Mxu.row h r) = true) ∧ ∀ i m, s.read 0 A h (ix2 i m) = f i m

/-- A product into rows `A` is added to what they hold. -/
theorem holds_step (s : Mxu Ideal) (hs : Quiet s) (r : Fin 2) (A : ℕ) (h : Mxu.Fits A 128) (w : FVec Ideal S256x256 .bf16) (lhs : FVec Ideal S128x256 .bf16)
    (o : Option (Fin 128 → Fin 256 → EReal)) (ho : Holds s A h o) :
    Holds ((s.pushed 0 r false w).accLhs 0 r A lhs h) A h (some fun i m => (o.elim 0 fun f => f i m) + ∑ R : Fin 256, lhs (ix2 i R) * w (ix2 R m)) := by
  refine ⟨fun r' => Mxu.live_accLhs_row .., fun i m => ?_⟩
  have hp : ((s.pushed 0 r false w).staged 0 r).pass lhs = FloatOps.mxuPass (F := Ideal) (DotDims.plain 128 256 256) lhs w := by
    rw [Mxu.staged_eq, Mxu.reg_pushed_of_none _ _ _ _ _ (hs.1 0 r)]
    rfl
  cases o with
  | none =>
    rw [Mxu.read_accLhs_of_not_live _ _ _ _ _ _ (fun r' => by rw [Mxu.live_pushed]; exact ho r'), hp, pass_apply]
    exact (zero_add _).symm
  | some f =>
    rw [Mxu.read_accLhs_of_live _ _ _ _ _ _ (fun r' => by rw [Mxu.live_pushed]; exact ho.1 r'), hp, addf_apply, pass_apply, Mxu.read_pushed, ho.2]
    rfl

/-- A product into other rows leaves rows `A` as they were. -/
theorem holds_other (s : Mxu Ideal) (r : Fin 2) (A B : ℕ) (h : Mxu.Fits A 128) (hB : Mxu.Fits B 128) (w : FVec Ideal S256x256 .bf16) (lhs : FVec Ideal S128x256 .bf16)
    (hne : 4 * A + 128 ≤ 4 * B ∨ 4 * B + 128 ≤ 4 * A)
    (o : Option (Fin 128 → Fin 256 → EReal)) (ho : Holds s A h o) :
    Holds ((s.pushed 0 r false w).accLhs 0 r B lhs hB) A h o := by
  have hl (r' : Fin 128) : ((s.pushed 0 r false w).accLhs 0 r B lhs hB).live 0 (Mxu.row h r') = s.live 0 (Mxu.row h r') := by
    rw [Mxu.live_accLhs, Mxu.live_pushed, if_neg]
    rintro ⟨-, h1, h2⟩
    have hr : r'.val < 128 := r'.isLt
    have e : (Mxu.row h r').val = 4 * A + r'.val := rfl
    omega
  cases o with
  | none => intro r'; rw [hl]; exact ho r'
  | some f =>
    refine ⟨fun r' => by rw [hl]; exact ho.1 r', fun i m => ?_⟩
    rw [Mxu.read_accLhs_ne _ _ _ _ _ _ _ _ _ (Or.inr hne), Mxu.read_pushed]
    exact ho.2 i m

/-! ## One trip, per group of columns -/

/-- One trip adds its product to what accumulator 0 holds. -/
theorem holds_kStep0 (x3 : Vec Ideal S512x2048 .i32) (x4 : Vec Ideal S32x2048 .bf16) (x7 : Vec Ideal S4096x128 .bf16) (x8 : Vec Ideal S1024x128 .i32) (x9 : Vec Ideal S128x128 .i32) (k : Fin k0_t4_loop.trips) (s : Mxu Ideal) (hs : Quiet s)
    (o : Option (Fin 128 → Fin 256 → EReal)) (ho : Holds s 0 fits_0_128 o) :
    Holds (kStep x3 x4 x7 x8 x9 k s) 0 fits_0_128 (some fun i m => (o.elim 0 fun f => f i m) + ∑ R : Fin 256, lhsAt x7 k (ix2 i R) * tileAt0 x3 x4 x8 x9 k (ix2 R m)) := by
  unfold kStep
  refine holds_other _ 1 0 224 _ _ _ _ (by decide) _ ?_
  refine holds_other _ 0 0 192 _ _ _ _ (by decide) _ ?_
  refine holds_other _ 1 0 160 _ _ _ _ (by decide) _ ?_
  refine holds_other _ 0 0 128 _ _ _ _ (by decide) _ ?_
  refine holds_other _ 1 0 96 _ _ _ _ (by decide) _ ?_
  refine holds_other _ 0 0 64 _ _ _ _ (by decide) _ ?_
  refine holds_other _ 1 0 32 _ _ _ _ (by decide) _ ?_
  refine holds_step _ ?_ 0 0 _ _ _ o ?_
  · exact hs
  · exact ho

/-- One trip adds its product to what accumulator 1 holds. -/
theorem holds_kStep1 (x3 : Vec Ideal S512x2048 .i32) (x4 : Vec Ideal S32x2048 .bf16) (x7 : Vec Ideal S4096x128 .bf16) (x8 : Vec Ideal S1024x128 .i32) (x9 : Vec Ideal S128x128 .i32) (k : Fin k0_t4_loop.trips) (s : Mxu Ideal) (hs : Quiet s)
    (o : Option (Fin 128 → Fin 256 → EReal)) (ho : Holds s 32 fits_32_128 o) :
    Holds (kStep x3 x4 x7 x8 x9 k s) 32 fits_32_128 (some fun i m => (o.elim 0 fun f => f i m) + ∑ R : Fin 256, lhsAt x7 k (ix2 i R) * tileAt1 x3 x4 x8 x9 k (ix2 R m)) := by
  unfold kStep
  refine holds_other _ 1 32 224 _ _ _ _ (by decide) _ ?_
  refine holds_other _ 0 32 192 _ _ _ _ (by decide) _ ?_
  refine holds_other _ 1 32 160 _ _ _ _ (by decide) _ ?_
  refine holds_other _ 0 32 128 _ _ _ _ (by decide) _ ?_
  refine holds_other _ 1 32 96 _ _ _ _ (by decide) _ ?_
  refine holds_other _ 0 32 64 _ _ _ _ (by decide) _ ?_
  refine holds_step _ ?_ 1 32 _ _ _ o ?_
  · repeat' (first | exact hs | apply quiet_pass)
  · refine holds_other _ 0 32 0 _ _ _ _ (by decide) _ ?_
    exact ho

/-- One trip adds its product to what accumulator 2 holds. -/
theorem holds_kStep2 (x3 : Vec Ideal S512x2048 .i32) (x4 : Vec Ideal S32x2048 .bf16) (x7 : Vec Ideal S4096x128 .bf16) (x8 : Vec Ideal S1024x128 .i32) (x9 : Vec Ideal S128x128 .i32) (k : Fin k0_t4_loop.trips) (s : Mxu Ideal) (hs : Quiet s)
    (o : Option (Fin 128 → Fin 256 → EReal)) (ho : Holds s 64 fits_64_128 o) :
    Holds (kStep x3 x4 x7 x8 x9 k s) 64 fits_64_128 (some fun i m => (o.elim 0 fun f => f i m) + ∑ R : Fin 256, lhsAt x7 k (ix2 i R) * tileAt2 x3 x4 x8 x9 k (ix2 R m)) := by
  unfold kStep
  refine holds_other _ 1 64 224 _ _ _ _ (by decide) _ ?_
  refine holds_other _ 0 64 192 _ _ _ _ (by decide) _ ?_
  refine holds_other _ 1 64 160 _ _ _ _ (by decide) _ ?_
  refine holds_other _ 0 64 128 _ _ _ _ (by decide) _ ?_
  refine holds_other _ 1 64 96 _ _ _ _ (by decide) _ ?_
  refine holds_step _ ?_ 0 64 _ _ _ o ?_
  · repeat' (first | exact hs | apply quiet_pass)
  · refine holds_other _ 1 64 32 _ _ _ _ (by decide) _ ?_
    refine holds_other _ 0 64 0 _ _ _ _ (by decide) _ ?_
    exact ho

/-- One trip adds its product to what accumulator 3 holds. -/
theorem holds_kStep3 (x3 : Vec Ideal S512x2048 .i32) (x4 : Vec Ideal S32x2048 .bf16) (x7 : Vec Ideal S4096x128 .bf16) (x8 : Vec Ideal S1024x128 .i32) (x9 : Vec Ideal S128x128 .i32) (k : Fin k0_t4_loop.trips) (s : Mxu Ideal) (hs : Quiet s)
    (o : Option (Fin 128 → Fin 256 → EReal)) (ho : Holds s 96 fits_96_128 o) :
    Holds (kStep x3 x4 x7 x8 x9 k s) 96 fits_96_128 (some fun i m => (o.elim 0 fun f => f i m) + ∑ R : Fin 256, lhsAt x7 k (ix2 i R) * tileAt3 x3 x4 x8 x9 k (ix2 R m)) := by
  unfold kStep
  refine holds_other _ 1 96 224 _ _ _ _ (by decide) _ ?_
  refine holds_other _ 0 96 192 _ _ _ _ (by decide) _ ?_
  refine holds_other _ 1 96 160 _ _ _ _ (by decide) _ ?_
  refine holds_other _ 0 96 128 _ _ _ _ (by decide) _ ?_
  refine holds_step _ ?_ 1 96 _ _ _ o ?_
  · repeat' (first | exact hs | apply quiet_pass)
  · refine holds_other _ 0 96 64 _ _ _ _ (by decide) _ ?_
    refine holds_other _ 1 96 32 _ _ _ _ (by decide) _ ?_
    refine holds_other _ 0 96 0 _ _ _ _ (by decide) _ ?_
    exact ho

/-- One trip adds its product to what accumulator 4 holds. -/
theorem holds_kStep4 (x3 : Vec Ideal S512x2048 .i32) (x4 : Vec Ideal S32x2048 .bf16) (x7 : Vec Ideal S4096x128 .bf16) (x8 : Vec Ideal S1024x128 .i32) (x9 : Vec Ideal S128x128 .i32) (k : Fin k0_t4_loop.trips) (s : Mxu Ideal) (hs : Quiet s)
    (o : Option (Fin 128 → Fin 256 → EReal)) (ho : Holds s 128 fits_128_128 o) :
    Holds (kStep x3 x4 x7 x8 x9 k s) 128 fits_128_128 (some fun i m => (o.elim 0 fun f => f i m) + ∑ R : Fin 256, lhsAt x7 k (ix2 i R) * tileAt4 x3 x4 x8 x9 k (ix2 R m)) := by
  unfold kStep
  refine holds_other _ 1 128 224 _ _ _ _ (by decide) _ ?_
  refine holds_other _ 0 128 192 _ _ _ _ (by decide) _ ?_
  refine holds_other _ 1 128 160 _ _ _ _ (by decide) _ ?_
  refine holds_step _ ?_ 0 128 _ _ _ o ?_
  · repeat' (first | exact hs | apply quiet_pass)
  · refine holds_other _ 1 128 96 _ _ _ _ (by decide) _ ?_
    refine holds_other _ 0 128 64 _ _ _ _ (by decide) _ ?_
    refine holds_other _ 1 128 32 _ _ _ _ (by decide) _ ?_
    refine holds_other _ 0 128 0 _ _ _ _ (by decide) _ ?_
    exact ho

/-- One trip adds its product to what accumulator 5 holds. -/
theorem holds_kStep5 (x3 : Vec Ideal S512x2048 .i32) (x4 : Vec Ideal S32x2048 .bf16) (x7 : Vec Ideal S4096x128 .bf16) (x8 : Vec Ideal S1024x128 .i32) (x9 : Vec Ideal S128x128 .i32) (k : Fin k0_t4_loop.trips) (s : Mxu Ideal) (hs : Quiet s)
    (o : Option (Fin 128 → Fin 256 → EReal)) (ho : Holds s 160 fits_160_128 o) :
    Holds (kStep x3 x4 x7 x8 x9 k s) 160 fits_160_128 (some fun i m => (o.elim 0 fun f => f i m) + ∑ R : Fin 256, lhsAt x7 k (ix2 i R) * tileAt5 x3 x4 x8 x9 k (ix2 R m)) := by
  unfold kStep
  refine holds_other _ 1 160 224 _ _ _ _ (by decide) _ ?_
  refine holds_other _ 0 160 192 _ _ _ _ (by decide) _ ?_
  refine holds_step _ ?_ 1 160 _ _ _ o ?_
  · repeat' (first | exact hs | apply quiet_pass)
  · refine holds_other _ 0 160 128 _ _ _ _ (by decide) _ ?_
    refine holds_other _ 1 160 96 _ _ _ _ (by decide) _ ?_
    refine holds_other _ 0 160 64 _ _ _ _ (by decide) _ ?_
    refine holds_other _ 1 160 32 _ _ _ _ (by decide) _ ?_
    refine holds_other _ 0 160 0 _ _ _ _ (by decide) _ ?_
    exact ho

/-- One trip adds its product to what accumulator 6 holds. -/
theorem holds_kStep6 (x3 : Vec Ideal S512x2048 .i32) (x4 : Vec Ideal S32x2048 .bf16) (x7 : Vec Ideal S4096x128 .bf16) (x8 : Vec Ideal S1024x128 .i32) (x9 : Vec Ideal S128x128 .i32) (k : Fin k0_t4_loop.trips) (s : Mxu Ideal) (hs : Quiet s)
    (o : Option (Fin 128 → Fin 256 → EReal)) (ho : Holds s 192 fits_192_128 o) :
    Holds (kStep x3 x4 x7 x8 x9 k s) 192 fits_192_128 (some fun i m => (o.elim 0 fun f => f i m) + ∑ R : Fin 256, lhsAt x7 k (ix2 i R) * tileAt6 x3 x4 x8 x9 k (ix2 R m)) := by
  unfold kStep
  refine holds_other _ 1 192 224 _ _ _ _ (by decide) _ ?_
  refine holds_step _ ?_ 0 192 _ _ _ o ?_
  · repeat' (first | exact hs | apply quiet_pass)
  · refine holds_other _ 1 192 160 _ _ _ _ (by decide) _ ?_
    refine holds_other _ 0 192 128 _ _ _ _ (by decide) _ ?_
    refine holds_other _ 1 192 96 _ _ _ _ (by decide) _ ?_
    refine holds_other _ 0 192 64 _ _ _ _ (by decide) _ ?_
    refine holds_other _ 1 192 32 _ _ _ _ (by decide) _ ?_
    refine holds_other _ 0 192 0 _ _ _ _ (by decide) _ ?_
    exact ho

/-- One trip adds its product to what accumulator 7 holds. -/
theorem holds_kStep7 (x3 : Vec Ideal S512x2048 .i32) (x4 : Vec Ideal S32x2048 .bf16) (x7 : Vec Ideal S4096x128 .bf16) (x8 : Vec Ideal S1024x128 .i32) (x9 : Vec Ideal S128x128 .i32) (k : Fin k0_t4_loop.trips) (s : Mxu Ideal) (hs : Quiet s)
    (o : Option (Fin 128 → Fin 256 → EReal)) (ho : Holds s 224 fits_224_128 o) :
    Holds (kStep x3 x4 x7 x8 x9 k s) 224 fits_224_128 (some fun i m => (o.elim 0 fun f => f i m) + ∑ R : Fin 256, lhsAt x7 k (ix2 i R) * tileAt7 x3 x4 x8 x9 k (ix2 R m)) := by
  unfold kStep
  refine holds_step _ ?_ 1 224 _ _ _ o ?_
  · repeat' (first | exact hs | apply quiet_pass)
  · refine holds_other _ 0 224 192 _ _ _ _ (by decide) _ ?_
    refine holds_other _ 1 224 160 _ _ _ _ (by decide) _ ?_
    refine holds_other _ 0 224 128 _ _ _ _ (by decide) _ ?_
    refine holds_other _ 1 224 96 _ _ _ _ (by decide) _ ?_
    refine holds_other _ 0 224 64 _ _ _ _ (by decide) _ ?_
    refine holds_other _ 1 224 32 _ _ _ _ (by decide) _ ?_
    refine holds_other _ 0 224 0 _ _ _ _ (by decide) _ ?_
    exact ho

/-! ## All trips -/

/-- Where a trip adds `g k` to rows that start empty, all trips leave the sum. -/
theorem holds_mxuAt (x3 : Vec Ideal S512x2048 .i32) (x4 : Vec Ideal S32x2048 .bf16) (x7 : Vec Ideal S4096x128 .bf16) (x8 : Vec Ideal S1024x128 .i32) (x9 : Vec Ideal S128x128 .i32) (A : ℕ) (h : Mxu.Fits A 128) (g : ℕ → Fin 128 → Fin 256 → EReal)
    (hstep : ∀ (k : Fin k0_t4_loop.trips) (s : Mxu Ideal) (o : Option (Fin 128 → Fin 256 → EReal)), Quiet s → Holds s A h o →
      Holds (kStep x3 x4 x7 x8 x9 k s) A h (some fun i m => (o.elim 0 fun f => f i m) + g k.val i m)) :
    ∀ n, n ≤ k0_t4_loop.trips → Holds (mxuAt x3 x4 x7 x8 x9 n) A h (if n = 0 then none else some fun i m => ∑ k ∈ Finset.range n, g k i m)
  | 0, _ => by intro r; exact Mxu.live_init ..
  | n + 1, hn => by
    have ih := holds_mxuAt x3 x4 x7 x8 x9 A h g hstep n (by omega)
    have e := hstep ⟨n, hn⟩ _ _ (quiet_mxuAt x3 x4 x7 x8 x9 n) ih
    rw [← mxuAt_succ] at e
    rw [if_neg (Nat.succ_ne_zero n)]
    refine ⟨e.1, fun i m => (e.2 i m).trans ?_⟩
    show _ = ∑ k ∈ Finset.range (n + 1), g k i m
    rw [Finset.sum_range_succ]
    by_cases hz : n = 0
    · subst hz; rfl
    · rw [if_neg hz]; rfl

/-! ## The order of the contracted positions -/

/-- The lane of the rearranged block that holds column `c`. -/
def lane (c : ℕ) : ℕ := 64 * (c / 64) + 32 * (c % 2) + 4 * (c % 64 / 8) + c % 8 / 2

/-- The lane of a source column is the one the rearranged input puts it on. -/
theorem lane_srcCol : ∀ l : Fin 128, lane (srcCol l.val) = l.val := by decide +kernel

/-- No two places of the contraction are the same position. -/
theorem kIdx_injective : Function.Injective fun p : Fin 16 × Fin 256 => kIdx p.1 p.2 := by
  rintro ⟨k, R⟩ ⟨k', R'⟩ h
  have hv : 256 * k.val + 128 * (R.val / 128) + srcCol (R.val % 128) = 256 * k'.val + 128 * (R'.val / 128) + srcCol (R'.val % 128) := congrArg Fin.val h
  have h1 := srcCol_lt (R.val % 128) (by omega)
  have h2 := srcCol_lt (R'.val % 128) (by omega)
  have e1 := lane_srcCol ⟨R.val % 128, by omega⟩
  have e2 := lane_srcCol ⟨R'.val % 128, by omega⟩
  have hk : k.val = k'.val := by omega
  have hR : R.val / 128 = R'.val / 128 := by omega
  have hs : srcCol (R.val % 128) = srcCol (R'.val % 128) := by omega
  simp only [hs] at e1
  have hm : R.val % 128 = R'.val % 128 := e1.symm.trans e2
  exact Prod.ext (Fin.ext hk) (Fin.ext (by show R.val = R'.val; omega))

/-- Every contracted position is met once. -/
theorem sum_kIdx (f : Fin 4096 → EReal) : ∑ k ∈ Finset.range 16, ∑ R : Fin 256, f (kIdx (Fin.ofNat 16 k) R) = ∑ κ : Fin 4096, f κ := by
  have hb : Function.Bijective fun p : Fin 16 × Fin 256 => kIdx p.1 p.2 :=
    (Fintype.bijective_iff_injective_and_card _).2 ⟨kIdx_injective, by simp⟩
  rw [← hb.sum_comp f, Fintype.sum_prod_type, Finset.sum_range]
  refine Finset.sum_congr rfl fun k _ => ?_
  have e : Fin.ofNat 16 k.val = k := Fin.ext (Nat.mod_eq_of_lt k.isLt)
  rw [e]

/-! ## The result block -/

/-- The product of `x` and the weights of a block of columns. -/
def blockSum (x1 : Vec Ideal S128x4096 .bf16) (x2 : Vec Ideal S32x128 .i32) (x3 : Vec Ideal S512x2048 .i32) (x4 : Vec Ideal S32x2048 .bf16) (x5 : Vec Ideal S32x256 .i32)
    (i : Fin 128) (n : Fin 2048) : EReal := ∑ κ : Fin 4096, x1 (ix2 i κ) * wt x2 x3 x4 x5 κ n

/-- Accumulator 0 after the last trip holds the sum of the products. -/
theorem read_mxuAt0 (x1 : Vec Ideal S128x4096 .bf16) (x2 : Vec Ideal S32x128 .i32) (x3 : Vec Ideal S512x2048 .i32) (x4 : Vec Ideal S32x2048 .bf16) (x5 : Vec Ideal S32x256 .i32)
    (hx : ∀ a b, (x2 (ix2 a b)).toNat < 32) (i : Fin 128) (m : Fin 256) :
    (mxuAt x3 x4 (xsOf x1) (patOf (F := Ideal) x2) (tabOf (F := Ideal) x5) k0_t4_loop.trips).read 0 0 fits_0_128 (ix2 i m)
      = blockSum x1 x2 x3 x4 x5 i (⟨0 + m.val, by omega⟩ : Fin 2048) := by
  have e := holds_mxuAt x3 x4 (xsOf x1) (patOf (F := Ideal) x2) (tabOf (F := Ideal) x5) 0 fits_0_128
    (fun k i m => ∑ R : Fin 256, x1 (ix2 i (kIdx (Fin.ofNat 16 k) R)) * wt x2 x3 x4 x5 (kIdx (Fin.ofNat 16 k) R) (⟨0 + m.val, by omega⟩ : Fin 2048))
    (fun k s o hs ho => by
      have e := holds_kStep0 x3 x4 (xsOf x1) (patOf (F := Ideal) x2) (tabOf (F := Ideal) x5) k s hs o ho
      have ek : Fin.ofNat 16 k.val = blkOf k := Fin.ext (Nat.mod_eq_of_lt (blkOf k).isLt)
      refine ⟨e.1, fun i m => (e.2 i m).trans (congrArg (_ + ·) (Finset.sum_congr rfl fun R _ => ?_))⟩
      rw [lhsAt_apply, tileAt0_apply x2 x3 x4 x5 hx, ek])
    k0_t4_loop.trips le_rfl
  rw [if_neg (by rw [t4_trips]; decide)] at e
  rw [e.2 i m, t4_trips]
  exact sum_kIdx fun κ => x1 (ix2 i κ) * wt x2 x3 x4 x5 κ (⟨0 + m.val, by omega⟩ : Fin 2048)

/-- Accumulator 1 after the last trip holds the sum of the products. -/
theorem read_mxuAt1 (x1 : Vec Ideal S128x4096 .bf16) (x2 : Vec Ideal S32x128 .i32) (x3 : Vec Ideal S512x2048 .i32) (x4 : Vec Ideal S32x2048 .bf16) (x5 : Vec Ideal S32x256 .i32)
    (hx : ∀ a b, (x2 (ix2 a b)).toNat < 32) (i : Fin 128) (m : Fin 256) :
    (mxuAt x3 x4 (xsOf x1) (patOf (F := Ideal) x2) (tabOf (F := Ideal) x5) k0_t4_loop.trips).read 0 32 fits_32_128 (ix2 i m)
      = blockSum x1 x2 x3 x4 x5 i (⟨256 + m.val, by omega⟩ : Fin 2048) := by
  have e := holds_mxuAt x3 x4 (xsOf x1) (patOf (F := Ideal) x2) (tabOf (F := Ideal) x5) 32 fits_32_128
    (fun k i m => ∑ R : Fin 256, x1 (ix2 i (kIdx (Fin.ofNat 16 k) R)) * wt x2 x3 x4 x5 (kIdx (Fin.ofNat 16 k) R) (⟨256 + m.val, by omega⟩ : Fin 2048))
    (fun k s o hs ho => by
      have e := holds_kStep1 x3 x4 (xsOf x1) (patOf (F := Ideal) x2) (tabOf (F := Ideal) x5) k s hs o ho
      have ek : Fin.ofNat 16 k.val = blkOf k := Fin.ext (Nat.mod_eq_of_lt (blkOf k).isLt)
      refine ⟨e.1, fun i m => (e.2 i m).trans (congrArg (_ + ·) (Finset.sum_congr rfl fun R _ => ?_))⟩
      rw [lhsAt_apply, tileAt1_apply x2 x3 x4 x5 hx, ek])
    k0_t4_loop.trips le_rfl
  rw [if_neg (by rw [t4_trips]; decide)] at e
  rw [e.2 i m, t4_trips]
  exact sum_kIdx fun κ => x1 (ix2 i κ) * wt x2 x3 x4 x5 κ (⟨256 + m.val, by omega⟩ : Fin 2048)

/-- Accumulator 2 after the last trip holds the sum of the products. -/
theorem read_mxuAt2 (x1 : Vec Ideal S128x4096 .bf16) (x2 : Vec Ideal S32x128 .i32) (x3 : Vec Ideal S512x2048 .i32) (x4 : Vec Ideal S32x2048 .bf16) (x5 : Vec Ideal S32x256 .i32)
    (hx : ∀ a b, (x2 (ix2 a b)).toNat < 32) (i : Fin 128) (m : Fin 256) :
    (mxuAt x3 x4 (xsOf x1) (patOf (F := Ideal) x2) (tabOf (F := Ideal) x5) k0_t4_loop.trips).read 0 64 fits_64_128 (ix2 i m)
      = blockSum x1 x2 x3 x4 x5 i (⟨512 + m.val, by omega⟩ : Fin 2048) := by
  have e := holds_mxuAt x3 x4 (xsOf x1) (patOf (F := Ideal) x2) (tabOf (F := Ideal) x5) 64 fits_64_128
    (fun k i m => ∑ R : Fin 256, x1 (ix2 i (kIdx (Fin.ofNat 16 k) R)) * wt x2 x3 x4 x5 (kIdx (Fin.ofNat 16 k) R) (⟨512 + m.val, by omega⟩ : Fin 2048))
    (fun k s o hs ho => by
      have e := holds_kStep2 x3 x4 (xsOf x1) (patOf (F := Ideal) x2) (tabOf (F := Ideal) x5) k s hs o ho
      have ek : Fin.ofNat 16 k.val = blkOf k := Fin.ext (Nat.mod_eq_of_lt (blkOf k).isLt)
      refine ⟨e.1, fun i m => (e.2 i m).trans (congrArg (_ + ·) (Finset.sum_congr rfl fun R _ => ?_))⟩
      rw [lhsAt_apply, tileAt2_apply x2 x3 x4 x5 hx, ek])
    k0_t4_loop.trips le_rfl
  rw [if_neg (by rw [t4_trips]; decide)] at e
  rw [e.2 i m, t4_trips]
  exact sum_kIdx fun κ => x1 (ix2 i κ) * wt x2 x3 x4 x5 κ (⟨512 + m.val, by omega⟩ : Fin 2048)

/-- Accumulator 3 after the last trip holds the sum of the products. -/
theorem read_mxuAt3 (x1 : Vec Ideal S128x4096 .bf16) (x2 : Vec Ideal S32x128 .i32) (x3 : Vec Ideal S512x2048 .i32) (x4 : Vec Ideal S32x2048 .bf16) (x5 : Vec Ideal S32x256 .i32)
    (hx : ∀ a b, (x2 (ix2 a b)).toNat < 32) (i : Fin 128) (m : Fin 256) :
    (mxuAt x3 x4 (xsOf x1) (patOf (F := Ideal) x2) (tabOf (F := Ideal) x5) k0_t4_loop.trips).read 0 96 fits_96_128 (ix2 i m)
      = blockSum x1 x2 x3 x4 x5 i (⟨768 + m.val, by omega⟩ : Fin 2048) := by
  have e := holds_mxuAt x3 x4 (xsOf x1) (patOf (F := Ideal) x2) (tabOf (F := Ideal) x5) 96 fits_96_128
    (fun k i m => ∑ R : Fin 256, x1 (ix2 i (kIdx (Fin.ofNat 16 k) R)) * wt x2 x3 x4 x5 (kIdx (Fin.ofNat 16 k) R) (⟨768 + m.val, by omega⟩ : Fin 2048))
    (fun k s o hs ho => by
      have e := holds_kStep3 x3 x4 (xsOf x1) (patOf (F := Ideal) x2) (tabOf (F := Ideal) x5) k s hs o ho
      have ek : Fin.ofNat 16 k.val = blkOf k := Fin.ext (Nat.mod_eq_of_lt (blkOf k).isLt)
      refine ⟨e.1, fun i m => (e.2 i m).trans (congrArg (_ + ·) (Finset.sum_congr rfl fun R _ => ?_))⟩
      rw [lhsAt_apply, tileAt3_apply x2 x3 x4 x5 hx, ek])
    k0_t4_loop.trips le_rfl
  rw [if_neg (by rw [t4_trips]; decide)] at e
  rw [e.2 i m, t4_trips]
  exact sum_kIdx fun κ => x1 (ix2 i κ) * wt x2 x3 x4 x5 κ (⟨768 + m.val, by omega⟩ : Fin 2048)

/-- Accumulator 4 after the last trip holds the sum of the products. -/
theorem read_mxuAt4 (x1 : Vec Ideal S128x4096 .bf16) (x2 : Vec Ideal S32x128 .i32) (x3 : Vec Ideal S512x2048 .i32) (x4 : Vec Ideal S32x2048 .bf16) (x5 : Vec Ideal S32x256 .i32)
    (hx : ∀ a b, (x2 (ix2 a b)).toNat < 32) (i : Fin 128) (m : Fin 256) :
    (mxuAt x3 x4 (xsOf x1) (patOf (F := Ideal) x2) (tabOf (F := Ideal) x5) k0_t4_loop.trips).read 0 128 fits_128_128 (ix2 i m)
      = blockSum x1 x2 x3 x4 x5 i (⟨1024 + m.val, by omega⟩ : Fin 2048) := by
  have e := holds_mxuAt x3 x4 (xsOf x1) (patOf (F := Ideal) x2) (tabOf (F := Ideal) x5) 128 fits_128_128
    (fun k i m => ∑ R : Fin 256, x1 (ix2 i (kIdx (Fin.ofNat 16 k) R)) * wt x2 x3 x4 x5 (kIdx (Fin.ofNat 16 k) R) (⟨1024 + m.val, by omega⟩ : Fin 2048))
    (fun k s o hs ho => by
      have e := holds_kStep4 x3 x4 (xsOf x1) (patOf (F := Ideal) x2) (tabOf (F := Ideal) x5) k s hs o ho
      have ek : Fin.ofNat 16 k.val = blkOf k := Fin.ext (Nat.mod_eq_of_lt (blkOf k).isLt)
      refine ⟨e.1, fun i m => (e.2 i m).trans (congrArg (_ + ·) (Finset.sum_congr rfl fun R _ => ?_))⟩
      rw [lhsAt_apply, tileAt4_apply x2 x3 x4 x5 hx, ek])
    k0_t4_loop.trips le_rfl
  rw [if_neg (by rw [t4_trips]; decide)] at e
  rw [e.2 i m, t4_trips]
  exact sum_kIdx fun κ => x1 (ix2 i κ) * wt x2 x3 x4 x5 κ (⟨1024 + m.val, by omega⟩ : Fin 2048)

/-- Accumulator 5 after the last trip holds the sum of the products. -/
theorem read_mxuAt5 (x1 : Vec Ideal S128x4096 .bf16) (x2 : Vec Ideal S32x128 .i32) (x3 : Vec Ideal S512x2048 .i32) (x4 : Vec Ideal S32x2048 .bf16) (x5 : Vec Ideal S32x256 .i32)
    (hx : ∀ a b, (x2 (ix2 a b)).toNat < 32) (i : Fin 128) (m : Fin 256) :
    (mxuAt x3 x4 (xsOf x1) (patOf (F := Ideal) x2) (tabOf (F := Ideal) x5) k0_t4_loop.trips).read 0 160 fits_160_128 (ix2 i m)
      = blockSum x1 x2 x3 x4 x5 i (⟨1280 + m.val, by omega⟩ : Fin 2048) := by
  have e := holds_mxuAt x3 x4 (xsOf x1) (patOf (F := Ideal) x2) (tabOf (F := Ideal) x5) 160 fits_160_128
    (fun k i m => ∑ R : Fin 256, x1 (ix2 i (kIdx (Fin.ofNat 16 k) R)) * wt x2 x3 x4 x5 (kIdx (Fin.ofNat 16 k) R) (⟨1280 + m.val, by omega⟩ : Fin 2048))
    (fun k s o hs ho => by
      have e := holds_kStep5 x3 x4 (xsOf x1) (patOf (F := Ideal) x2) (tabOf (F := Ideal) x5) k s hs o ho
      have ek : Fin.ofNat 16 k.val = blkOf k := Fin.ext (Nat.mod_eq_of_lt (blkOf k).isLt)
      refine ⟨e.1, fun i m => (e.2 i m).trans (congrArg (_ + ·) (Finset.sum_congr rfl fun R _ => ?_))⟩
      rw [lhsAt_apply, tileAt5_apply x2 x3 x4 x5 hx, ek])
    k0_t4_loop.trips le_rfl
  rw [if_neg (by rw [t4_trips]; decide)] at e
  rw [e.2 i m, t4_trips]
  exact sum_kIdx fun κ => x1 (ix2 i κ) * wt x2 x3 x4 x5 κ (⟨1280 + m.val, by omega⟩ : Fin 2048)

/-- Accumulator 6 after the last trip holds the sum of the products. -/
theorem read_mxuAt6 (x1 : Vec Ideal S128x4096 .bf16) (x2 : Vec Ideal S32x128 .i32) (x3 : Vec Ideal S512x2048 .i32) (x4 : Vec Ideal S32x2048 .bf16) (x5 : Vec Ideal S32x256 .i32)
    (hx : ∀ a b, (x2 (ix2 a b)).toNat < 32) (i : Fin 128) (m : Fin 256) :
    (mxuAt x3 x4 (xsOf x1) (patOf (F := Ideal) x2) (tabOf (F := Ideal) x5) k0_t4_loop.trips).read 0 192 fits_192_128 (ix2 i m)
      = blockSum x1 x2 x3 x4 x5 i (⟨1536 + m.val, by omega⟩ : Fin 2048) := by
  have e := holds_mxuAt x3 x4 (xsOf x1) (patOf (F := Ideal) x2) (tabOf (F := Ideal) x5) 192 fits_192_128
    (fun k i m => ∑ R : Fin 256, x1 (ix2 i (kIdx (Fin.ofNat 16 k) R)) * wt x2 x3 x4 x5 (kIdx (Fin.ofNat 16 k) R) (⟨1536 + m.val, by omega⟩ : Fin 2048))
    (fun k s o hs ho => by
      have e := holds_kStep6 x3 x4 (xsOf x1) (patOf (F := Ideal) x2) (tabOf (F := Ideal) x5) k s hs o ho
      have ek : Fin.ofNat 16 k.val = blkOf k := Fin.ext (Nat.mod_eq_of_lt (blkOf k).isLt)
      refine ⟨e.1, fun i m => (e.2 i m).trans (congrArg (_ + ·) (Finset.sum_congr rfl fun R _ => ?_))⟩
      rw [lhsAt_apply, tileAt6_apply x2 x3 x4 x5 hx, ek])
    k0_t4_loop.trips le_rfl
  rw [if_neg (by rw [t4_trips]; decide)] at e
  rw [e.2 i m, t4_trips]
  exact sum_kIdx fun κ => x1 (ix2 i κ) * wt x2 x3 x4 x5 κ (⟨1536 + m.val, by omega⟩ : Fin 2048)

/-- Accumulator 7 after the last trip holds the sum of the products. -/
theorem read_mxuAt7 (x1 : Vec Ideal S128x4096 .bf16) (x2 : Vec Ideal S32x128 .i32) (x3 : Vec Ideal S512x2048 .i32) (x4 : Vec Ideal S32x2048 .bf16) (x5 : Vec Ideal S32x256 .i32)
    (hx : ∀ a b, (x2 (ix2 a b)).toNat < 32) (i : Fin 128) (m : Fin 256) :
    (mxuAt x3 x4 (xsOf x1) (patOf (F := Ideal) x2) (tabOf (F := Ideal) x5) k0_t4_loop.trips).read 0 224 fits_224_128 (ix2 i m)
      = blockSum x1 x2 x3 x4 x5 i (⟨1792 + m.val, by omega⟩ : Fin 2048) := by
  have e := holds_mxuAt x3 x4 (xsOf x1) (patOf (F := Ideal) x2) (tabOf (F := Ideal) x5) 224 fits_224_128
    (fun k i m => ∑ R : Fin 256, x1 (ix2 i (kIdx (Fin.ofNat 16 k) R)) * wt x2 x3 x4 x5 (kIdx (Fin.ofNat 16 k) R) (⟨1792 + m.val, by omega⟩ : Fin 2048))
    (fun k s o hs ho => by
      have e := holds_kStep7 x3 x4 (xsOf x1) (patOf (F := Ideal) x2) (tabOf (F := Ideal) x5) k s hs o ho
      have ek : Fin.ofNat 16 k.val = blkOf k := Fin.ext (Nat.mod_eq_of_lt (blkOf k).isLt)
      refine ⟨e.1, fun i m => (e.2 i m).trans (congrArg (_ + ·) (Finset.sum_congr rfl fun R _ => ?_))⟩
      rw [lhsAt_apply, tileAt7_apply x2 x3 x4 x5 hx, ek])
    k0_t4_loop.trips le_rfl
  rw [if_neg (by rw [t4_trips]; decide)] at e
  rw [e.2 i m, t4_trips]
  exact sum_kIdx fun κ => x1 (ix2 i κ) * wt x2 x3 x4 x5 κ (⟨1792 + m.val, by omega⟩ : Fin 2048)

/-! Reading the results out in turn reads each as it stood. -/

/-- Accumulator 1 is not changed by the reads of those before it. -/
theorem read_pops1 (s : Mxu Ideal) : (s.pop 0 0 128 fits_0_128).read 0 32 fits_32_128 = s.read 0 32 fits_32_128 := by
  rw [Mxu.read_pop_ne _ _ _ _ _ _ _ (by decide)]

/-- Accumulator 2 is not changed by the reads of those before it. -/
theorem read_pops2 (s : Mxu Ideal) : ((s.pop 0 0 128 fits_0_128).pop 0 32 128 fits_32_128).read 0 64 fits_64_128 = s.read 0 64 fits_64_128 := by
  rw [Mxu.read_pop_ne _ _ _ _ _ _ _ (by decide), Mxu.read_pop_ne _ _ _ _ _ _ _ (by decide)]

/-- Accumulator 3 is not changed by the reads of those before it. -/
theorem read_pops3 (s : Mxu Ideal) : (((s.pop 0 0 128 fits_0_128).pop 0 32 128 fits_32_128).pop 0 64 128 fits_64_128).read 0 96 fits_96_128 = s.read 0 96 fits_96_128 := by
  rw [Mxu.read_pop_ne _ _ _ _ _ _ _ (by decide), Mxu.read_pop_ne _ _ _ _ _ _ _ (by decide), Mxu.read_pop_ne _ _ _ _ _ _ _ (by decide)]

/-- Accumulator 4 is not changed by the reads of those before it. -/
theorem read_pops4 (s : Mxu Ideal) : ((((s.pop 0 0 128 fits_0_128).pop 0 32 128 fits_32_128).pop 0 64 128 fits_64_128).pop 0 96 128 fits_96_128).read 0 128 fits_128_128 = s.read 0 128 fits_128_128 := by
  rw [Mxu.read_pop_ne _ _ _ _ _ _ _ (by decide), Mxu.read_pop_ne _ _ _ _ _ _ _ (by decide), Mxu.read_pop_ne _ _ _ _ _ _ _ (by decide), Mxu.read_pop_ne _ _ _ _ _ _ _ (by decide)]

/-- Accumulator 5 is not changed by the reads of those before it. -/
theorem read_pops5 (s : Mxu Ideal) : (((((s.pop 0 0 128 fits_0_128).pop 0 32 128 fits_32_128).pop 0 64 128 fits_64_128).pop 0 96 128 fits_96_128).pop 0 128 128 fits_128_128).read 0 160 fits_160_128 = s.read 0 160 fits_160_128 := by
  rw [Mxu.read_pop_ne _ _ _ _ _ _ _ (by decide), Mxu.read_pop_ne _ _ _ _ _ _ _ (by decide), Mxu.read_pop_ne _ _ _ _ _ _ _ (by decide), Mxu.read_pop_ne _ _ _ _ _ _ _ (by decide), Mxu.read_pop_ne _ _ _ _ _ _ _ (by decide)]

/-- Accumulator 6 is not changed by the reads of those before it. -/
theorem read_pops6 (s : Mxu Ideal) : ((((((s.pop 0 0 128 fits_0_128).pop 0 32 128 fits_32_128).pop 0 64 128 fits_64_128).pop 0 96 128 fits_96_128).pop 0 128 128 fits_128_128).pop 0 160 128 fits_160_128).read 0 192 fits_192_128 = s.read 0 192 fits_192_128 := by
  rw [Mxu.read_pop_ne _ _ _ _ _ _ _ (by decide), Mxu.read_pop_ne _ _ _ _ _ _ _ (by decide), Mxu.read_pop_ne _ _ _ _ _ _ _ (by decide), Mxu.read_pop_ne _ _ _ _ _ _ _ (by decide), Mxu.read_pop_ne _ _ _ _ _ _ _ (by decide), Mxu.read_pop_ne _ _ _ _ _ _ _ (by decide)]

/-- Accumulator 7 is not changed by the reads of those before it. -/
theorem read_pops7 (s : Mxu Ideal) : (((((((s.pop 0 0 128 fits_0_128).pop 0 32 128 fits_32_128).pop 0 64 128 fits_64_128).pop 0 96 128 fits_96_128).pop 0 128 128 fits_128_128).pop 0 160 128 fits_160_128).pop 0 192 128 fits_192_128).read 0 224 fits_224_128 = s.read 0 224 fits_224_128 := by
  rw [Mxu.read_pop_ne _ _ _ _ _ _ _ (by decide), Mxu.read_pop_ne _ _ _ _ _ _ _ (by decide), Mxu.read_pop_ne _ _ _ _ _ _ _ (by decide), Mxu.read_pop_ne _ _ _ _ _ _ _ (by decide), Mxu.read_pop_ne _ _ _ _ _ _ _ (by decide), Mxu.read_pop_ne _ _ _ _ _ _ _ (by decide), Mxu.read_pop_ne _ _ _ _ _ _ _ (by decide)]

/-- The block of those sums. -/
def blockOut (x1 : Vec Ideal S128x4096 .bf16) (x2 : Vec Ideal S32x128 .i32) (x3 : Vec Ideal S512x2048 .i32) (x4 : Vec Ideal S32x2048 .bf16) (x5 : Vec Ideal S32x256 .i32) : Vec Ideal S128x2048 .bf16 := fun y => blockSum x1 x2 x3 x4 x5 (y 0) (y 1)

/-- The result block, entry by entry. -/
theorem outOf_apply (x1 : Vec Ideal S128x4096 .bf16) (x2 : Vec Ideal S32x128 .i32) (x3 : Vec Ideal S512x2048 .i32) (x4 : Vec Ideal S32x2048 .bf16) (x5 : Vec Ideal S32x256 .i32)
    (hx : ∀ a b, (x2 (ix2 a b)).toNat < 32) (y : S128x2048.Idx) :
    outOf x3 x4 (xsOf x1) (patOf (F := Ideal) x2) (tabOf (F := Ideal) x5) y = blockOut x1 x2 x3 x4 x5 y := by
  unfold outOf
  refine View.canon_apply_of_pieces (blockOut x1 x2 x3 x4 x5) _ ?_ y (cover_out _ y)
  -- one stored block: its columns start at `o`
  have piece (o : ℕ) (ho : o + 256 ≤ 2048) (inb) (v : FVec Ideal S128x256 .f32) (x : S128x256.Idx)
      (hv : ∀ (i : Fin 128) (m : Fin 256), v (ix2 i m) = blockSum x1 x2 x3 x4 x5 i (⟨o + m.val, by omega⟩ : Fin 2048)) :
      v x = blockOut x1 x2 x3 x4 x5 ((Rect.unit (s := S128x2048) ![0, o] S128x256.size inb).emb x) := by
    refine ((congrArg v (eq_ix2 x)).trans (hv (x 0) (x 1))).trans ?_
    refine congr (congrArg (blockSum x1 x2 x3 x4 x5) (Fin.ext ?_)) (Fin.ext ?_)
    · exact ((rectUnit_val (s := S128x2048) ![0, o] S128x256.size inb x 0).trans (Nat.zero_add _)).symm
    · exact (rectUnit_val (s := S128x2048) ![0, o] S128x256.size inb x 1).symm
  intro pc hpc x
  unfold outPieces at hpc
  simp only [List.mem_cons, List.not_mem_nil, or_false] at hpc
  rcases hpc with rfl | rfl | rfl | rfl | rfl | rfl | rfl | rfl
  · exact piece 1792 (by decide) inb_S128x2048_S128x256_0_1792 _ x (fun i m => by rw [read_pops7]; exact read_mxuAt7 x1 x2 x3 x4 x5 hx i m)
  · exact piece 1536 (by decide) inb_S128x2048_S128x256_0_1536 _ x (fun i m => by rw [read_pops6]; exact read_mxuAt6 x1 x2 x3 x4 x5 hx i m)
  · exact piece 1280 (by decide) inb_S128x2048_S128x256_0_1280 _ x (fun i m => by rw [read_pops5]; exact read_mxuAt5 x1 x2 x3 x4 x5 hx i m)
  · exact piece 1024 (by decide) inb_S128x2048_S128x256_0_1024 _ x (fun i m => by rw [read_pops4]; exact read_mxuAt4 x1 x2 x3 x4 x5 hx i m)
  · exact piece 768 (by decide) inb_S128x2048_S128x256_0_768 _ x (fun i m => by rw [read_pops3]; exact read_mxuAt3 x1 x2 x3 x4 x5 hx i m)
  · exact piece 512 (by decide) inb_S128x2048_S128x256_0_512 _ x (fun i m => by rw [read_pops2]; exact read_mxuAt2 x1 x2 x3 x4 x5 hx i m)
  · exact piece 256 (by decide) inb_S128x2048_S128x256_0_256 _ x (fun i m => by rw [read_pops1]; exact read_mxuAt1 x1 x2 x3 x4 x5 hx i m)
  · exact piece 0 (by decide) inb_S128x2048_S128x256_0_0 _ x (fun i m => by exact read_mxuAt0 x1 x2 x3 x4 x5 hx i m)

end Cert.Proof.KI
-- ==== Proof.Spec.lean ====
/-
  THE FUNCTION BOTH PROGRAMS COMPUTE, written over the argument arrays: the input times the dequantized weights.
-/
module

public import proofs.«01_k».proof.Proof.ChunkValue

@[expose] public section

set_option maxRecDepth 16384

noncomputable section

namespace Cert.Proof

open Idealize.ShloMosaic Idealize.ShloMosaic.ValueIdx
open Cert.Proof.KI (diffVal nib)

/-- The group of contracted position `κ`: the word of the group array there. -/
def group (G : (⟨1, ![4096]⟩ : Shape).Idx → BitVec 32) (κ : Fin 4096) : Fin 32 :=
  ⟨(G (ix1 κ)).toNat % 32, Nat.mod_lt _ (by decide)⟩

/-- The dequantized weight at position `κ` and column `n`: the code less its group's zero point, times the scale. -/
def weight (Q : (⟨2, ![512, 14336]⟩ : Shape).Idx → BitVec 32) (S : (⟨2, ![32, 14336]⟩ : Shape).Idx → EReal)
    (Z : (⟨2, ![32, 1792]⟩ : Shape).Idx → BitVec 32) (G : (⟨1, ![4096]⟩ : Shape).Idx → BitVec 32)
    (κ : Fin 4096) (n : Fin 14336) : EReal :=
  diffVal (nib (Q (ix2 ⟨κ / 8, by omega⟩ n)) (κ % 8)) (nib (Z (ix2 (group G κ) ⟨n / 8, by omega⟩)) (n % 8))
    * S (ix2 (group G κ) n)

/-- The product: row `i`, column `n`. -/
def product (X : (⟨3, ![128, 1, 4096]⟩ : Shape).Idx → EReal)
    (Q : (⟨2, ![512, 14336]⟩ : Shape).Idx → BitVec 32) (S : (⟨2, ![32, 14336]⟩ : Shape).Idx → EReal)
    (Z : (⟨2, ![32, 1792]⟩ : Shape).Idx → BitVec 32) (G : (⟨1, ![4096]⟩ : Shape).Idx → BitVec 32)
    (i : Fin 128) (n : Fin 14336) : EReal :=
  ∑ κ : Fin 4096, X (ix3 i 0 κ) * weight Q S Z G κ n

/-- The whole product array. -/
def productArray (X : Vec Ideal ⟨3, ![128, 1, 4096]⟩ .bf16) (Q : Vec Ideal ⟨2, ![512, 14336]⟩ .i32)
    (S : Vec Ideal ⟨2, ![32, 14336]⟩ .bf16) (Z : Vec Ideal ⟨2, ![32, 1792]⟩ .i32) (G : Vec Ideal ⟨1, ![4096]⟩ .i32) :
    Vec Ideal ⟨2, ![128, 14336]⟩ .bf16 := fun y => product X Q S Z G (y 0) (y 1)

end Cert.Proof

end
-- ==== Proof.ResultValue.lean ====
/-
  WHAT THE RESULT ARRAY HOLDS: each point's result block is its 2048 columns of the product, and the blocks tile the array.
-/
module

public import proofs.«01_k».proof.Proof.AccValue
public import proofs.«01_k».proof.Proof.Spec
public import proofs.«01_k».proof.Proof.Launch
public import Idealize.ShloMosaic.Lib.Pipeline.ValueKit.Geometry

@[expose] public section

set_option maxRecDepth 16384

noncomputable section

namespace Cert.Proof.KI

open Cert.KernelIdeal Cert.KernelIdeal.Gen
open Idealize.ShloMosaic Idealize.ShloMosaic.ValueIdx Idealize.ShloMosaic.StableHlo

variable (m : (ℓ : Loc nD τ sig) → Buf (Elt Ideal) ℓ)

/-! ## The arrays the blocks are read from -/

/-- The input without its unit axis, as the host lays it out. -/
theorem V_v0 (c : Dev nD) : V m c main_v0 = shapeCast S128x4096 (m ((c.tc : Thread nD τ).loc main_arg0)) shapeCasts_S128x1x4096_S128x4096 := by
  unfold V
  after_results_simp <;> rfl

/-- The groups as 32 rows of 128, as the host lays them out. -/
theorem V_v1 (c : Dev nD) : V m c main_v1 = shapeCast S32x128 (m ((c.tc : Thread nD τ).loc main_arg4)) shapeCasts_S4096_S32x128 := by
  unfold V
  after_results_simp <;> rfl

/-- Every window's block index at a point (decided). -/
theorem index_eq : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![0, t.val] :=
  (by decide +kernel : ∀ t : Fin grid0.N, _)

/-- There are seven points. -/
theorem N_lt (t : Fin cfg0.N) : t.val < 7 := lt_of_lt_of_eq t.isLt (by decide)

/-- Dropping the unit axis moves nothing. -/
theorem squeeze_apply {α : Type} (x : S128x1x4096.Idx → α) (h : S128x1x4096.ShapeCasts S128x4096) (i : Fin 128) (κ : Fin 4096) :
    shapeCast S128x4096 x h (ix2 i κ) = x (ix3 i 0 κ) :=
  shapeCast_apply _ _ _ _ (by rw [Shape.rowMajor_val_three, Shape.rowMajor_val_two]; simp)

/-- A line of 4096 cut into rows of 128. -/
theorem rows_apply {α : Type} (x : S4096.Idx → α) (h : S4096.ShapeCasts S32x128) (a : Fin 32) (b : Fin 128) :
    shapeCast S32x128 x h (ix2 a b) = x (ix1 ⟨a * 128 + b, by omega⟩) :=
  shapeCast_apply _ _ _ _ (by rw [Shape.rowMajor_val_one, Shape.rowMajor_val_two]; simp)

/-- The input block is the input. -/
theorem xIn_apply (c : Dev nD) (i : Fin 128) (κ : Fin 4096) :
    xIn m c (ix2 i κ) = m ((c.tc : Thread nD τ).loc main_arg0) (ix3 i 0 κ) := by
  have e : xIn m c (ix2 i κ) = V m c main_v0 (ix2 i κ) := by
    refine congrArg (V m c main_v0) (funext fun a => Fin.ext ?_)
    refine (Pipeline.Window.rect_emb_val win0_0 ⟨0, by decide⟩ _ a).trans ?_
    rw [(index_eq ⟨0, by decide⟩).1]
    match a with
    | ⟨0, _⟩ => simp
    | ⟨1, _⟩ => simp
  rw [e, V_v0]
  exact squeeze_apply _ _ i κ

/-- The group block is the groups, 128 to a row. -/
theorem gIn_apply (c : Dev nD) (a : Fin 32) (b : Fin 128) :
    gIn m c (ix2 a b) = m ((c.tc : Thread nD τ).loc main_arg4) (ix1 ⟨a * 128 + b, by omega⟩) := by
  have e : gIn m c (ix2 a b) = V m c main_v1 (ix2 a b) := by
    refine congrArg (V m c main_v1) (funext fun a => Fin.ext ?_)
    refine (Pipeline.Window.rect_emb_val win0_1 ⟨0, by decide⟩ _ a).trans ?_
    rw [(index_eq ⟨0, by decide⟩).2.1]
    match a with
    | ⟨0, _⟩ => simp
    | ⟨1, _⟩ => simp
  rw [e, V_v1]
  exact rows_apply _ _ a b

/-- A point's codes are its 2048 columns of the code array. -/
theorem codes_apply (c : Dev nD) (t : Fin cfg0.N) (a : Fin 512) (n : Fin 2048) (h : 2048 * t.val + n.val < 14336) :
    (iblk m c 2 t : Vec Ideal S512x2048 .i32) (ix2 a n) = m ((c.tc : Thread nD τ).loc main_arg1) (ix2 a ⟨2048 * t.val + n.val, h⟩) := by
  rw [← V_main_arg1 m c]
  refine congrArg (V m c main_arg1) (funext fun d => Fin.ext ?_)
  refine (Pipeline.Window.rect_emb_val win0_2 t _ d).trans ?_
  rw [(index_eq t).2.2.1]
  match d with
  | ⟨0, _⟩ => simp
  | ⟨1, _⟩ => simp [Nat.mul_comm]

/-- A point's scales are its 2048 columns of the scale array. -/
theorem scales_apply (c : Dev nD) (t : Fin cfg0.N) (a : Fin 32) (n : Fin 2048) (h : 2048 * t.val + n.val < 14336) :
    (iblk m c 3 t : Vec Ideal S32x2048 .bf16) (ix2 a n) = m ((c.tc : Thread nD τ).loc main_arg2) (ix2 a ⟨2048 * t.val + n.val, h⟩) := by
  rw [← V_main_arg2 m c]
  refine congrArg (V m c main_arg2) (funext fun d => Fin.ext ?_)
  refine (Pipeline.Window.rect_emb_val win0_3 t _ d).trans ?_
  rw [(index_eq t).2.2.2.1]
  match d with
  | ⟨0, _⟩ => simp
  | ⟨1, _⟩ => simp [Nat.mul_comm]

/-- A point's packed zero points are its 256 columns of their array. -/
theorem zeros_apply (c : Dev nD) (t : Fin cfg0.N) (a : Fin 32) (n : Fin 256) (h : 256 * t.val + n.val < 1792) :
    (iblk m c 4 t : Vec Ideal S32x256 .i32) (ix2 a n) = m ((c.tc : Thread nD τ).loc main_arg3) (ix2 a ⟨256 * t.val + n.val, h⟩) := by
  rw [← V_main_arg3 m c]
  refine congrArg (V m c main_arg3) (funext fun d => Fin.ext ?_)
  refine (Pipeline.Window.rect_emb_val win0_4 t _ d).trans ?_
  rw [(index_eq t).2.2.2.2.1]
  match d with
  | ⟨0, _⟩ => simp
  | ⟨1, _⟩ => simp [Nat.mul_comm]

/-! ## One block -/

/-- The product of device `c`'s argument arrays. -/
def prodOf (c : Dev nD) : Buf (Elt Ideal) ((c.tc : Thread nD τ).loc main_v2) :=
  productArray (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- The group of a position, read off the group block or off the group array. -/
theorem grp_eq (c : Dev nD) (κ : Fin 4096) : grp (gIn m c) κ = group (m ((c.tc : Thread nD τ).loc main_arg4)) κ := by
  have e0 := gIn_apply m c ⟨κ.val / 128, by omega⟩ ⟨κ.val % 128, by omega⟩
  have e : (⟨κ.val / 128 * 128 + κ.val % 128, by omega⟩ : Fin 4096) = κ := Fin.ext (by show κ.val / 128 * 128 + κ.val % 128 = κ.val; omega)
  simp only [e] at e0
  refine Fin.ext ?_
  show (gIn m c (ix2 ⟨κ.val / 128, _⟩ ⟨κ.val % 128, _⟩)).toNat % 32 = _
  rw [e0]
  rfl

/-- A weight read off a point's blocks is the array's weight at the point's column. -/
theorem wt_eq (c : Dev nD) (t : Fin cfg0.N) (κ : Fin 4096) (n : Fin 2048) (h : 2048 * t.val + n.val < 14336) :
    wt (gIn m c) (iblk m c 2 t) (iblk m c 3 t) (iblk m c 4 t) κ n
      = weight (m ((c.tc : Thread nD τ).loc main_arg1)) (m ((c.tc : Thread nD τ).loc main_arg2))
          (m ((c.tc : Thread nD τ).loc main_arg3)) (m ((c.tc : Thread nD τ).loc main_arg4)) κ ⟨2048 * t.val + n.val, h⟩ := by
  unfold wt weight
  rw [grp_eq]
  have e1 := codes_apply m c t ⟨κ.val / 8, by omega⟩ n h
  have e2 := scales_apply m c t (group (m ((c.tc : Thread nD τ).loc main_arg4)) κ) n h
  have e3 := zeros_apply m c t (group (m ((c.tc : Thread nD τ).loc main_arg4)) κ) ⟨n.val / 8, by omega⟩ (by show 256 * t.val + n.val / 8 < 1792; omega)
  have e4 : (⟨256 * t.val + n.val / 8, by omega⟩ : Fin 1792) = ⟨(2048 * t.val + n.val) / 8, by omega⟩ := Fin.ext (by show 256 * t.val + n.val / 8 = (2048 * t.val + n.val) / 8; omega)
  have e5 : (2048 * t.val + n.val) % 8 = n.val % 8 := by omega
  rw [e1, e2, e3]
  simp only [e4, e5]

/-- What a point writes is its columns of the product. -/
theorem resBlk_apply (c : Dev nD) (hg : ∀ κ : Fin 4096, (m ((c.tc : Thread nD τ).loc main_arg4) (ix1 κ)).toNat < 32)
    (t : Fin cfg0.N) (i : Fin 128) (n : Fin 2048) (h : 2048 * t.val + n.val < 14336) :
    resBlk m c t (ix2 i n) = prodOf m c (ix2 i ⟨2048 * t.val + n.val, h⟩) := by
  unfold resBlk
  rw [outOf_apply (xIn m c) (gIn m c) (iblk m c 2 t) (iblk m c 3 t) (iblk m c 4 t) (fun a b => by rw [gIn_apply]; exact hg _)]
  show blockSum (xIn m c) (gIn m c) (iblk m c 2 t) (iblk m c 3 t) (iblk m c 4 t) i n
    = product (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) i ⟨2048 * t.val + n.val, h⟩
  unfold blockSum product
  refine Finset.sum_congr rfl fun κ _ => ?_
  rw [wt_eq m c t κ n h, xIn_apply]

/-- Block `t` of the product array is what point `t` flushes. -/
theorem flushed_eq (c : Dev nD) (hg : ∀ κ : Fin 4096, (m ((c.tc : Thread nD τ).loc main_arg4) (ix1 κ)).toNat < 32)
    (t : Fin cfg0.N) : (dats m 0 c).flushed 5 t = (win0_5.blk t).view.read (Elt Ideal) (prodOf m c) := by
  show (cfg0.win 5).cut (grid0.coords t) ((dats m 0 c).after 5 t) = _
  rw [after0_5]
  funext y
  have ht := N_lt t
  have h1 : (y 1).val < 2048 := (y 1).isLt
  have h : 2048 * t.val + (y 1).val < 14336 := by omega
  refine Eq.trans ?_ ((resBlk_apply m c hg t (y 0) (y 1) h).trans ?_)
  · exact congrArg (resBlk m c t) (eq_ix2 (n0 := 128) (n1 := 2048) y)
  · refine congrArg (prodOf m c) (funext fun d => Fin.ext ?_)
    refine Eq.trans ?_ (Pipeline.Window.rect_emb_val win0_5 t y d).symm
    rw [(index_eq t).2.2.2.2.2]
    match d with
    | ⟨0, _⟩ => simp
    | ⟨1, _⟩ => simp [Nat.mul_comm]

/-- The result array ends holding the product. -/
theorem final (c : Dev nD) (hg : ∀ κ : Fin 4096, (m ((c.tc : Thread nD τ).loc main_arg4) (ix1 κ)).toNat < 32) :
    (dats m 0 c).arrAt 5 cfg0.N = prodOf m c :=
  (dats m 0 c).arrAt_eq_of_cover 5 (prodOf m c) (fun t _ => flushed_eq m c hg t)
    (Pipeline.Window.Covers.cover (w := cfg0.win 5) (by decide +kernel) (Memref.isWhole_whole _))

end Cert.Proof.KI

end
-- ==== Proof.RefValue.lean ====
/-
  WHAT THE REFERENCE COMPUTES: the operations of the reference, read at an index, are the product.
-/
module

public import proofs.«01_k».proof.Proof.Spec
public import proofs.«01_k».proof.Proof.Gen.ReferenceIdeal.Run
public import Idealize.ShloMosaic.Lib.Routing.Ops
public import Idealize.ShloMosaic.Lib.StackMember

@[expose] public section

set_option maxRecDepth 16384

noncomputable section

namespace Cert.Proof.RI

open Cert.ReferenceIdeal Cert.ReferenceIdeal.Gen
open Idealize.ShloMosaic
open Idealize.ShloMosaic.ValueIdx
open Idealize.ShloMosaic.StackMember
open Cert.Proof.KI (diffVal nib nib_lt sshr_and)

/-! ## The four-bit fields -/

/-- The eight shift amounts. -/
def shifts : IVec S8 32 := muli (broadcastInDim S8 ![] bcast_S_S8 (constantI S_ 32 4#32)) (iotaInDim S8 32 0)

/-- A shift amount is four times the field's number. -/
theorem shifts_apply : ∀ j : Fin 8, shifts (ix1 j) = BitVec.ofNat 32 (4 * j.val) := by
  intro j
  show IntOp.muli 4#32 (BitVec.ofNat 32 j.val) = _
  revert j
  decide

/-- A word shifted by its field's amount and masked is the field. -/
theorem field_toNat (q : BitVec 32) (j : Fin 8) :
    (IntOp.andi (IntOp.shrsi .host q (BitVec.ofNat 32 (4 * j.val))) 15#32).toNat = nib q j.val := by
  have e : IntOp.shrsi .host q (BitVec.ofNat 32 (4 * j.val)) = q.sshiftRight (4 * j.val) := by
    have hn : (BitVec.ofNat 32 (4 * j.val)).toNat = 4 * j.val := by
      rw [BitVec.toNat_ofNat]; exact Nat.mod_eq_of_lt (by have := j.isLt; omega)
    unfold IntOp.shrsi
    rw [if_pos (by rw [hn]; have := j.isLt; omega)]
    show q.sshiftRight (BitVec.ofNat 32 (4 * j.val)).toNat = _
    rw [hn]
  rw [e]
  exact sshr_and q j.val j.isLt

/-- Shift and mask, read at an index. -/
theorem shiftMask_apply {s : Shape} (a b : IVec s 32) (h : S_.BroadcastsInDim s ![]) (i : s.Idx) :
    andi (Host.shrsi a b) (broadcastInDim s ![] h (constantI S_ 32 15#32)) i = IntOp.andi (IntOp.shrsi .host (a i) (b i)) 15#32 := rfl

/-- The codes, one to an element. -/
def codesOf (Q : IVec S512x14336 32) : IVec S4096x14336 32 :=
  shapeCast S4096x14336 (andi (Host.shrsi (broadcastInDim S512x8x14336 ![0, 1, 2] bcast_S512x1x14336_S512x8x14336_0_1_2 (broadcastInDim S512x1x14336 ![0, 2] bcast_S512x14336_S512x1x14336_0_2 Q))
    (broadcastInDim S512x8x14336 ![0, 1, 2] bcast_S1x8x1_S512x8x14336_0_1_2 (broadcastInDim S1x8x1 ![1, 2] bcast_S8x1_S1x8x1_1_2 (broadcastInDim S8x1 ![0] bcast_S8_S8x1_0 shifts))))
    (broadcastInDim S512x8x14336 ![] bcast_S_S512x8x14336 (constantI S_ 32 15#32))) shapeCasts_S512x8x14336_S4096x14336

/-- A code of the reference is a field of its word. -/
theorem codesOf_apply (Q : IVec S512x14336 32) (κ : Fin 4096) (n : Fin 14336) :
    (codesOf Q (ix2 κ n)).toNat = nib (Q (ix2 ⟨κ / 8, by omega⟩ n)) (κ % 8) := by
  have hκ := κ.isLt
  unfold codesOf
  rw [shapeCast_apply _ _ (ix2 κ n) (ix3 (⟨κ.val / 8, by omega⟩ : Fin 512) (⟨κ.val % 8, by omega⟩ : Fin 8) n)
    (by rw [Shape.rowMajor_val_three, Shape.rowMajor_val_two]; show (κ.val / 8 * 8 + κ.val % 8) * 14336 + n.val = κ.val * 14336 + n.val; omega)]
  rw [shiftMask_apply, broadcastInDim_apply ![0, 1, 2] bcast_S512x1x14336_S512x8x14336_0_1_2 _ _ (ix3 (⟨κ.val / 8, by omega⟩ : Fin 512) (0 : Fin 1) n)
      (by intro a; match a with | ⟨0, _⟩ => rfl | ⟨1, _⟩ => rfl | ⟨2, _⟩ => rfl),
    broadcastInDim_apply ![0, 2] bcast_S512x14336_S512x1x14336_0_2 _ _ (ix2 (⟨κ.val / 8, by omega⟩ : Fin 512) n)
      (by intro a; match a with | ⟨0, _⟩ => rfl | ⟨1, _⟩ => rfl),
    broadcastInDim_apply ![0, 1, 2] bcast_S1x8x1_S512x8x14336_0_1_2 _ _ (ix3 (0 : Fin 1) (⟨κ.val % 8, by omega⟩ : Fin 8) (0 : Fin 1))
      (by intro a; match a with | ⟨0, _⟩ => rfl | ⟨1, _⟩ => rfl | ⟨2, _⟩ => rfl),
    broadcastInDim_apply ![1, 2] bcast_S8x1_S1x8x1_1_2 _ _ (ix2 (⟨κ.val % 8, by omega⟩ : Fin 8) (0 : Fin 1))
      (by intro a; match a with | ⟨0, _⟩ => rfl | ⟨1, _⟩ => rfl),
    broadcastInDim_apply ![0] bcast_S8_S8x1_0 _ _ (ix1 (⟨κ.val % 8, by omega⟩ : Fin 8))
      (by intro a; match a with | ⟨0, _⟩ => rfl),
    shifts_apply]
  exact field_toNat _ ⟨κ.val % 8, by omega⟩

/-- The zero points, one to an element. -/
def zerosOf (Z : IVec S32x1792 32) : IVec S32x14336 32 :=
  shapeCast S32x14336 (andi (Host.shrsi (broadcastInDim S32x1792x8 ![0, 1, 2] bcast_S32x1792x1_S32x1792x8_0_1_2 (broadcastInDim S32x1792x1 ![0, 1] bcast_S32x1792_S32x1792x1_0_1 Z))
    (broadcastInDim S32x1792x8 ![0, 1, 2] bcast_S1x1x8_S32x1792x8_0_1_2 (broadcastInDim S1x1x8 ![2] bcast_S8_S1x1x8_2 shifts)))
    (broadcastInDim S32x1792x8 ![] bcast_S_S32x1792x8 (constantI S_ 32 15#32))) shapeCasts_S32x1792x8_S32x14336

/-- A zero point of the reference is a field of its word. -/
theorem zerosOf_apply (Z : IVec S32x1792 32) (g : Fin 32) (n : Fin 14336) :
    (zerosOf Z (ix2 g n)).toNat = nib (Z (ix2 g ⟨n / 8, by omega⟩)) (n % 8) := by
  have hn := n.isLt
  unfold zerosOf
  rw [shapeCast_apply _ _ (ix2 g n) (ix3 g (⟨n.val / 8, by omega⟩ : Fin 1792) (⟨n.val % 8, by omega⟩ : Fin 8))
    (by rw [Shape.rowMajor_val_three, Shape.rowMajor_val_two]; show (g.val * 1792 + n.val / 8) * 8 + n.val % 8 = g.val * 14336 + n.val; omega)]
  rw [shiftMask_apply, broadcastInDim_apply ![0, 1, 2] bcast_S32x1792x1_S32x1792x8_0_1_2 _ _ (ix3 g (⟨n.val / 8, by omega⟩ : Fin 1792) (0 : Fin 1))
      (by intro a; match a with | ⟨0, _⟩ => rfl | ⟨1, _⟩ => rfl | ⟨2, _⟩ => rfl),
    broadcastInDim_apply ![0, 1] bcast_S32x1792_S32x1792x1_0_1 _ _ (ix2 g (⟨n.val / 8, by omega⟩ : Fin 1792))
      (by intro a; match a with | ⟨0, _⟩ => rfl | ⟨1, _⟩ => rfl),
    broadcastInDim_apply ![0, 1, 2] bcast_S1x1x8_S32x1792x8_0_1_2 _ _ (ix3 (0 : Fin 1) (0 : Fin 1) (⟨n.val % 8, by omega⟩ : Fin 8))
      (by intro a; match a with | ⟨0, _⟩ => rfl | ⟨1, _⟩ => rfl | ⟨2, _⟩ => rfl),
    broadcastInDim_apply ![2] bcast_S8_S1x1x8_2 _ _ (ix1 (⟨n.val % 8, by omega⟩ : Fin 8))
      (by intro a; match a with | ⟨0, _⟩ => rfl),
    shifts_apply]
  exact field_toNat _ ⟨n.val % 8, by omega⟩

/-! ## The gathers -/

/-- The row each position reads: its group, a negative one counted from the end. -/
def rowsOf (G : IVec S4096 32) : IVec S4096x1 32 :=
  broadcastInDim S4096x1 ![0] bcast_S4096_S4096x1_0 (select (cmpi .slt G (broadcastInDim S4096 ![] bcast_S_S4096 (constantI S_ 32 0#32)))
    (addi G (broadcastInDim S4096 ![] bcast_S_S4096 (constantI S_ 32 32#32))) G)

/-- A group in range is read as it is. -/
theorem rowsOf_apply (G : IVec S4096 32) (κ : Fin 4096) (hg : (G (ix1 κ)).toNat < 32) :
    rowsOf G (ix2 κ (0 : Fin 1)) = BitVec.ofNat 32 (group G κ).val := by
  unfold rowsOf
  rw [broadcastInDim_apply ![0] bcast_S4096_S4096x1_0 _ _ (ix1 κ) (by intro a; match a with | ⟨0, _⟩ => rfl)]
  show (if IntOp.cmpi .slt (G (ix1 κ)) 0#32 = 1#1 then _ else G (ix1 κ)) = _
  have h0 : IntOp.cmpi .slt (G (ix1 κ)) 0#32 = 0#1 := by
    have : ∀ g : Fin 32, IntOp.cmpi .slt (BitVec.ofNat 32 g.val) 0#32 = 0#1 := by decide
    have e := this ⟨_, hg⟩
    rwa [BitVec.ofNat_toNat, BitVec.setWidth_eq] at e
  rw [h0, if_neg (by decide)]
  apply BitVec.eq_of_toNat_eq
  rw [BitVec.toNat_ofNat]
  unfold group
  show _ = (G (ix1 κ)).toNat % 32 % 2 ^ 32
  omega

/-- A gathered row is the row of the position's group. -/
theorem gathered {α : Type} (x : S32x14336.Idx → α) (G : IVec S4096 32) (κ : Fin 4096) (n : Fin 14336) (hg : (G (ix1 κ)).toNat < 32) :
    Host.gather gather_S32x14336_S4096x1_S4096x14336_1_0_n_n_0_1_114336 x (rowsOf G) (ix2 κ n) = x (ix2 (group G κ) n) :=
  Routing.gather_row _ rfl rfl rfl rfl rfl x (rowsOf G) κ n (group G κ) (rowsOf_apply G κ hg) (by decide)

/-! ## The whole term -/

/-- A small word as a real number. -/
theorem real_of_small (w : BitVec 32) (k : ℕ) (hk : k < 16) (h : w.toNat = k) : ((w.toInt : ℝ) : EReal) = (((k : ℤ) : ℝ) : EReal) := by
  have : w.toInt = (k : ℤ) := by rw [BitVec.toInt_eq_toNat_cond, h]; split <;> omega
  rw [this]

/-- The dequantized weights. -/
def weightsOf (Q : IVec S512x14336 32) (S : FVec Ideal S32x14336 .bf16) (Z : IVec S32x1792 32) (G : IVec S4096 32) : FVec Ideal S4096x14336 .bf16 :=
  mulf (subf (sitofp .bf16 (codesOf Q)) (Host.gather gather_S32x14336_S4096x1_S4096x14336_1_0_n_n_0_1_114336 (sitofp .bf16 (zerosOf Z)) (rowsOf G)))
    (Host.gather gather_S32x14336_S4096x1_S4096x14336_1_0_n_n_0_1_114336 S (rowsOf G))

/-- A weight of the reference is the weight. -/
theorem weightsOf_apply (Q : IVec S512x14336 32) (S : FVec Ideal S32x14336 .bf16) (Z : IVec S32x1792 32) (G : IVec S4096 32)
    (κ : Fin 4096) (n : Fin 14336) (hg : (G (ix1 κ)).toNat < 32) : weightsOf Q S Z G (ix2 κ n) = weight Q S Z G κ n := by
  unfold weightsOf
  rw [mulf_apply, subf_apply, gathered _ G κ n hg, gathered _ G κ n hg]
  unfold weight
  congr 1
  show (((codesOf Q (ix2 κ n)).toInt : ℝ) : EReal) - (((zerosOf Z (ix2 (group G κ) n)).toInt : ℝ) : EReal) = _
  rw [real_of_small _ _ (nib_lt _ _) (codesOf_apply Q κ n), real_of_small _ _ (nib_lt _ _) (zerosOf_apply Z (group G κ) n)]
  unfold diffVal
  rw [← EReal.coe_sub]
  push_cast
  rfl

/-- The reference's result. -/
def resultOf (X : FVec Ideal S128x1x4096 .bf16) (Q : IVec S512x14336 32) (S : FVec Ideal S32x14336 .bf16) (Z : IVec S32x1792 32) (G : IVec S4096 32) :
    FVec Ideal S128x14336 .bf16 :=
  truncf .bf16 (Host.dotGeneral dot_S128x4096_S4096x14336_S128x14336_1_0_0_1_n_n none (shapeCast S128x4096 X shapeCasts_S128x1x4096_S128x4096) (weightsOf Q S Z G)) bitsLt_bf16_f32

/-- The reference's result is the product. -/
theorem resultOf_eq (X : FVec Ideal S128x1x4096 .bf16) (Q : IVec S512x14336 32) (S : FVec Ideal S32x14336 .bf16) (Z : IVec S32x1792 32) (G : IVec S4096 32)
    (hg : ∀ κ : Fin 4096, (G (ix1 κ)).toNat < 32) : resultOf X Q S Z G = productArray X Q S Z G := by
  funext y
  obtain ⟨i, n, rfl⟩ : ∃ (i : Fin 128) (n : Fin 14336), y = ix2 i n := ⟨y 0, y 1, eq_ix2 y⟩
  unfold resultOf
  rw [truncf_apply]
  refine (dotGeneral_plain_apply none (shapeCast S128x4096 X shapeCasts_S128x1x4096_S128x4096) (weightsOf Q S Z G) i n).trans ?_
  show _ = product X Q S Z G i n
  unfold product
  refine Finset.sum_congr rfl fun κ _ => ?_
  rw [weightsOf_apply Q S Z G κ n (hg κ)]
  congr 1
  exact shapeCast_apply _ _ _ _ (by rw [Shape.rowMajor_val_three, Shape.rowMajor_val_two]; simp)

end Cert.Proof.RI

end
-- ==== Proof.lean ====
/-
  THE PROOF OF THE CLAIMS. The kernel runs, leaves its arguments alone and every counter at zero (`K.frame` for the
  kernel as printed, `KI.frame` over the reals); the reference does too; and where every group index is in range both
  end with the product of the input and the dequantized weights (`KI.final`, `RI.resultOf_eq`).
-/
module

public import proofs.«01_k».proof.Defs
public import proofs.«01_k».proof.Proof.KernelLaunch
public import proofs.«01_k».proof.Proof.Launch
public import proofs.«01_k».proof.Proof.ResultValue
public import proofs.«01_k».proof.Proof.RefValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range

@[expose] public section

set_option maxRecDepth 16384

noncomputable section

namespace Cert.Proof

open Idealize.ShloMosaic Idealize.ShloMosaic.ValueIdx Idealize.SL.Sem

/-! ## The precondition -/

/-- A word found at least 0 and below 32, both compared signed, is below 32. -/
theorem word_lt (w : BitVec 32) (h : IntOp.andi (IntOp.cmpi .sge w 0#32) (IntOp.cmpi .slt w 32#32) = 1#1) : w.toNat < 32 := by
  have h1 : IntOp.cmpi .sge w 0#32 = 1#1 := by
    revert h
    generalize IntOp.cmpi .sge w 0#32 = a
    generalize IntOp.cmpi .slt w 32#32 = b
    revert a b
    decide
  have h2 : IntOp.cmpi .slt w 32#32 = 1#1 := by
    rw [h1] at h
    revert h
    generalize IntOp.cmpi .slt w 32#32 = b
    revert b
    decide
  have hlo : (0#32 : BitVec 32).toInt ≤ w.toInt := by
    by_contra hc
    have : IntOp.cmpi .sge w 0#32 = 0#1 := by
      unfold IntOp.cmpi
      simp only [BitVec.sle, decide_eq_false hc]
      rfl
    rw [this] at h1
    exact absurd h1 (by decide)
  have hhi : w.toInt < (32#32 : BitVec 32).toInt := by
    by_contra hc
    have : IntOp.cmpi .slt w 32#32 = 0#1 := by
      unfold IntOp.cmpi
      simp only [BitVec.slt, decide_eq_false hc]
      rfl
    rw [this] at h2
    exact absurd h2 (by decide)
  have e0 : (0#32 : BitVec 32).toInt = 0 := by decide
  have e32 : (32#32 : BitVec 32).toInt = 32 := by decide
  rw [e0] at hlo
  rw [e32] at hhi
  have := w.isLt
  rw [BitVec.toInt_eq_toNat_cond] at hlo hhi
  split at hlo <;> omega

/-- Where the precondition holds, every group index is below 32. -/
theorem groups_lt (m : (ℓ : Loc Cert.KernelIdeal.nD Cert.KernelIdeal.τ Cert.KernelIdeal.sig) → Buf (Elt Ideal) ℓ)
    (h : Cert.Pre_KernelIdeal_in_range m) (c : Dev Cert.KernelIdeal.nD) (κ : Fin 4096) :
    (m ((c.tc : Thread Cert.KernelIdeal.nD Cert.KernelIdeal.τ).loc Cert.KernelIdeal.main_arg4) (ix1 κ)).toNat < 32 :=
  word_lt _ (congrFun (h c) (ix1 κ))

/-! ## The frames -/

/-- The kernel as printed. -/
theorem kernel_frame : Cert.quiescent_Kernel := fun m g _ => K.frame m g

/-- The kernel over the reals. -/
theorem kernelIdeal_frame : Cert.quiescent_KernelIdeal := fun m g _ => KI.frame m g

/-- The kernel over the reals, where the group indices are in range. -/
theorem kernelIdeal_frame_in_range : Cert.quiescent_KernelIdeal_pre_in_range := fun m g _ => KI.frame m g

/-- The reference over the reals: it has no semaphore. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference over the reals, where the group indices are in range. -/
theorem reference_frame_in_range : Cert.quiescent_ReferenceIdeal_pre_in_range := fun m g _ => reference_frame m g trivial

/-! ## The values -/

/-- Over the reals the kernel and the reference end with the same result. -/
theorem algebraic : Cert.algebraic_KernelIdeal_ReferenceIdeal_pre_in_range := by
  intro m g m' g' hpre hargs
  have hg := groups_lt m hpre
  refine ⟨fun c => KI.prodOf m c, ?_, ?_⟩
  · exact (θ_run Cert.KernelIdeal.defs _ _).mono (fun r h c => ⟨((h.1 c).1 5).trans (KI.final m c (hg c)), h.2 c⟩)
      (θ_run_and (KI.run_main (F := Ideal) m g) (KI.unchanged (F := Ideal) m g))
  · refine (θ_run Cert.ReferenceIdeal.defs _ _).mono (fun r h c => ⟨(h c).1.trans ?_, (h c).2⟩)
      (Cert.ReferenceIdeal.Value.run (F := Ideal) m' g')
    obtain ⟨e0, e1, e2, e3, e4⟩ := hargs c
    rw [e0, e1, e2, e3, e4]
    exact RI.resultOf_eq _ _ _ _ _ (hg c)

/-- Everything claimed. -/
theorem claim : Cert.Claim :=
  ⟨Cert.Kernel.Gen.facts, Cert.KernelIdeal.Gen.facts, Cert.ReferenceIdeal.Gen.facts, Cert.Pre_in_range.Gen.facts,
    kernel_frame, kernelIdeal_frame, kernelIdeal_frame_in_range, reference_frame, reference_frame_in_range, trivial, algebraic⟩

end Cert.Proof

end
